-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular_chunks [hPre_regular_chunks : Cert.Pre_regular_chunks.Facts] (m : (ℓ : Loc Cert.KernelIdeal.nD Cert.KernelIdeal.τ Cert.KernelIdeal.sig) → Buf (Elt Ideal) ℓ) : Prop :=
  ∀ c : Dev Cert.KernelIdeal.nD,
    (Cert.Pre_regular_chunks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_regular_chunks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_regular_chunks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular_chunks [hPre_regular_chunks : Cert.Pre_regular_chunks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular_chunks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_regular_chunks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_regular_chunks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_regular_chunks [hKernelIdeal : Cert.KernelIdeal.Facts] [hPre_regular_chunks : Cert.Pre_regular_chunks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular_chunks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_regular_chunks [hReferenceIdeal : Cert.ReferenceIdeal.Facts] [hPre_regular_chunks : Cert.Pre_regular_chunks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular_chunks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_regular_chunks [hKernelIdeal : Cert.KernelIdeal.Facts] [hReferenceIdeal : Cert.ReferenceIdeal.Facts] [hPre_regular_chunks : Cert.Pre_regular_chunks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular_chunks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_regular_chunks : Cert.Pre_regular_chunks.Facts),
    quiescent_Kernel (hKernel := hKernel)
    ∧ quiescent_KernelIdeal (hKernelIdeal := hKernelIdeal)
    ∧ quiescent_KernelIdeal_pre_regular_chunks (hKernelIdeal := hKernelIdeal) (hPre_regular_chunks := hPre_regular_chunks)
    ∧ quiescent_ReferenceIdeal (hReferenceIdeal := hReferenceIdeal)
    ∧ quiescent_ReferenceIdeal_pre_regular_chunks (hReferenceIdeal := hReferenceIdeal) (hPre_regular_chunks := hPre_regular_chunks)
    ∧ preserves_Kernel_KernelIdeal
    ∧ algebraic_KernelIdeal_ReferenceIdeal_pre_regular_chunks (hKernelIdeal := hKernelIdeal) (hReferenceIdeal := hReferenceIdeal) (hPre_regular_chunks := hPre_regular_chunks)
-- ==== Pre_regular_chunks.lean ====
abbrev S8x512x2048 : Shape := ⟨3, ![8, 512, 2048]⟩
abbrev S8x2048x2048 : Shape := ⟨3, ![8, 2048, 2048]⟩
abbrev S8x2048 : Shape := ⟨2, ![8, 2048]⟩
abbrev S8 : Shape := ⟨1, ![8]⟩
abbrev S2048 : Shape := ⟨1, ![2048]⟩
abbrev S_ : Shape := ⟨0, ![]⟩
abbrev S1x2048 : Shape := ⟨2, ![1, 2048]⟩

class Facts : Prop where
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S8x2048_0_1 : S1x2048.BroadcastsInDim S8x2048 (![0, 1] : Fin 2 → Fin S8x2048.rank)
  bcast_S_S8 : S_.BroadcastsInDim S8 (![] : Fin 0 → Fin S8.rank)
  bcast_S_S8x2048 : S_.BroadcastsInDim S8x2048 (![] : Fin 0 → Fin S8x2048.rank)

variable [Facts]

def fn {F : FTy → Type} [FloatOps F] (main_arg0 : FVec F S8x512x2048 .f32) (main_arg1 : FVec F S8x2048x2048 .f32) (main_arg2 : IVec S8x2048 1) (main_arg3 : FVec F S8x2048 .f32) (main_arg4 : IVec S8 32) (main_arg5 : FVec F S8x2048 .f32) : IVec S8x2048 1 × IVec S8 1 × IVec S8x2048 1 :=
  let main_v0 : IVec S2048 32 := iotaInDim S2048 32 0
  let main_c : IVec S_ 32 := constantI S_ 32 3#32
  let main_v1 : IVec S2048 32 := broadcastInDim S2048 ![] bcast_S_S2048 main_c
  let main_v2 : IVec S2048 32 := andi main_v0 main_v1
  let main_c_0 : IVec S_ 32 := constantI S_ 32 0#32
  let main_v3 : IVec S2048 32 := broadcastInDim S2048 ![] bcast_S_S2048 main_c_0
  let main_v4 : IVec S2048 1 := cmpi .eq main_v2 main_v3
  let main_v5 : IVec S1x2048 1 := broadcastInDim S1x2048 ![1] bcast_S2048_S1x2048_1 main_v4
  let main_v6 : IVec S8x2048 1 := broadcastInDim S8x2048 ![0, 1] bcast_S1x2048_S8x2048_0_1 main_v5
  let main_v7 : IVec S8x2048 1 := cmpi .eq main_arg2 main_v6
  let main_c_1 : IVec S_ 32 := constantI S_ 32 512#32
  let main_v8 : IVec S8 32 := broadcastInDim S8 ![] bcast_S_S8 main_c_1
  let main_v9 : IVec S8 1 := cmpi .eq main_arg4 main_v8
  let main_cst : FVec F S_ .f32 := constant S_ .f32 0xFF800000#32
  let main_v10 : FVec F S8x2048 .f32 := broadcastInDim S8x2048 ![] bcast_S_S8x2048 main_cst
  let main_v11 : IVec S8x2048 1 := cmpf .ogt main_arg3 main_v10
  let main_cst_2 : FVec F S_ .f32 := constant S_ .f32 0x7F800000#32
  let main_v12 : FVec F S8x2048 .f32 := broadcastInDim S8x2048 ![] bcast_S_S8x2048 main_cst_2
  let main_v13 : IVec S8x2048 1 := cmpf .olt main_arg3 main_v12
  let main_v14 : IVec S8x2048 1 := andi main_v11 main_v13
  (main_v7, main_v9, main_v14)
-- ==== Kernel.lean ====
abbrev S8x512x2048 : Shape := ⟨3, ![8, 512, 2048]⟩
abbrev S8x2048x2048 : Shape := ⟨3, ![8, 2048, 2048]⟩
abbrev S8x2048 : Shape := ⟨2, ![8, 2048]⟩
abbrev S8 : Shape := ⟨1, ![8]⟩
abbrev S8x512x4 : Shape := ⟨3, ![8, 512, 4]⟩
abbrev S8x1x2048 : Shape := ⟨3, ![8, 1, 2048]⟩
abbrev S1x512x2048 : Shape := ⟨3, ![1, 512, 2048]⟩
abbrev S2x512x2048 : Shape := ⟨3, ![2, 512, 2048]⟩
abbrev S1x512x4 : Shape := ⟨3, ![1, 512, 4]⟩
abbrev S512x4 : Shape := ⟨2, ![512, 4]⟩
abbrev S1x1x2048 : Shape := ⟨3, ![1, 1, 2048]⟩
abbrev S1x2048 : Shape := ⟨2, ![1, 2048]⟩
abbrev S512x1 : Shape := ⟨2, ![512, 1]⟩
abbrev S1x512x512 : Shape := ⟨3, ![1, 512, 512]⟩
abbrev S512x512 : Shape := ⟨2, ![512, 512]⟩
abbrev S1x512 : Shape := ⟨2, ![1, 512]⟩
abbrev S1x1 : Shape := ⟨2, ![1, 1]⟩
abbrev S511x1 : Shape := ⟨2, ![511, 1]⟩
abbrev S511x512 : Shape := ⟨2, ![511, 512]⟩
abbrev S2x1 : Shape := ⟨2, ![2, 1]⟩
abbrev S510x1 : Shape := ⟨2, ![510, 1]⟩
abbrev S2x512 : Shape := ⟨2, ![2, 512]⟩
abbrev S510x512 : Shape := ⟨2, ![510, 512]⟩
abbrev S4x1 : Shape := ⟨2, ![4, 1]⟩
abbrev S508x1 : Shape := ⟨2, ![508, 1]⟩
abbrev S4x512 : Shape := ⟨2, ![4, 512]⟩
abbrev S508x512 : Shape := ⟨2, ![508, 512]⟩
abbrev S8x1 : Shape := ⟨2, ![8, 1]⟩
abbrev S504x1 : Shape := ⟨2, ![504, 1]⟩
abbrev S8x512 : Shape := ⟨2, ![8, 512]⟩
abbrev S504x512 : Shape := ⟨2, ![504, 512]⟩
abbrev S16x1 : Shape := ⟨2, ![16, 1]⟩
abbrev S496x1 : Shape := ⟨2, ![496, 1]⟩
abbrev S16x512 : Shape := ⟨2, ![16, 512]⟩
abbrev S496x512 : Shape := ⟨2, ![496, 512]⟩
abbrev S32x1 : Shape := ⟨2, ![32, 1]⟩
abbrev S480x1 : Shape := ⟨2, ![480, 1]⟩
abbrev S32x512 : Shape := ⟨2, ![32, 512]⟩
abbrev S480x512 : Shape := ⟨2, ![480, 512]⟩
abbrev S64x1 : Shape := ⟨2, ![64, 1]⟩
abbrev S448x1 : Shape := ⟨2, ![448, 1]⟩
abbrev S64x512 : Shape := ⟨2, ![64, 512]⟩
abbrev S448x512 : Shape := ⟨2, ![448, 512]⟩
abbrev S128x1 : Shape := ⟨2, ![128, 1]⟩
abbrev S384x1 : Shape := ⟨2, ![384, 1]⟩
abbrev S128x512 : Shape := ⟨2, ![128, 512]⟩
abbrev S384x512 : Shape := ⟨2, ![384, 512]⟩
abbrev S256x512 : Shape := ⟨2, ![256, 512]⟩
abbrev S1x1x512 : Shape := ⟨3, ![1, 1, 512]⟩
abbrev S1x128x2048 : Shape := ⟨3, ![1, 128, 2048]⟩
abbrev S128x2048 : Shape := ⟨2, ![128, 2048]⟩
abbrev S128x1x2048 : Shape := ⟨3, ![128, 1, 2048]⟩
abbrev S128x4x2048 : Shape := ⟨3, ![128, 4, 2048]⟩
abbrev S512x2048 : Shape := ⟨2, ![512, 2048]⟩

abbrev nBuf : Space → Nat
  | .hbm => 10
  | .vmem => 11
  | .smem => 0
  | _ => 0

abbrev bufTy : (tb : Table) → Fin (tcTables nBuf tb) → BufTy
  | .hbm, ⟨0, _⟩ => ⟨S8x512x2048, .f32⟩
  | .hbm, ⟨1, _⟩ => ⟨S8x2048x2048, .f32⟩
  | .hbm, ⟨2, _⟩ => ⟨S8x2048, .i1⟩
  | .hbm, ⟨3, _⟩ => ⟨S8x2048, .f32⟩
  | .hbm, ⟨4, _⟩ => ⟨S8, .i32⟩
  | .hbm, ⟨5, _⟩ => ⟨S8x2048, .f32⟩
  | .hbm, ⟨6, _⟩ => ⟨S8x512x4, .f32⟩
  | .hbm, ⟨7, _⟩ => ⟨S8x1x2048, .f32⟩
  | .hbm, ⟨8, _⟩ => ⟨S8x2048x2048, .f32⟩
  | .hbm, ⟨9, _⟩ => ⟨S8x1x2048, .f32⟩
  | .local _ .vmem, ⟨0, _⟩ => ⟨S8x512x4, .f32⟩
  | .local _ .vmem, ⟨1, _⟩ => ⟨S8x1x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x512x2048, .f32⟩
  | .local _ .vmem, ⟨6, _⟩ => ⟨S1x512x2048, .f32⟩
  | .local _ .vmem, ⟨7, _⟩ => ⟨S1x512x2048, .f32⟩
  | .local _ .vmem, ⟨8, _⟩ => ⟨S1x512x2048, .f32⟩
  | .local _ .vmem, ⟨9, _⟩ => ⟨S8x1x2048, .f32⟩
  | .local _ .vmem, ⟨10, _⟩ => ⟨S2x512x2048, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg0 : BitVec 32 := BitVec.ofNat 32 (i 0).val
  let c7_i32 : BitVec 32 := 7#32
  let v5 : BitVec 1 := Scalar.cmpi .slt arg0 c7_i32
  let v6 : BitVec 32 := Scalar.extui v5
  let c0_i32_2 : BitVec 32 := 0#32
  let v7 : BitVec 1 := Scalar.cmpi .ne v6 c0_i32_2
  v7

def k0_off1 (i : grid0.Coords) : Fin 3 → Nat :=
  let arg0 : BitVec 32 := BitVec.ofNat 32 (i 0).val
  let c1_i32_13 : BitVec 32 := 1#32
  let v32 : BitVec 32 := Scalar.addi arg0 c1_i32_13
  let v33 : Index := Scalar.indexCast v32
  let c0_14 : Index := 0#32
  let c0_15 : Index := 0#32
  ![v33.toNat, 0, 0]
def k0_off2 (i : grid0.Coords) : Fin 3 → Nat :=
  let arg0 : BitVec 32 := BitVec.ofNat 32 (i 0).val
  let c1_i32_13 : BitVec 32 := 1#32
  let v32 : BitVec 32 := Scalar.addi arg0 c1_i32_13
  let v36 : Index := Scalar.indexCast v32
  let c0_16 : Index := 0#32
  let c0_17 : Index := 0#32
  ![v36.toNat, 0, 0]
def k0_cond3 (i : grid0.Coords) : BitVec 1 :=
  let arg1 : BitVec 32 := BitVec.ofNat 32 (i 1).val
  let c0_i32_24 : BitVec 32 := 0#32
  let v49 : BitVec 1 := Scalar.cmpi .eq arg1 c0_i32_24
  let v50 : BitVec 32 := Scalar.extui v49
  let c0_i32_25 : BitVec 32 := 0#32
  let v51 : BitVec 1 := Scalar.cmpi .ne v50 c0_i32_25
  v51

def k0_off3 (i : grid0.Coords) : Fin 3 → Nat :=
  let arg0 : BitVec 32 := BitVec.ofNat 32 (i 0).val
  let c1_i32_13 : BitVec 32 := 1#32
  let v32 : BitVec 32 := Scalar.addi arg0 c1_i32_13
  let c2_i32_18 : BitVec 32 := 2#32
  let c0_i32_19 : BitVec 32 := 0#32
  let v39 : BitVec 1 := Scalar.cmpi .eq c2_i32_18 c0_i32_19
  let c1_i32_20 : BitVec 32 := 1#32
  let v40 : BitVec 32 := Scalar.select v39 c1_i32_20 c2_i32_18
  let v41 : BitVec 32 := Scalar.remsi v32 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let v170 : Index := Scalar.indexCast v48
  let c0_56 : Index := 0#32
  let c0_57 : Index := 0#32
  ![v170.toNat, 0, 0]
def k0_off4 (i : grid0.Coords) : Fin 3 → Nat :=
  let arg0 : BitVec 32 := BitVec.ofNat 32 (i 0).val
  let c1_i32_13 : BitVec 32 := 1#32
  let v32 : BitVec 32 := Scalar.addi arg0 c1_i32_13
  let v176 : Index := Scalar.indexCast v32
  let c0_58 : Index := 0#32
  let c0_59 : Index := 0#32
  ![v176.toNat, 0, 0]
def k0_cond4 (i : grid0.Coords) : BitVec 1 :=
  let arg1 : BitVec 32 := BitVec.ofNat 32 (i 1).val
  let c1_i32_26 : BitVec 32 := 1#32
  let v52 : BitVec 1 := Scalar.cmpi .eq arg1 c1_i32_26
  let v53 : BitVec 32 := Scalar.extui v52
  let c0_i32_27 : BitVec 32 := 0#32
  let v54 : BitVec 1 := Scalar.cmpi .ne v53 c0_i32_27
  v54

def k0_off5 (i : grid0.Coords) : Fin 3 → Nat :=
  let arg0 : BitVec 32 := BitVec.ofNat 32 (i 0).val
  let c1_i32_13 : BitVec 32 := 1#32
  let v32 : BitVec 32 := Scalar.addi arg0 c1_i32_13
  let c2_i32_18 : BitVec 32 := 2#32
  let c0_i32_19 : BitVec 32 := 0#32
  let v39 : BitVec 1 := Scalar.cmpi .eq c2_i32_18 c0_i32_19
  let c1_i32_20 : BitVec 32 := 1#32
  let v40 : BitVec 32 := Scalar.select v39 c1_i32_20 c2_i32_18
  let v41 : BitVec 32 := Scalar.remsi v32 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let v170 : Index := Scalar.indexCast v48
  let c0_55 : Index := 0#32
  let c512_56 : Index := 512#32
  ![v170.toNat, 0, 512]
def k0_off6 (i : grid0.Coords) : Fin 3 → Nat :=
  let arg0 : BitVec 32 := BitVec.ofNat 32 (i 0).val
  let c1_i32_13 : BitVec 32 := 1#32
  let v32 : BitVec 32 := Scalar.addi arg0 c1_i32_13
  let v176 : Index := Scalar.indexCast v32
  let c0_57 : Index := 0#32
  let c512_58 : Index := 512#32
  ![v176.toNat, 0, 512]
def k0_cond5 (i : grid0.Coords) : BitVec 1 :=
  let arg1 : BitVec 32 := BitVec.ofNat 32 (i 1).val
  let c2_i32_28 : BitVec 32 := 2#32
  let v55 : BitVec 1 := Scalar.cmpi .eq arg1 c2_i32_28
  let v56 : BitVec 32 := Scalar.extui v55
  let c0_i32_29 : BitVec 32 := 0#32
  let v57 : BitVec 1 := Scalar.cmpi .ne v56 c0_i32_29
  v57

def k0_off7 (i : grid0.Coords) : Fin 3 → Nat :=
  let arg0 : BitVec 32 := BitVec.ofNat 32 (i 0).val
  let c1_i32_13 : BitVec 32 := 1#32
  let v32 : BitVec 32 := Scalar.addi arg0 c1_i32_13
  let c2_i32_18 : BitVec 32 := 2#32
  let c0_i32_19 : BitVec 32 := 0#32
  let v39 : BitVec 1 := Scalar.cmpi .eq c2_i32_18 c0_i32_19
  let c1_i32_20 : BitVec 32 := 1#32
  let v40 : BitVec 32 := Scalar.select v39 c1_i32_20 c2_i32_18
  let v41 : BitVec 32 := Scalar.remsi v32 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let v170 : Index := Scalar.indexCast v48
  let c0_55 : Index := 0#32
  let c1024_56 : Index := 1024#32
  ![v170.toNat, 0, 1024]
def k0_off8 (i : grid0.Coords) : Fin 3 → Nat :=
  let arg0 : BitVec 32 := BitVec.ofNat 32 (i 0).val
  let c1_i32_13 : BitVec 32 := 1#32
  let v32 : BitVec 32 := Scalar.addi arg0 c1_i32_13
  let v176 : Index := Scalar.indexCast v32
  let c0_57 : Index := 0#32
  let c1024_58 : Index := 1024#32
  ![v176.toNat, 0, 1024]
def k0_cond6 (i : grid0.Coords) : BitVec 1 :=
  let arg1 : BitVec 32 := BitVec.ofNat 32 (i 1).val
  let c3_i32 : BitVec 32 := 3#32
  let v58 : BitVec 1 := Scalar.cmpi .eq arg1 c3_i32
  let v59 : BitVec 32 := Scalar.extui v58
  let c0_i32_30 : BitVec 32 := 0#32
  let v60 : BitVec 1 := Scalar.cmpi .ne v59 c0_i32_30
  v60

def k0_off9 (i : grid0.Coords) : Fin 3 → Nat :=
  let arg0 : BitVec 32 := BitVec.ofNat 32 (i 0).val
  let c1_i32_13 : BitVec 32 := 1#32
  let v32 : BitVec 32 := Scalar.addi arg0 c1_i32_13
  let c2_i32_18 : BitVec 32 := 2#32
  let c0_i32_19 : BitVec 32 := 0#32
  let v39 : BitVec 1 := Scalar.cmpi .eq c2_i32_18 c0_i32_19
  let c1_i32_20 : BitVec 32 := 1#32
  let v40 : BitVec 32 := Scalar.select v39 c1_i32_20 c2_i32_18
  let v41 : BitVec 32 := Scalar.remsi v32 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let v170 : Index := Scalar.indexCast v48
  let c0_55 : Index := 0#32
  let c1536_56 : Index := 1536#32
  ![v170.toNat, 0, 1536]
def k0_off10 (i : grid0.Coords) : Fin 3 → Nat :=
  let arg0 : BitVec 32 := BitVec.ofNat 32 (i 0).val
  let c1_i32_13 : BitVec 32 := 1#32
  let v32 : BitVec 32 := Scalar.addi arg0 c1_i32_13
  let v176 : Index := Scalar.indexCast v32
  let c0_57 : Index := 0#32
  let c1536_58 : Index := 1536#32
  ![v176.toNat, 0, 1536]
def k0_off11 (i : grid0.Coords) : Fin 3 → Nat :=
  let arg0 : BitVec 32 := BitVec.ofNat 32 (i 0).val
  let c2_i32 : BitVec 32 := 2#32
  let c0_i32_3 : BitVec 32 := 0#32
  let v8 : BitVec 1 := Scalar.cmpi .eq c2_i32 c0_i32_3
  let c1_i32 : BitVec 32 := 1#32
  let v9 : BitVec 32 := Scalar.select v8 c1_i32 c2_i32
  let v10 : BitVec 32 := Scalar.remsi arg0 v9
  let c0_i32_5 : BitVec 32 := 0#32
  let v12 : BitVec 1 := Scalar.cmpi .slt v10 c0_i32_5
  let c0_i32_6 : BitVec 32 := 0#32
  let v13 : BitVec 1 := Scalar.cmpi .slt v9 c0_i32_6
  let v14 : BitVec 1 := Scalar.xori v12 v13
  let c0_i32_4 : BitVec 32 := 0#32
  let v11 : BitVec 1 := Scalar.cmpi .ne v10 c0_i32_4
  let v15 : BitVec 1 := Scalar.andi v14 v11
  let v16 : BitVec 32 := Scalar.addi v10 v9
  let v17 : BitVec 32 := Scalar.select v15 v16 v10
  let v19 : Index := Scalar.indexCast v17
  let arg1 : BitVec 32 := BitVec.ofNat 32 (i 1).val
  let c128_i32 : BitVec 32 := 128#32
  let v18 : BitVec 32 := Scalar.muli arg1 c128_i32
  let v20 : Index := Scalar.indexCast v18
  let c0 : Index := 0#32
  ![v19.toNat, v20.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x512x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S8x512x2048 : Shape := ⟨3, ![8, 512, 2048]⟩
abbrev S8x2048x2048 : Shape := ⟨3, ![8, 2048, 2048]⟩
abbrev S8x2048 : Shape := ⟨2, ![8, 2048]⟩
abbrev S8 : Shape := ⟨1, ![8]⟩
abbrev S_ : Shape := ⟨0, ![]⟩
abbrev S8x1x2048 : Shape := ⟨3, ![8, 1, 2048]⟩
abbrev S512 : Shape := ⟨1, ![512]⟩
abbrev S1x512x1 : Shape := ⟨3, ![1, 512, 1]⟩
abbrev S8x512 : Shape := ⟨2, ![8, 512]⟩
abbrev S1x512 : Shape := ⟨2, ![1, 512]⟩
abbrev S8x1 : Shape := ⟨2, ![8, 1]⟩
abbrev S8x1x1 : Shape := ⟨3, ![8, 1, 1]⟩
abbrev S8x512x1 : Shape := ⟨3, ![8, 512, 1]⟩
abbrev S8x2048x1 : Shape := ⟨3, ![8, 2048, 1]⟩

abbrev nBuf : Space → Nat
  | .hbm => 168
  | .vmem => 0
  | .smem => 0
  | _ => 0

abbrev hbmTy0_0 (i : Nat) : BufTy := match i % 128 with
  | 0 => ⟨S8x512x2048, .f32⟩
  | 1 => ⟨S8x2048x2048, .f32⟩
  | 2 => ⟨S8x2048, .i1⟩
  | 3 => ⟨S8x2048, .f32⟩
  | 4 => ⟨S8, .i32⟩
  | 5 => ⟨S8x2048, .f32⟩
  | 6 => ⟨S8x2048, .i32⟩
  | 7 => ⟨S_, .i32⟩
  | 8 => ⟨S_, .i32⟩
  | 9 => ⟨S8x2048, .i32⟩
  | 10 => ⟨S_, .i32⟩
  | 11 => ⟨S8x2048, .i32⟩
  | 12 => ⟨S8x2048, .i32⟩
  | 13 => ⟨S8x1x2048, .i1⟩
  | 14 => ⟨S8x1x2048, .i32⟩
  | 15 => ⟨S512, .i32⟩
  | 16 => ⟨S1x512x1, .i32⟩
  | 17 => ⟨S8x512x2048, .i32⟩
  | 18 => ⟨S8x512x2048, .i32⟩
  | 19 => ⟨S8x512x2048, .i1⟩
  | 20 => ⟨S8x512x2048, .i1⟩
  | 21 => ⟨S8x512x2048, .i1⟩
  | 22 => ⟨S8x1x2048, .f32⟩
  | 23 => ⟨S_, .f32⟩
  | 24 => ⟨S_, .f32⟩
  | 25 => ⟨S8x512x2048, .f32⟩
  | 26 => ⟨S8x512x2048, .f32⟩
  | 27 => ⟨S8x512x2048, .f32⟩
  | 28 => ⟨S_, .f32⟩
  | 29 => ⟨S8x512, .f32⟩
  | 30 => ⟨S512, .i32⟩
  | 31 => ⟨S1x512, .i32⟩
  | 32 => ⟨S8x1, .i32⟩
  | 33 => ⟨S8x512, .i32⟩
  | 34 => ⟨S8x512, .i32⟩
  | 35 => ⟨S8x512, .i1⟩
  | 36 => ⟨S8x512, .f32⟩
  | 37 => ⟨S8x512, .f32⟩
  | 38 => ⟨S_, .f32⟩
  | 39 => ⟨S8x512, .f32⟩
  | 40 => ⟨S8x512, .f32⟩
  | 41 => ⟨S_, .f32⟩
  | 42 => ⟨S_, .f32⟩
  | 43 => ⟨S_, .f32⟩
  | 44 => ⟨S8x512, .f32⟩
  | 45 => ⟨S8x512, .f32⟩
  | 46 => ⟨S_, .f32⟩
  | 47 => ⟨S8x512, .f32⟩
  | 48 => ⟨S8x512, .f32⟩
  | 49 => ⟨S8x1x2048, .f32⟩
  | 50 => ⟨S_, .f32⟩
  | 51 => ⟨S8x512x2048, .f32⟩
  | 52 => ⟨S_, .i32⟩
  | 53 => ⟨S_, .i32⟩
  | 54 => ⟨S8x512, .f32⟩
  | 55 => ⟨S8x512x2048, .f32⟩
  | 56 => ⟨S_, .i32⟩
  | 57 => ⟨S_, .i32⟩
  | 58 => ⟨S8x1x2048, .f32⟩
  | 59 => ⟨S8x512x2048, .f32⟩
  | 60 => ⟨S_, .i32⟩
  | 61 => ⟨S_, .i1⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S8x1, .f32⟩
  | 72 => ⟨S8x1x1, .f32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S8x1x2048, .f32⟩
  | 82 => ⟨S8x1x2048, .f32⟩
  | 83 => ⟨S8x1x2048, .f32⟩
  | 84 => ⟨S_, .f32⟩
  | 85 => ⟨S8x1x1, .f32⟩
  | 86 => ⟨S8x1x1, .f32⟩
  | 87 => ⟨S8x1x2048, .f32⟩
  | 88 => ⟨S8x1x2048, .f32⟩
  | 89 => ⟨S8x1x2048, .f32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S8x512x2048, .f32⟩
  | 99 => ⟨S_, .i32⟩
  | 100 => ⟨S_, .i32⟩
  | 101 => ⟨S512, .i32⟩
  | 102 => ⟨S1x512, .i32⟩
  | 103 => ⟨S8x1, .i32⟩
  | 104 => ⟨S8x512, .i32⟩
  | 105 => ⟨S8x512, .i32⟩
  | 106 => ⟨S8x512, .i1⟩
  | 107 => ⟨S8x512x1, .i1⟩
  | 108 => ⟨S8x512x1, .f32⟩
  | 109 => ⟨S8x512x2048, .f32⟩
  | 110 => ⟨S8x512x2048, .f32⟩
  | 111 => ⟨S8x2048, .i32⟩
  | 112 => ⟨S_, .i32⟩
  | 113 => ⟨S_, .i32⟩
  | 114 => ⟨S8x2048, .i32⟩
  | 115 => ⟨S_, .i32⟩
  | 116 => ⟨S8x2048, .i32⟩
  | 117 => ⟨S8x2048, .i32⟩
  | 118 => ⟨S_, .i32⟩
  | 119 => ⟨S_, .i32⟩
  | 120 => ⟨S_, .i32⟩
  | 121 => ⟨S8x2048, .i32⟩
  | 122 => ⟨S8x2048, .i32⟩
  | 123 => ⟨S_, .i32⟩
  | 124 => ⟨S8x2048, .i32⟩
  | 125 => ⟨S8x2048, .i32⟩
  | 126 => ⟨S_, .i32⟩
  | 127 => ⟨S8x2048, .i32⟩
  | _ => ⟨S8x512x2048, .f32⟩

abbrev hbmTy0_1 (i : Nat) : BufTy := match i % 128 with
  | 0 => ⟨S8x2048, .i1⟩
  | 1 => ⟨S8x2048x1, .i32⟩
  | 2 => ⟨S8x2048x2048, .f32⟩
  | 3 => ⟨S8x2048x1, .i1⟩
  | 4 => ⟨S8x2048x1, .f32⟩
  | 5 => ⟨S8x2048x2048, .f32⟩
  | 6 => ⟨S8x2048x2048, .f32⟩
  | 7 => ⟨S_, .f32⟩
  | 8 => ⟨S8x2048, .f32⟩
  | 9 => ⟨S8x2048, .f32⟩
  | 10 => ⟨S8x2048, .f32⟩
  | 11 => ⟨S8x2048, .f32⟩
  | 12 => ⟨S_, .f32⟩
  | 13 => ⟨S8x2048, .f32⟩
  | 14 => ⟨S8x2048, .f32⟩
  | 15 => ⟨S8x2048x1, .f32⟩
  | 16 => ⟨S8x2048x2048, .f32⟩
  | 17 => ⟨S8x2048x2048, .f32⟩
  | 18 => ⟨S8x2048x2048, .f32⟩
  | 19 => ⟨S_, .i32⟩
  | 20 => ⟨S8, .i32⟩
  | 21 => ⟨S8, .i32⟩
  | 22 => ⟨S_, .i32⟩
  | 23 => ⟨S_, .i32⟩
  | 24 => ⟨S_, .i32⟩
  | 25 => ⟨S8, .i32⟩
  | 26 => ⟨S8, .i32⟩
  | 27 => ⟨S_, .i32⟩
  | 28 => ⟨S8, .i32⟩
  | 29 => ⟨S8, .i32⟩
  | 30 => ⟨S8x1x1, .i32⟩
  | 31 => ⟨S8x1x2048, .f32⟩
  | 32 => ⟨S8x2048, .f32⟩
  | 33 => ⟨S_, .i32⟩
  | 34 => ⟨S8, .i32⟩
  | 35 => ⟨S8, .i1⟩
  | 36 => ⟨S8x1, .i1⟩
  | 37 => ⟨S8x2048, .i1⟩
  | 38 => ⟨S8x2048, .f32⟩
  | 39 => ⟨S8x1x2048, .f32⟩
  | _ => ⟨S8x512x2048, .f32⟩

abbrev hbmTy (i : Nat) : BufTy := match i / 128 with
  | 0 => hbmTy0_0 i
  | 1 => hbmTy0_1 i
  | _ => ⟨S8x512x2048, .f32⟩

abbrev bufTy : (tb : Table) → Fin (tcTables nBuf tb) → BufTy
  | .hbm, ⟨i, _⟩ => hbmTy i
  | _, _ => ⟨S8x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_call0_c : Ref sig .tc := ⟨.hbm, 7, rfl⟩
abbrev main_call0_call0_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_cst_3 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_c_5 : Ref sig .tc := ⟨.hbm, 52, rfl⟩
abbrev main_c_6 : Ref sig .tc := ⟨.hbm, 53, rfl⟩
abbrev main_v29_0 : Ref sig .tc := ⟨.hbm, 54, rfl⟩
abbrev main_v29_1 : Ref sig .tc := ⟨.hbm, 55, rfl⟩
abbrev main_v29_2 : Ref sig .tc := ⟨.hbm, 56, rfl⟩
abbrev main_v29_3 : Ref sig .tc := ⟨.hbm, 57, rfl⟩
abbrev main_v29_4 : Ref sig .tc := ⟨.hbm, 58, rfl⟩
abbrev main_v29_5 : Ref sig .tc := ⟨.hbm, 59, rfl⟩
abbrev main_while0c_c_22 : Ref sig .tc := ⟨.hbm, 60, rfl⟩
abbrev main_while0c_v74 : Ref sig .tc := ⟨.hbm, 61, rfl⟩
abbrev main_while0b_c_22 : Ref sig .tc := ⟨.hbm, 62, rfl⟩
abbrev main_while0b_v74 : Ref sig .tc := ⟨.hbm, 63, rfl⟩
abbrev main_while0b_c_23 : Ref sig .tc := ⟨.hbm, 64, rfl⟩
abbrev main_while0b_v75 : Ref sig .tc := ⟨.hbm, 65, rfl⟩
abbrev main_while0b_v76 : Ref sig .tc := ⟨.hbm, 66, rfl⟩
abbrev main_while0b_c_24 : Ref sig .tc := ⟨.hbm, 67, rfl⟩
abbrev main_while0b_v77 : Ref sig .tc := ⟨.hbm, 68, rfl⟩
abbrev main_while0b_v78 : Ref sig .tc := ⟨.hbm, 69, rfl⟩
abbrev main_while0b_c_25 : Ref sig .tc := ⟨.hbm, 70, rfl⟩
abbrev main_while0b_v79 : Ref sig .tc := ⟨.hbm, 71, rfl⟩
abbrev main_while0b_v80 : Ref sig .tc := ⟨.hbm, 72, rfl⟩
abbrev main_while0b_c_26 : Ref sig .tc := ⟨.hbm, 73, rfl⟩
abbrev main_while0b_v81 : Ref sig .tc := ⟨.hbm, 74, rfl⟩
abbrev main_while0b_v82 : Ref sig .tc := ⟨.hbm, 75, rfl⟩
abbrev main_while0b_c_27 : Ref sig .tc := ⟨.hbm, 76, rfl⟩
abbrev main_while0b_v83 : Ref sig .tc := ⟨.hbm, 77, rfl⟩
abbrev main_while0b_v84 : Ref sig .tc := ⟨.hbm, 78, rfl⟩
abbrev main_while0b_c_28 : Ref sig .tc := ⟨.hbm, 79, rfl⟩
abbrev main_while0b_c_29 : Ref sig .tc := ⟨.hbm, 80, rfl⟩
abbrev main_while0b_v85 : Ref sig .tc := ⟨.hbm, 81, rfl⟩
abbrev main_while0b_v86 : Ref sig .tc := ⟨.hbm, 82, rfl⟩
abbrev main_while0b_v87 : Ref sig .tc := ⟨.hbm, 83, rfl⟩
abbrev main_while0b_cst_30 : Ref sig .tc := ⟨.hbm, 84, rfl⟩
abbrev main_while0b_v88 : Ref sig .tc := ⟨.hbm, 85, rfl⟩
abbrev main_while0b_v89 : Ref sig .tc := ⟨.hbm, 86, rfl⟩
abbrev main_while0b_v90 : Ref sig .tc := ⟨.hbm, 87, rfl⟩
abbrev main_while0b_v91 : Ref sig .tc := ⟨.hbm, 88, rfl⟩
abbrev main_while0b_v92 : Ref sig .tc := ⟨.hbm, 89, rfl⟩
abbrev main_while0b_c_31 : Ref sig .tc := ⟨.hbm, 90, rfl⟩
abbrev main_while0b_v93 : Ref sig .tc := ⟨.hbm, 91, rfl⟩
abbrev main_while0b_v94 : Ref sig .tc := ⟨.hbm, 92, rfl⟩
abbrev main_while0b_c_32 : Ref sig .tc := ⟨.hbm, 93, rfl⟩
abbrev main_while0b_v95 : Ref sig .tc := ⟨.hbm, 94, rfl⟩
abbrev main_while0b_v96 : Ref sig .tc := ⟨.hbm, 95, rfl⟩
abbrev main_while0b_c_33 : Ref sig .tc := ⟨.hbm, 96, rfl⟩
abbrev main_while0b_c_34 : Ref sig .tc := ⟨.hbm, 97, rfl⟩
abbrev main_while0b_v97 : Ref sig .tc := ⟨.hbm, 98, rfl⟩
abbrev main_while0b_c_35 : Ref sig .tc := ⟨.hbm, 99, rfl⟩
abbrev main_while0b_v98 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_call3_call0_c : Ref sig .tc := ⟨.hbm, 112, rfl⟩
abbrev main_call3_call0_v0 : Ref sig .tc := ⟨.hbm, 113, rfl⟩
abbrev main_v41 : Ref sig .tc := ⟨.hbm, 114, rfl⟩
abbrev main_c_7 : Ref sig .tc := ⟨.hbm, 115, rfl⟩
abbrev main_v42 : Ref sig .tc := ⟨.hbm, 116, rfl⟩
abbrev main_v43 : Ref sig .tc := ⟨.hbm, 117, rfl⟩
abbrev main_c_8 : Ref sig .tc := ⟨.hbm, 118, rfl⟩
abbrev main_c_9 : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_v44 : Ref sig .tc := ⟨.hbm, 125, rfl⟩
abbrev main_c_10 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_cst_11 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_cst_12 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_c_13 : Ref sig .tc := ⟨.hbm, 147, rfl⟩
abbrev main_v63 : Ref sig .tc := ⟨.hbm, 148, rfl⟩
abbrev main_v64 : Ref sig .tc := ⟨.hbm, 149, rfl⟩
abbrev main_c_14 : Ref sig .tc := ⟨.hbm, 150, rfl⟩
abbrev main_c_15 : Ref sig .tc := ⟨.hbm, 151, rfl⟩
abbrev main_call6_v0 : Ref sig .tc := ⟨.hbm, 152, rfl⟩
abbrev main_call6_v1 : Ref sig .tc := ⟨.hbm, 153, rfl⟩
abbrev main_call6_v2 : Ref sig .tc := ⟨.hbm, 154, rfl⟩
abbrev main_call6_v3 : Ref sig .tc := ⟨.hbm, 155, rfl⟩
abbrev main_call6_v4 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_c_16 : Ref sig .tc := ⟨.hbm, 161, rfl⟩
abbrev main_v69 : Ref sig .tc := ⟨.hbm, 162, rfl⟩
abbrev main_v70 : Ref sig .tc := ⟨.hbm, 163, rfl⟩
abbrev main_v71 : Ref sig .tc := ⟨.hbm, 164, rfl⟩
abbrev main_call8_v0 : Ref sig .tc := ⟨.hbm, 165, rfl⟩
abbrev main_v72 : Ref sig .tc := ⟨.hbm, 166, rfl⟩
abbrev main_v73 : Ref sig .tc := ⟨.hbm, 167, rfl⟩

abbrev nD : Nat := 1
abbrev τ : Topo := Topo.v7x

variable {F : FTy → Type} [FloatOps F]

abbrev main_while0_count : Scf.Loop 32 := ⟨0#32, 512#32, 1#32⟩
-- ==== Proof.RefProgram.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-!
The reference program as a run.  Its `main` is seven stretches of host operations, one counted loop of 512 trips and
thirteen stretches after it.  The lists `hostOps…` name the stretches' operations.  The theorems `…_sub`, `…_fresh` and
`…_writes` say of each stretch which buffers it may touch, that it allocates none, and which it writes.  The last part
shows that every execution ends with each buffer at the contents that folding the stretches over the launch's contents
gives.

The text of these lists and facts is taken over from `Gen/ReferenceIdeal/Run.lean`, which cannot be imported: it reads the
running sum after the loop without keeping the windowed sum folded, and that read does not end.  `RefRun` keeps it folded.
-/

@[expose] public section

-- the long lists of operations recurse past the default depth
set_option maxRecDepth 1184

noncomputable section

namespace Cert.Proof.RefProgram

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches of `main`, and `main` as a chain of them -/

/-- 1 host operation of @main, in order. -/
abbrev hostOps0 : List (HloOp τ sig (Elt F)) :=
  [ StableHlo.unary main_arg2 main_v0 ((extui 32 · natLt_1_32) : (⟨S8x2048, .i1⟩ : BufTy).Contents (Elt F) → (⟨S8x2048, .i32⟩ : BufTy).Contents (Elt F)) ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  StableHlo.unary_bufs_sub ..
/-- 3 host operations of @cumsum (main_call0), in order. -/
abbrev hostOps0_1 : List (HloOp τ sig (Elt F)) :=
  [ StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_v0 : StableHlo.TRef sig ⟨S8x2048, .i32⟩) (.of main_call0_call0_v0 : StableHlo.TRef sig ⟨S_, .i32⟩) (.of main_v1 : StableHlo.TRef sig ⟨S8x2048, .i32⟩) (fun x v => Host.reduceWindow IntOp.addi ![1, 2048] ![1, 1] ![0, 2047] ![0, 0] x v reduceWindows_S8x2048_S8x2048_w1s1p0_0_w2048s1p2047_0 h_S_) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.nullary_bufs_sub .., StableHlo.unary_bufs_sub .., StableHlo.binary_bufs_sub ..⟩
/-- 14 host operations of @main, in order. -/
abbrev hostOps0_2 : List (HloOp τ sig (Elt F)) :=
  [ StableHlo.nullary main_c (constantI S_ 32 1#32),
    StableHlo.unary main_c main_v2 (broadcastInDim S8x2048 ![] bcast_S_S8x2048 : (⟨S_, .i32⟩ : BufTy).Contents (Elt F) → (⟨S8x2048, .i32⟩ : BufTy).Contents (Elt F)),
    StableHlo.binary main_v1 main_v2 main_v3 (subi : (⟨S8x2048, .i32⟩ : BufTy).Contents (Elt F) → (⟨S8x2048, .i32⟩ : BufTy).Contents (Elt F) → (⟨S8x2048, .i32⟩ : BufTy).Contents (Elt F)),
    StableHlo.unary main_arg2 main_v4 (broadcastInDim S8x1x2048 ![0, 2] bcast_S8x2048_S8x1x2048_0_2 : (⟨S8x2048, .i1⟩ : BufTy).Contents (Elt F) → (⟨S8x1x2048, .i1⟩ : BufTy).Contents (Elt F)),
    StableHlo.unary main_v3 main_v5 (broadcastInDim S8x1x2048 ![0, 2] bcast_S8x2048_S8x1x2048_0_2 : (⟨S8x2048, .i32⟩ : BufTy).Contents (Elt F) → (⟨S8x1x2048, .i32⟩ : BufTy).Contents (Elt F)),
    StableHlo.nullary main_v6 (iotaInDim S512 32 0),
    StableHlo.unary main_v6 main_v7 (broadcastInDim S1x512x1 ![1] bcast_S512_S1x512x1_1 : (⟨S512, .i32⟩ : BufTy).Contents (Elt F) → (⟨S1x512x1, .i32⟩ : BufTy).Contents (Elt F)),
    StableHlo.unary main_v5 main_v8 (broadcastInDim S8x512x2048 ![0, 1, 2] bcast_S8x1x2048_S8x512x2048_0_1_2 : (⟨S8x1x2048, .i32⟩ : BufTy).Contents (Elt F) → (⟨S8x512x2048, .i32⟩ : BufTy).Contents (Elt F)),
    StableHlo.unary main_v7 main_v9 (broadcastInDim S8x512x2048 ![0, 1, 2] bcast_S1x512x1_S8x512x2048_0_1_2 : (⟨S1x512x1, .i32⟩ : BufTy).Contents (Elt F) → (⟨S8x512x2048, .i32⟩ : BufTy).Contents (Elt F)),
    StableHlo.binary main_v8 main_v9 main_v10 (cmpi .eq : (⟨S8x512x2048, .i32⟩ : BufTy).Contents (Elt F) → (⟨S8x512x2048, .i32⟩ : BufTy).Contents (Elt F) → (⟨S8x512x2048, .i1⟩ : BufTy).Contents (Elt F)),
    StableHlo.unary main_v4 main_v11 (broadcastInDim S8x512x2048 ![0, 1, 2] bcast_S8x1x2048_S8x512x2048_0_1_2 : (⟨S8x1x2048, .i1⟩ : BufTy).Contents (Elt F) → (⟨S8x512x2048, .i1⟩ : BufTy).Contents (Elt F)),
    StableHlo.binary main_v11 main_v10 main_v12 (andi : (⟨S8x512x2048, .i1⟩ : BufTy).Contents (Elt F) → (⟨S8x512x2048, .i1⟩ : BufTy).Contents (Elt F) → (⟨S8x512x2048, .i1⟩ : BufTy).Contents (Elt F)),
    StableHlo.unary main_arg3 main_v13 (broadcastInDim S8x1x2048 ![0, 2] bcast_S8x2048_S8x1x2048_0_2 : (⟨S8x2048, .f32⟩ : BufTy).Contents (Elt F) → (⟨S8x1x2048, .f32⟩ : BufTy).Contents (Elt F)),
    StableHlo.nullary main_cst (constant S_ .f32 0x00000000#32) ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.nullary_bufs_sub ..⟩
/-- 4 host operations of @_where (main_call1), in order. -/
abbrev hostOps0_3 : List (HloOp τ sig (Elt F)) :=
  [ StableHlo.TRef.unary (.of main_cst : StableHlo.TRef sig ⟨S_, .f32⟩) (.of main_call1_v0 : StableHlo.TRef sig ⟨S_, .f32⟩) id,
    StableHlo.TRef.unary (.of main_v13 : StableHlo.TRef sig ⟨S8x1x2048, .f32⟩) (.of main_call1_v1 : StableHlo.TRef sig ⟨S8x512x2048, .f32⟩) (broadcastInDim S8x512x2048 ![0, 1, 2] bcast_S8x1x2048_S8x512x2048_0_1_2),
    StableHlo.TRef.unary (.of main_call1_v0 : StableHlo.TRef sig ⟨S_, .f32⟩) (.of main_call1_v2 : StableHlo.TRef sig ⟨S8x512x2048, .f32⟩) (broadcastInDim S8x512x2048 ![] bcast_S_S8x512x2048),
    StableHlo.TRef.ternary (.of main_v12 : StableHlo.TRef sig ⟨S8x512x2048, .i1⟩) (.of main_call1_v1 : StableHlo.TRef sig ⟨S8x512x2048, .f32⟩) (.of main_call1_v2 : StableHlo.TRef sig ⟨S8x512x2048, .f32⟩) (.of main_v14 : StableHlo.TRef sig ⟨S8x512x2048, .f32⟩) select ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 15 host operations of @main, in order. -/
abbrev hostOps0_4 : List (HloOp τ sig (Elt F)) :=
  [ StableHlo.nullary main_cst_0 (constant S_ .f32 0x00000000#32),
    StableHlo.binary main_v14 main_cst_0 main_v15 ((fun x v => Host.reduceAdd x v reducesTo_S8x512x2048_S8x512_d2 h_S_) : (⟨S8x512x2048, .f32⟩ : BufTy).Contents (Elt F) → (⟨S_, .f32⟩ : BufTy).Contents (Elt F) → (⟨S8x512, .f32⟩ : BufTy).Contents (Elt F)),
    StableHlo.nullary main_v16 (iotaInDim S512 32 0),
    StableHlo.unary main_v16 main_v17 (broadcastInDim S1x512 ![1] bcast_S512_S1x512_1 : (⟨S512, .i32⟩ : BufTy).Contents (Elt F) → (⟨S1x512, .i32⟩ : BufTy).Contents (Elt F)),
    StableHlo.unary main_arg4 main_v18 (broadcastInDim S8x1 ![0] bcast_S8_S8x1_0 : (⟨S8, .i32⟩ : BufTy).Contents (Elt F) → (⟨S8x1, .i32⟩ : BufTy).Contents (Elt F)),
    StableHlo.unary main_v17 main_v19 (broadcastInDim S8x512 ![0, 1] bcast_S1x512_S8x512_0_1 : (⟨S1x512, .i32⟩ : BufTy).Contents (Elt F) → (⟨S8x512, .i32⟩ : BufTy).Contents (Elt F)),
    StableHlo.unary main_v18 main_v20 (broadcastInDim S8x512 ![0, 1] bcast_S8x1_S8x512_0_1 : (⟨S8x1, .i32⟩ : BufTy).Contents (Elt F) → (⟨S8x512, .i32⟩ : BufTy).Contents (Elt F)),
    StableHlo.binary main_v19 main_v20 main_v21 (cmpi .slt : (⟨S8x512, .i32⟩ : BufTy).Contents (Elt F) → (⟨S8x512, .i32⟩ : BufTy).Contents (Elt F) → (⟨S8x512, .i1⟩ : BufTy).Contents (Elt F)),
    StableHlo.unary main_v21 main_v22 (uitofp .f32 : (⟨S8x512, .i1⟩ : BufTy).Contents (Elt F) → (⟨S8x512, .f32⟩ : BufTy).Contents (Elt F)),
    StableHlo.binary main_v15 main_v22 main_v23 (mulf : (⟨S8x512, .f32⟩ : BufTy).Contents (Elt F) → (⟨S8x512, .f32⟩ : BufTy).Contents (Elt F) → (⟨S8x512, .f32⟩ : BufTy).Contents (Elt F)),
    StableHlo.nullary main_cst_1 (constant S_ .f32 0x3F800000#32),
    StableHlo.unary main_cst_1 main_v24 (broadcastInDim S8x512 ![] bcast_S_S8x512 : (⟨S_, .f32⟩ : BufTy).Contents (Elt F) → (⟨S8x512, .f32⟩ : BufTy).Contents (Elt F)),
    StableHlo.binary main_v24 main_v23 main_v25 (subf : (⟨S8x512, .f32⟩ : BufTy).Contents (Elt F) → (⟨S8x512, .f32⟩ : BufTy).Contents (Elt F) → (⟨S8x512, .f32⟩ : BufTy).Contents (Elt F)),
    StableHlo.nullary main_cst_2 (constant S_ .f32 0x00000000#32),
    StableHlo.nullary main_cst_3 (constant S_ .f32 0x3F800000#32) ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub ..⟩
/-- 6 host operations of @clip (main_call2), in order. -/
abbrev hostOps0_5 : List (HloOp τ sig (Elt F)) :=
  [ StableHlo.TRef.unary (.of main_cst_2 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S8x512, .f32⟩) (broadcastInDim S8x512 ![] bcast_S_S8x512),
    StableHlo.TRef.binary (.of main_call2_v1 : StableHlo.TRef sig ⟨S8x512, .f32⟩) (.of main_v25 : StableHlo.TRef sig ⟨S8x512, .f32⟩) (.of main_call2_v2 : StableHlo.TRef sig ⟨S8x512, .f32⟩) maximumf,
    StableHlo.TRef.unary (.of main_cst_3 : StableHlo.TRef sig ⟨S_, .f32⟩) (.of main_call2_v3 : StableHlo.TRef sig ⟨S_, .f32⟩) id,
    StableHlo.TRef.unary (.of main_call2_v3 : StableHlo.TRef sig ⟨S_, .f32⟩) (.of main_call2_v4 : StableHlo.TRef sig ⟨S8x512, .f32⟩) (broadcastInDim S8x512 ![] bcast_S_S8x512),
    StableHlo.TRef.binary (.of main_call2_v4 : StableHlo.TRef sig ⟨S8x512, .f32⟩) (.of main_call2_v2 : StableHlo.TRef sig ⟨S8x512, .f32⟩) (.of main_v26 : StableHlo.TRef sig ⟨S8x512, .f32⟩) minimumf ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 11 host operations of @main, in order. -/
abbrev hostOps0_6 : List (HloOp τ sig (Elt F)) :=
  [ StableHlo.unary main_arg5 main_v27 (broadcastInDim S8x1x2048 ![0, 2] bcast_S8x2048_S8x1x2048_0_2 : (⟨S8x2048, .f32⟩ : BufTy).Contents (Elt F) → (⟨S8x1x2048, .f32⟩ : BufTy).Contents (Elt F)),
    StableHlo.nullary main_cst_4 (constant S_ .f32 0x00000000#32),
    StableHlo.unary main_cst_4 main_v28 (broadcastInDim S8x512x2048 ![] bcast_S_S8x512x2048 : (⟨S_, .f32⟩ : BufTy).Contents (Elt F) → (⟨S8x512x2048, .f32⟩ : BufTy).Contents (Elt F)),
    StableHlo.nullary main_c_5 (constantI S_ 32 0#32),
    StableHlo.nullary main_c_6 (constantI S_ 32 0#32),
    StableHlo.unary main_v26 main_v29_0 id,
    StableHlo.unary main_arg0 main_v29_1 id,
    StableHlo.unary main_c_6 main_v29_2 id,
    StableHlo.unary main_c_5 main_v29_3 id,
    StableHlo.unary main_v27 main_v29_4 id,
    StableHlo.unary main_v28 main_v29_5 id ]
/-- Each touches TensorCore references only (`HostSeg.ofOps` over `StableHlo.tcRefs`, or a subset by `sub_ucRefs`). -/
theorem hostOps0_6_sub : (hostOps0_6 : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- 11 host operations of @main, in order. -/
abbrev hostOps0_7 : List (HloOp τ sig (Elt F)) :=
  [ StableHlo.nullary main_v30 (iotaInDim S512 32 0),
    StableHlo.unary main_v30 main_v31 (broadcastInDim S1x512 ![1] bcast_S512_S1x512_1 : (⟨S512, .i32⟩ : BufTy).Contents (Elt F) → (⟨S1x512, .i32⟩ : BufTy).Contents (Elt F)),
    StableHlo.unary main_arg4 main_v32 (broadcastInDim S8x1 ![0] bcast_S8_S8x1_0 : (⟨S8, .i32⟩ : BufTy).Contents (Elt F) → (⟨S8x1, .i32⟩ : BufTy).Contents (Elt F)),
    StableHlo.unary main_v31 main_v33 (broadcastInDim S8x512 ![0, 1] bcast_S1x512_S8x512_0_1 : (⟨S1x512, .i32⟩ : BufTy).Contents (Elt F) → (⟨S8x512, .i32⟩ : BufTy).Contents (Elt F)),
    StableHlo.unary main_v32 main_v34 (broadcastInDim S8x512 ![0, 1] bcast_S8x1_S8x512_0_1 : (⟨S8x1, .i32⟩ : BufTy).Contents (Elt F) → (⟨S8x512, .i32⟩ : BufTy).Contents (Elt F)),
    StableHlo.binary main_v33 main_v34 main_v35 (cmpi .slt : (⟨S8x512, .i32⟩ : BufTy).Contents (Elt F) → (⟨S8x512, .i32⟩ : BufTy).Contents (Elt F) → (⟨S8x512, .i1⟩ : BufTy).Contents (Elt F)),
    StableHlo.unary main_v35 main_v36 (broadcastInDim S8x512x1 ![0, 1] bcast_S8x512_S8x512x1_0_1 : (⟨S8x512, .i1⟩ : BufTy).Contents (Elt F) → (⟨S8x512x1, .i1⟩ : BufTy).Contents (Elt F)),
    StableHlo.unary main_v36 main_v37 (uitofp .f32 : (⟨S8x512x1, .i1⟩ : BufTy).Contents (Elt F) → (⟨S8x512x1, .f32⟩ : BufTy).Contents (Elt F)),
    StableHlo.unary main_v37 main_v38 (broadcastInDim S8x512x2048 ![0, 1, 2] bcast_S8x512x1_S8x512x2048_0_1_2 : (⟨S8x512x1, .f32⟩ : BufTy).Contents (Elt F) → (⟨S8x512x2048, .f32⟩ : BufTy).Contents (Elt F)),
    StableHlo.binary main_v29_5 main_v38 main_v39 (mulf : (⟨S8x512x2048, .f32⟩ : BufTy).Contents (Elt F) → (⟨S8x512x2048, .f32⟩ : BufTy).Contents (Elt F) → (⟨S8x512x2048, .f32⟩ : BufTy).Contents (Elt F)),
    StableHlo.unary main_arg2 main_v40 ((extui 32 · natLt_1_32) : (⟨S8x2048, .i1⟩ : BufTy).Contents (Elt F) → (⟨S8x2048, .i32⟩ : BufTy).Contents (Elt F)) ]
/-- Each touches TensorCore references only (`HostSeg.ofOps` over `StableHlo.tcRefs`, or a subset by `sub_ucRefs`). -/
theorem hostOps0_7_sub : (hostOps0_7 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub ..⟩
/-- 3 host operations of @cumsum (main_call3), in order. -/
abbrev hostOps0_8 : List (HloOp τ sig (Elt F)) :=
  [ StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_v40 : StableHlo.TRef sig ⟨S8x2048, .i32⟩) (.of main_call3_call0_v0 : StableHlo.TRef sig ⟨S_, .i32⟩) (.of main_v41 : StableHlo.TRef sig ⟨S8x2048, .i32⟩) (fun x v => Host.reduceWindow IntOp.addi ![1, 2048] ![1, 1] ![0, 2047] ![0, 0] x v reduceWindows_S8x2048_S8x2048_w1s1p0_0_w2048s1p2047_0 h_S_) ]
/-- Each touches TensorCore references only (`HostSeg.ofOps` over `StableHlo.tcRefs`, or a subset by `sub_ucRefs`). -/
theorem hostOps0_8_sub : (hostOps0_8 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @main, in order. -/
abbrev hostOps0_9 : List (HloOp τ sig (Elt F)) :=
  [ StableHlo.nullary main_c_7 (constantI S_ 32 1#32),
    StableHlo.unary main_c_7 main_v42 (broadcastInDim S8x2048 ![] bcast_S_S8x2048 : (⟨S_, .i32⟩ : BufTy).Contents (Elt F) → (⟨S8x2048, .i32⟩ : BufTy).Contents (Elt F)),
    StableHlo.binary main_v41 main_v42 main_v43 (subi : (⟨S8x2048, .i32⟩ : BufTy).Contents (Elt F) → (⟨S8x2048, .i32⟩ : BufTy).Contents (Elt F) → (⟨S8x2048, .i32⟩ : BufTy).Contents (Elt F)),
    StableHlo.nullary main_c_8 (constantI S_ 32 0#32),
    StableHlo.nullary main_c_9 (constantI S_ 32 511#32) ]
/-- Each touches TensorCore references only (`HostSeg.ofOps` over `StableHlo.tcRefs`, or a subset by `sub_ucRefs`). -/
theorem hostOps0_9_sub : (hostOps0_9 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub ..⟩
/-- 6 host operations of @clip_1 (main_call4), in order. -/
abbrev hostOps0_10 : List (HloOp τ sig (Elt F)) :=
  [ StableHlo.TRef.unary (.of main_c_8 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S8x2048, .i32⟩) (broadcastInDim S8x2048 ![] bcast_S_S8x2048),
    StableHlo.TRef.binary (.of main_call4_v1 : StableHlo.TRef sig ⟨S8x2048, .i32⟩) (.of main_v43 : StableHlo.TRef sig ⟨S8x2048, .i32⟩) (.of main_call4_v2 : StableHlo.TRef sig ⟨S8x2048, .i32⟩) maxsi,
    StableHlo.TRef.unary (.of main_c_9 : StableHlo.TRef sig ⟨S_, .i32⟩) (.of main_call4_v3 : StableHlo.TRef sig ⟨S_, .i32⟩) id,
    StableHlo.TRef.unary (.of main_call4_v3 : StableHlo.TRef sig ⟨S_, .i32⟩) (.of main_call4_v4 : StableHlo.TRef sig ⟨S8x2048, .i32⟩) (broadcastInDim S8x2048 ![] bcast_S_S8x2048),
    StableHlo.TRef.binary (.of main_call4_v4 : StableHlo.TRef sig ⟨S8x2048, .i32⟩) (.of main_call4_v2 : StableHlo.TRef sig ⟨S8x2048, .i32⟩) (.of main_v44 : StableHlo.TRef sig ⟨S8x2048, .i32⟩) minsi ]
/-- Each touches TensorCore references only (`HostSeg.ofOps` over `StableHlo.tcRefs`, or a subset by `sub_ucRefs`). -/
theorem hostOps0_10_sub : (hostOps0_10 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 4 host operations of @main, in order. -/
abbrev hostOps0_11 : List (HloOp τ sig (Elt F)) :=
  [ StableHlo.nullary main_c_10 (constantI S_ 32 0#32),
    StableHlo.unary main_c_10 main_v45 (broadcastInDim S8x2048 ![] bcast_S_S8x2048 : (⟨S_, .i32⟩ : BufTy).Contents (Elt F) → (⟨S8x2048, .i32⟩ : BufTy).Contents (Elt F)),
    StableHlo.binary main_v43 main_v45 main_v46 (cmpi .sge : (⟨S8x2048, .i32⟩ : BufTy).Contents (Elt F) → (⟨S8x2048, .i32⟩ : BufTy).Contents (Elt F) → (⟨S8x2048, .i1⟩ : BufTy).Contents (Elt F)),
    StableHlo.unary main_v44 main_v47 (broadcastInDim S8x2048x1 ![0, 1] bcast_S8x2048_S8x2048x1_0_1 : (⟨S8x2048, .i32⟩ : BufTy).Contents (Elt F) → (⟨S8x2048x1, .i32⟩ : BufTy).Contents (Elt F)) ]
/-- Each touches TensorCore references only (`HostSeg.ofOps` over `StableHlo.tcRefs`, or a subset by `sub_ucRefs`). -/
theorem hostOps0_11_sub : (hostOps0_11 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub ..⟩
/-- 1 host operation of @take_along_axis (main_call5), in order. -/
abbrev hostOps0_12 : List (HloOp τ sig (Elt F)) :=
  [ StableHlo.TRef.binary (.of main_v39 : StableHlo.TRef sig ⟨S8x512x2048, .f32⟩) (.of main_v47 : StableHlo.TRef sig ⟨S8x2048x1, .i32⟩) (.of main_v48 : StableHlo.TRef sig ⟨S8x2048x2048, .f32⟩) (fun x i => Host.gather gather_S8x512x2048_S8x2048x1_S8x2048x2048_2_1_0_0_1_2_112048 x i) ]
/-- Each touches TensorCore references only (`HostSeg.ofOps` over `StableHlo.tcRefs`, or a subset by `sub_ucRefs`). -/
theorem hostOps0_12_sub : (hostOps0_12 : List (HloOp τ sig (Elt F))).Forall fun op => op.bufs ⊆ StableHlo.tcRefs τ sig :=
  StableHlo.binary_bufs_sub ..
/-- 21 host operations of @main, in order. -/
abbrev hostOps0_13 : List (HloOp τ sig (Elt F)) :=
  [ StableHlo.unary main_v46 main_v49 (broadcastInDim S8x2048x1 ![0, 1] bcast_S8x2048_S8x2048x1_0_1 : (⟨S8x2048, .i1⟩ : BufTy).Contents (Elt F) → (⟨S8x2048x1, .i1⟩ : BufTy).Contents (Elt F)),
    StableHlo.unary main_v49 main_v50 (uitofp .f32 : (⟨S8x2048x1, .i1⟩ : BufTy).Contents (Elt F) → (⟨S8x2048x1, .f32⟩ : BufTy).Contents (Elt F)),
    StableHlo.unary main_v50 main_v51 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    StableHlo.binary main_v48 main_v51 main_v52 (mulf : (⟨S8x2048x2048, .f32⟩ : BufTy).Contents (Elt F) → (⟨S8x2048x2048, .f32⟩ : BufTy).Contents (Elt F) → (⟨S8x2048x2048, .f32⟩ : BufTy).Contents (Elt F)),
    StableHlo.nullary main_cst_11 (constant S_ .f32 0x3F800000#32),
    StableHlo.unary main_cst_11 main_v53 (broadcastInDim S8x2048 ![] bcast_S_S8x2048 : (⟨S_, .f32⟩ : BufTy).Contents (Elt F) → (⟨S8x2048, .f32⟩ : BufTy).Contents (Elt F)),
    StableHlo.binary main_v53 main_arg3 main_v54 (subf : (⟨S8x2048, .f32⟩ : BufTy).Contents (Elt F) → (⟨S8x2048, .f32⟩ : BufTy).Contents (Elt F) → (⟨S8x2048, .f32⟩ : BufTy).Contents (Elt F)),
    StableHlo.binary main_v54 main_arg3 main_v55 (maximumf : (⟨S8x2048, .f32⟩ : BufTy).Contents (Elt F) → (⟨S8x2048, .f32⟩ : BufTy).Contents (Elt F) → (⟨S8x2048, .f32⟩ : BufTy).Contents (Elt F)),
    StableHlo.binary main_v55 main_v55 main_v56 (subf : (⟨S8x2048, .f32⟩ : BufTy).Contents (Elt F) → (⟨S8x2048, .f32⟩ : BufTy).Contents (Elt F) → (⟨S8x2048, .f32⟩ : BufTy).Contents (Elt F)),
    StableHlo.nullary main_cst_12 (constant S_ .f32 0x3F800000#32),
    StableHlo.unary main_cst_12 main_v57 (broadcastInDim S8x2048 ![] bcast_S_S8x2048 : (⟨S_, .f32⟩ : BufTy).Contents (Elt F) → (⟨S8x2048, .f32⟩ : BufTy).Contents (Elt F)),
    StableHlo.binary main_v56 main_v57 main_v58 (addf : (⟨S8x2048, .f32⟩ : BufTy).Contents (Elt F) → (⟨S8x2048, .f32⟩ : BufTy).Contents (Elt F) → (⟨S8x2048, .f32⟩ : BufTy).Contents (Elt F)),
    StableHlo.unary main_v58 main_v59 (broadcastInDim S8x2048x1 ![0, 1] bcast_S8x2048_S8x2048x1_0_1 : (⟨S8x2048, .f32⟩ : BufTy).Contents (Elt F) → (⟨S8x2048x1, .f32⟩ : BufTy).Contents (Elt F)),
    StableHlo.unary main_v59 main_v60 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    StableHlo.binary main_v52 main_v60 main_v61 (mulf : (⟨S8x2048x2048, .f32⟩ : BufTy).Contents (Elt F) → (⟨S8x2048x2048, .f32⟩ : BufTy).Contents (Elt F) → (⟨S8x2048x2048, .f32⟩ : BufTy).Contents (Elt F)),
    StableHlo.binary main_arg1 main_v61 main_v62 (addf : (⟨S8x2048x2048, .f32⟩ : BufTy).Contents (Elt F) → (⟨S8x2048x2048, .f32⟩ : BufTy).Contents (Elt F) → (⟨S8x2048x2048, .f32⟩ : BufTy).Contents (Elt F)),
    StableHlo.nullary main_c_13 (constantI S_ 32 1#32),
    StableHlo.unary main_c_13 main_v63 (broadcastInDim S8 ![] bcast_S_S8 : (⟨S_, .i32⟩ : BufTy).Contents (Elt F) → (⟨S8, .i32⟩ : BufTy).Contents (Elt F)),
    StableHlo.binary main_arg4 main_v63 main_v64 (subi : (⟨S8, .i32⟩ : BufTy).Contents (Elt F) → (⟨S8, .i32⟩ : BufTy).Contents (Elt F) → (⟨S8, .i32⟩ : BufTy).Contents (Elt F)),
    StableHlo.nullary main_c_14 (constantI S_ 32 0#32),
    StableHlo.nullary main_c_15 (constantI S_ 32 511#32) ]
/-- Each touches TensorCore references only (`HostSeg.ofOps` over `StableHlo.tcRefs`, or a subset by `sub_ucRefs`). -/
theorem hostOps0_13_sub : (hostOps0_13 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.nullary_bufs_sub ..⟩
/-- 6 host operations of @clip_2 (main_call6), in order. -/
abbrev hostOps0_14 : List (HloOp τ sig (Elt F)) :=
  [ StableHlo.TRef.unary (.of main_c_14 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S8, .i32⟩) (broadcastInDim S8 ![] bcast_S_S8),
    StableHlo.TRef.binary (.of main_call6_v1 : StableHlo.TRef sig ⟨S8, .i32⟩) (.of main_v64 : StableHlo.TRef sig ⟨S8, .i32⟩) (.of main_call6_v2 : StableHlo.TRef sig ⟨S8, .i32⟩) maxsi,
    StableHlo.TRef.unary (.of main_c_15 : StableHlo.TRef sig ⟨S_, .i32⟩) (.of main_call6_v3 : StableHlo.TRef sig ⟨S_, .i32⟩) id,
    StableHlo.TRef.unary (.of main_call6_v3 : StableHlo.TRef sig ⟨S_, .i32⟩) (.of main_call6_v4 : StableHlo.TRef sig ⟨S8, .i32⟩) (broadcastInDim S8 ![] bcast_S_S8),
    StableHlo.TRef.binary (.of main_call6_v4 : StableHlo.TRef sig ⟨S8, .i32⟩) (.of main_call6_v2 : StableHlo.TRef sig ⟨S8, .i32⟩) (.of main_v65 : StableHlo.TRef sig ⟨S8, .i32⟩) minsi ]
/-- Each touches TensorCore references only (`HostSeg.ofOps` over `StableHlo.tcRefs`, or a subset by `sub_ucRefs`). -/
theorem hostOps0_14_sub : (hostOps0_14 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 1 host operation of @main, in order. -/
abbrev hostOps0_15 : List (HloOp τ sig (Elt F)) :=
  [ StableHlo.unary main_v65 main_v66 (broadcastInDim S8x1x1 ![0] bcast_S8_S8x1x1_0 : (⟨S8, .i32⟩ : BufTy).Contents (Elt F) → (⟨S8x1x1, .i32⟩ : BufTy).Contents (Elt F)) ]
/-- Each touches TensorCore references only (`HostSeg.ofOps` over `StableHlo.tcRefs`, or a subset by `sub_ucRefs`). -/
theorem hostOps0_15_sub : (hostOps0_15 : List (HloOp τ sig (Elt F))).Forall fun op => op.bufs ⊆ StableHlo.tcRefs τ sig :=
  StableHlo.unary_bufs_sub ..
/-- 1 host operation of @take_along_axis_3 (main_call7), in order. -/
abbrev hostOps0_16 : List (HloOp τ sig (Elt F)) :=
  [ StableHlo.TRef.binary (.of main_v39 : StableHlo.TRef sig ⟨S8x512x2048, .f32⟩) (.of main_v66 : StableHlo.TRef sig ⟨S8x1x1, .i32⟩) (.of main_v67 : StableHlo.TRef sig ⟨S8x1x2048, .f32⟩) (fun x i => Host.gather gather_S8x512x2048_S8x1x1_S8x1x2048_2_1_0_0_1_2_112048 x i) ]
/-- Each touches TensorCore references only (`HostSeg.ofOps` over `StableHlo.tcRefs`, or a subset by `sub_ucRefs`). -/
theorem hostOps0_16_sub : (hostOps0_16 : List (HloOp τ sig (Elt F))).Forall fun op => op.bufs ⊆ StableHlo.tcRefs τ sig :=
  StableHlo.binary_bufs_sub ..
/-- 5 host operations of @main, in order. -/
abbrev hostOps0_17 : List (HloOp τ sig (Elt F)) :=
  [ StableHlo.reshape main_v67 main_v68 (rfl : (.f32 : EltTy) = .f32) shapeCasts_S8x1x2048_S8x2048,
    StableHlo.nullary main_c_16 (constantI S_ 32 0#32),
    StableHlo.unary main_c_16 main_v69 (broadcastInDim S8 ![] bcast_S_S8 : (⟨S_, .i32⟩ : BufTy).Contents (Elt F) → (⟨S8, .i32⟩ : BufTy).Contents (Elt F)),
    StableHlo.binary main_arg4 main_v69 main_v70 (cmpi .sgt : (⟨S8, .i32⟩ : BufTy).Contents (Elt F) → (⟨S8, .i32⟩ : BufTy).Contents (Elt F) → (⟨S8, .i1⟩ : BufTy).Contents (Elt F)),
    StableHlo.unary main_v70 main_v71 (broadcastInDim S8x1 ![0] bcast_S8_S8x1_0 : (⟨S8, .i1⟩ : BufTy).Contents (Elt F) → (⟨S8x1, .i1⟩ : BufTy).Contents (Elt F)) ]
/-- Each touches TensorCore references only (`HostSeg.ofOps` over `StableHlo.tcRefs`, or a subset by `sub_ucRefs`). -/
theorem hostOps0_17_sub : (hostOps0_17 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.unary_bufs_sub ..⟩
/-- 2 host operations of @_where_4 (main_call8), in order. -/
abbrev hostOps0_18 : List (HloOp τ sig (Elt F)) :=
  [ StableHlo.TRef.unary (.of main_v71 : StableHlo.TRef sig ⟨S8x1, .i1⟩) (.of main_call8_v0 : StableHlo.TRef sig ⟨S8x2048, .i1⟩) (broadcastInDim S8x2048 ![0, 1] bcast_S8x1_S8x2048_0_1),
    StableHlo.TRef.ternary (.of main_call8_v0 : StableHlo.TRef sig ⟨S8x2048, .i1⟩) (.of main_v68 : StableHlo.TRef sig ⟨S8x2048, .f32⟩) (.of main_arg5 : StableHlo.TRef sig ⟨S8x2048, .f32⟩) (.of main_v72 : StableHlo.TRef sig ⟨S8x2048, .f32⟩) select ]
/-- Each touches TensorCore references only (`HostSeg.ofOps` over `StableHlo.tcRefs`, or a subset by `sub_ucRefs`). -/
theorem hostOps0_18_sub : (hostOps0_18 : List (HloOp τ sig (Elt F))).Forall fun op => op.bufs ⊆ StableHlo.tcRefs τ sig :=
  ⟨StableHlo.unary_bufs_sub .., StableHlo.ternary_bufs_sub ..⟩
/-- 1 host operation of @main, in order. -/
abbrev hostOps0_19 : List (HloOp τ sig (Elt F)) :=
  [ StableHlo.unary main_v72 main_v73 (broadcastInDim S8x1x2048 ![0, 2] bcast_S8x2048_S8x1x2048_0_2 : (⟨S8x2048, .f32⟩ : BufTy).Contents (Elt F) → (⟨S8x1x2048, .f32⟩ : BufTy).Contents (Elt F)) ]
/-- Each touches TensorCore references only (`HostSeg.ofOps` over `StableHlo.tcRefs`, or a subset by `sub_ucRefs`). -/
theorem hostOps0_19_sub : (hostOps0_19 : List (HloOp τ sig (Elt F))).Forall fun op => op.bufs ⊆ StableHlo.tcRefs τ sig :=
  StableHlo.unary_bufs_sub ..
/-- 1 host operation of @main, window 0 (statements 1 … 60), in order. -/
abbrev main_part0_ops0 : List (HloOp τ sig (Elt F)) :=
  [ StableHlo.unary main_arg2 main_v0 ((extui 32 · natLt_1_32) : (⟨S8x2048, .i1⟩ : BufTy).Contents (Elt F) → (⟨S8x2048, .i32⟩ : BufTy).Contents (Elt F)) ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  StableHlo.unary_bufs_sub ..
/-- 3 host operations of @cumsum (main_call0), window 0 (statements 1 … 60), in order. -/
abbrev main_part0_ops1 : List (HloOp τ sig (Elt F)) :=
  [ StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_v0 : StableHlo.TRef sig ⟨S8x2048, .i32⟩) (.of main_call0_call0_v0 : StableHlo.TRef sig ⟨S_, .i32⟩) (.of main_v1 : StableHlo.TRef sig ⟨S8x2048, .i32⟩) (fun x v => Host.reduceWindow IntOp.addi ![1, 2048] ![1, 1] ![0, 2047] ![0, 0] x v reduceWindows_S8x2048_S8x2048_w1s1p0_0_w2048s1p2047_0 h_S_) ]
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.nullary_bufs_sub .., StableHlo.unary_bufs_sub .., StableHlo.binary_bufs_sub ..⟩
/-- 14 host operations of @main, window 0 (statements 1 … 60), in order. -/
abbrev main_part0_ops2 : List (HloOp τ sig (Elt F)) :=
  [ StableHlo.nullary main_c (constantI S_ 32 1#32),
    StableHlo.unary main_c main_v2 (broadcastInDim S8x2048 ![] bcast_S_S8x2048 : (⟨S_, .i32⟩ : BufTy).Contents (Elt F) → (⟨S8x2048, .i32⟩ : BufTy).Contents (Elt F)),
    StableHlo.binary main_v1 main_v2 main_v3 (subi : (⟨S8x2048, .i32⟩ : BufTy).Contents (Elt F) → (⟨S8x2048, .i32⟩ : BufTy).Contents (Elt F) → (⟨S8x2048, .i32⟩ : BufTy).Contents (Elt F)),
    StableHlo.unary main_arg2 main_v4 (broadcastInDim S8x1x2048 ![0, 2] bcast_S8x2048_S8x1x2048_0_2 : (⟨S8x2048, .i1⟩ : BufTy).Contents (Elt F) → (⟨S8x1x2048, .i1⟩ : BufTy).Contents (Elt F)),
    StableHlo.unary main_v3 main_v5 (broadcastInDim S8x1x2048 ![0, 2] bcast_S8x2048_S8x1x2048_0_2 : (⟨S8x2048, .i32⟩ : BufTy).Contents (Elt F) → (⟨S8x1x2048, .i32⟩ : BufTy).Contents (Elt F)),
    StableHlo.nullary main_v6 (iotaInDim S512 32 0),
    StableHlo.unary main_v6 main_v7 (broadcastInDim S1x512x1 ![1] bcast_S512_S1x512x1_1 : (⟨S512, .i32⟩ : BufTy).Contents (Elt F) → (⟨S1x512x1, .i32⟩ : BufTy).Contents (Elt F)),
    StableHlo.unary main_v5 main_v8 (broadcastInDim S8x512x2048 ![0, 1, 2] bcast_S8x1x2048_S8x512x2048_0_1_2 : (⟨S8x1x2048, .i32⟩ : BufTy).Contents (Elt F) → (⟨S8x512x2048, .i32⟩ : BufTy).Contents (Elt F)),
    StableHlo.unary main_v7 main_v9 (broadcastInDim S8x512x2048 ![0, 1, 2] bcast_S1x512x1_S8x512x2048_0_1_2 : (⟨S1x512x1, .i32⟩ : BufTy).Contents (Elt F) → (⟨S8x512x2048, .i32⟩ : BufTy).Contents (Elt F)),
    StableHlo.binary main_v8 main_v9 main_v10 (cmpi .eq : (⟨S8x512x2048, .i32⟩ : BufTy).Contents (Elt F) → (⟨S8x512x2048, .i32⟩ : BufTy).Contents (Elt F) → (⟨S8x512x2048, .i1⟩ : BufTy).Contents (Elt F)),
    StableHlo.unary main_v4 main_v11 (broadcastInDim S8x512x2048 ![0, 1, 2] bcast_S8x1x2048_S8x512x2048_0_1_2 : (⟨S8x1x2048, .i1⟩ : BufTy).Contents (Elt F) → (⟨S8x512x2048, .i1⟩ : BufTy).Contents (Elt F)),
    StableHlo.binary main_v11 main_v10 main_v12 (andi : (⟨S8x512x2048, .i1⟩ : BufTy).Contents (Elt F) → (⟨S8x512x2048, .i1⟩ : BufTy).Contents (Elt F) → (⟨S8x512x2048, .i1⟩ : BufTy).Contents (Elt F)),
    StableHlo.unary main_arg3 main_v13 (broadcastInDim S8x1x2048 ![0, 2] bcast_S8x2048_S8x1x2048_0_2 : (⟨S8x2048, .f32⟩ : BufTy).Contents (Elt F) → (⟨S8x1x2048, .f32⟩ : BufTy).Contents (Elt F)),
    StableHlo.nullary main_cst (constant S_ .f32 0x00000000#32) ]
/-- Each touches TensorCore references only (`HostSeg.ofOps` over `StableHlo.tcRefs`, or a subset by `sub_ucRefs`). -/
theorem main_part0_ops2_sub : (main_part0_ops2 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.nullary_bufs_sub ..⟩
/-- 4 host operations of @_where (main_call1), window 0 (statements 1 … 60), in order. -/
abbrev main_part0_ops3 : List (HloOp τ sig (Elt F)) :=
  [ StableHlo.TRef.unary (.of main_cst : StableHlo.TRef sig ⟨S_, .f32⟩) (.of main_call1_v0 : StableHlo.TRef sig ⟨S_, .f32⟩) id,
    StableHlo.TRef.unary (.of main_v13 : StableHlo.TRef sig ⟨S8x1x2048, .f32⟩) (.of main_call1_v1 : StableHlo.TRef sig ⟨S8x512x2048, .f32⟩) (broadcastInDim S8x512x2048 ![0, 1, 2] bcast_S8x1x2048_S8x512x2048_0_1_2),
    StableHlo.TRef.unary (.of main_call1_v0 : StableHlo.TRef sig ⟨S_, .f32⟩) (.of main_call1_v2 : StableHlo.TRef sig ⟨S8x512x2048, .f32⟩) (broadcastInDim S8x512x2048 ![] bcast_S_S8x512x2048),
    StableHlo.TRef.ternary (.of main_v12 : StableHlo.TRef sig ⟨S8x512x2048, .i1⟩) (.of main_call1_v1 : StableHlo.TRef sig ⟨S8x512x2048, .f32⟩) (.of main_call1_v2 : StableHlo.TRef sig ⟨S8x512x2048, .f32⟩) (.of main_v14 : StableHlo.TRef sig ⟨S8x512x2048, .f32⟩) select ]
/-- Each touches TensorCore references only (`HostSeg.ofOps` over `StableHlo.tcRefs`, or a subset by `sub_ucRefs`). -/
theorem main_part0_ops3_sub : (main_part0_ops3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 15 host operations of @main, window 0 (statements 1 … 60), in order. -/
abbrev main_part0_ops4 : List (HloOp τ sig (Elt F)) :=
  [ StableHlo.nullary main_cst_0 (constant S_ .f32 0x00000000#32),
    StableHlo.binary main_v14 main_cst_0 main_v15 ((fun x v => Host.reduceAdd x v reducesTo_S8x512x2048_S8x512_d2 h_S_) : (⟨S8x512x2048, .f32⟩ : BufTy).Contents (Elt F) → (⟨S_, .f32⟩ : BufTy).Contents (Elt F) → (⟨S8x512, .f32⟩ : BufTy).Contents (Elt F)),
    StableHlo.nullary main_v16 (iotaInDim S512 32 0),
    StableHlo.unary main_v16 main_v17 (broadcastInDim S1x512 ![1] bcast_S512_S1x512_1 : (⟨S512, .i32⟩ : BufTy).Contents (Elt F) → (⟨S1x512, .i32⟩ : BufTy).Contents (Elt F)),
    StableHlo.unary main_arg4 main_v18 (broadcastInDim S8x1 ![0] bcast_S8_S8x1_0 : (⟨S8, .i32⟩ : BufTy).Contents (Elt F) → (⟨S8x1, .i32⟩ : BufTy).Contents (Elt F)),
    StableHlo.unary main_v17 main_v19 (broadcastInDim S8x512 ![0, 1] bcast_S1x512_S8x512_0_1 : (⟨S1x512, .i32⟩ : BufTy).Contents (Elt F) → (⟨S8x512, .i32⟩ : BufTy).Contents (Elt F)),
    StableHlo.unary main_v18 main_v20 (broadcastInDim S8x512 ![0, 1] bcast_S8x1_S8x512_0_1 : (⟨S8x1, .i32⟩ : BufTy).Contents (Elt F) → (⟨S8x512, .i32⟩ : BufTy).Contents (Elt F)),
    StableHlo.binary main_v19 main_v20 main_v21 (cmpi .slt : (⟨S8x512, .i32⟩ : BufTy).Contents (Elt F) → (⟨S8x512, .i32⟩ : BufTy).Contents (Elt F) → (⟨S8x512, .i1⟩ : BufTy).Contents (Elt F)),
    StableHlo.unary main_v21 main_v22 (uitofp .f32 : (⟨S8x512, .i1⟩ : BufTy).Contents (Elt F) → (⟨S8x512, .f32⟩ : BufTy).Contents (Elt F)),
    StableHlo.binary main_v15 main_v22 main_v23 (mulf : (⟨S8x512, .f32⟩ : BufTy).Contents (Elt F) → (⟨S8x512, .f32⟩ : BufTy).Contents (Elt F) → (⟨S8x512, .f32⟩ : BufTy).Contents (Elt F)),
    StableHlo.nullary main_cst_1 (constant S_ .f32 0x3F800000#32),
    StableHlo.unary main_cst_1 main_v24 (broadcastInDim S8x512 ![] bcast_S_S8x512 : (⟨S_, .f32⟩ : BufTy).Contents (Elt F) → (⟨S8x512, .f32⟩ : BufTy).Contents (Elt F)),
    StableHlo.binary main_v24 main_v23 main_v25 (subf : (⟨S8x512, .f32⟩ : BufTy).Contents (Elt F) → (⟨S8x512, .f32⟩ : BufTy).Contents (Elt F) → (⟨S8x512, .f32⟩ : BufTy).Contents (Elt F)),
    StableHlo.nullary main_cst_2 (constant S_ .f32 0x00000000#32),
    StableHlo.nullary main_cst_3 (constant S_ .f32 0x3F800000#32) ]
/-- Each touches TensorCore references only (`HostSeg.ofOps` over `StableHlo.tcRefs`, or a subset by `sub_ucRefs`). -/
theorem main_part0_ops4_sub : (main_part0_ops4 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub ..⟩
/-- 6 host operations of @clip (main_call2), window 0 (statements 1 … 60), in order. -/
abbrev main_part0_ops5 : List (HloOp τ sig (Elt F)) :=
  [ StableHlo.TRef.unary (.of main_cst_2 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S8x512, .f32⟩) (broadcastInDim S8x512 ![] bcast_S_S8x512),
    StableHlo.TRef.binary (.of main_call2_v1 : StableHlo.TRef sig ⟨S8x512, .f32⟩) (.of main_v25 : StableHlo.TRef sig ⟨S8x512, .f32⟩) (.of main_call2_v2 : StableHlo.TRef sig ⟨S8x512, .f32⟩) maximumf,
    StableHlo.TRef.unary (.of main_cst_3 : StableHlo.TRef sig ⟨S_, .f32⟩) (.of main_call2_v3 : StableHlo.TRef sig ⟨S_, .f32⟩) id,
    StableHlo.TRef.unary (.of main_call2_v3 : StableHlo.TRef sig ⟨S_, .f32⟩) (.of main_call2_v4 : StableHlo.TRef sig ⟨S8x512, .f32⟩) (broadcastInDim S8x512 ![] bcast_S_S8x512),
    StableHlo.TRef.binary (.of main_call2_v4 : StableHlo.TRef sig ⟨S8x512, .f32⟩) (.of main_call2_v2 : StableHlo.TRef sig ⟨S8x512, .f32⟩) (.of main_v26 : StableHlo.TRef sig ⟨S8x512, .f32⟩) minimumf ]
/-- Each touches TensorCore references only (`HostSeg.ofOps` over `StableHlo.tcRefs`, or a subset by `sub_ucRefs`). -/
theorem main_part0_ops5_sub : (main_part0_ops5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 11 host operations of @main, window 0 (statements 1 … 60), in order. -/
abbrev main_part0_ops6 : List (HloOp τ sig (Elt F)) :=
  [ StableHlo.unary main_arg5 main_v27 (broadcastInDim S8x1x2048 ![0, 2] bcast_S8x2048_S8x1x2048_0_2 : (⟨S8x2048, .f32⟩ : BufTy).Contents (Elt F) → (⟨S8x1x2048, .f32⟩ : BufTy).Contents (Elt F)),
    StableHlo.nullary main_cst_4 (constant S_ .f32 0x00000000#32),
    StableHlo.unary main_cst_4 main_v28 (broadcastInDim S8x512x2048 ![] bcast_S_S8x512x2048 : (⟨S_, .f32⟩ : BufTy).Contents (Elt F) → (⟨S8x512x2048, .f32⟩ : BufTy).Contents (Elt F)),
    StableHlo.nullary main_c_5 (constantI S_ 32 0#32),
    StableHlo.nullary main_c_6 (constantI S_ 32 0#32),
    StableHlo.unary main_v26 main_v29_0 id,
    StableHlo.unary main_arg0 main_v29_1 id,
    StableHlo.unary main_c_6 main_v29_2 id,
    StableHlo.unary main_c_5 main_v29_3 id,
    StableHlo.unary main_v27 main_v29_4 id,
    StableHlo.unary main_v28 main_v29_5 id ]
/-- Each touches TensorCore references only (`HostSeg.ofOps` over `StableHlo.tcRefs`, or a subset by `sub_ucRefs`). -/
theorem main_part0_ops6_sub : (main_part0_ops6 : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- 11 host operations of @main, window 0 (statements 1 … 60), in order. -/
abbrev main_part0_ops7 : List (HloOp τ sig (Elt F)) :=
  [ StableHlo.nullary main_v30 (iotaInDim S512 32 0),
    StableHlo.unary main_v30 main_v31 (broadcastInDim S1x512 ![1] bcast_S512_S1x512_1 : (⟨S512, .i32⟩ : BufTy).Contents (Elt F) → (⟨S1x512, .i32⟩ : BufTy).Contents (Elt F)),
    StableHlo.unary main_arg4 main_v32 (broadcastInDim S8x1 ![0] bcast_S8_S8x1_0 : (⟨S8, .i32⟩ : BufTy).Contents (Elt F) → (⟨S8x1, .i32⟩ : BufTy).Contents (Elt F)),
    StableHlo.unary main_v31 main_v33 (broadcastInDim S8x512 ![0, 1] bcast_S1x512_S8x512_0_1 : (⟨S1x512, .i32⟩ : BufTy).Contents (Elt F) → (⟨S8x512, .i32⟩ : BufTy).Contents (Elt F)),
    StableHlo.unary main_v32 main_v34 (broadcastInDim S8x512 ![0, 1] bcast_S8x1_S8x512_0_1 : (⟨S8x1, .i32⟩ : BufTy).Contents (Elt F) → (⟨S8x512, .i32⟩ : BufTy).Contents (Elt F)),
    StableHlo.binary main_v33 main_v34 main_v35 (cmpi .slt : (⟨S8x512, .i32⟩ : BufTy).Contents (Elt F) → (⟨S8x512, .i32⟩ : BufTy).Contents (Elt F) → (⟨S8x512, .i1⟩ : BufTy).Contents (Elt F)),
    StableHlo.unary main_v35 main_v36 (broadcastInDim S8x512x1 ![0, 1] bcast_S8x512_S8x512x1_0_1 : (⟨S8x512, .i1⟩ : BufTy).Contents (Elt F) → (⟨S8x512x1, .i1⟩ : BufTy).Contents (Elt F)),
    StableHlo.unary main_v36 main_v37 (uitofp .f32 : (⟨S8x512x1, .i1⟩ : BufTy).Contents (Elt F) → (⟨S8x512x1, .f32⟩ : BufTy).Contents (Elt F)),
    StableHlo.unary main_v37 main_v38 (broadcastInDim S8x512x2048 ![0, 1, 2] bcast_S8x512x1_S8x512x2048_0_1_2 : (⟨S8x512x1, .f32⟩ : BufTy).Contents (Elt F) → (⟨S8x512x2048, .f32⟩ : BufTy).Contents (Elt F)),
    StableHlo.binary main_v29_5 main_v38 main_v39 (mulf : (⟨S8x512x2048, .f32⟩ : BufTy).Contents (Elt F) → (⟨S8x512x2048, .f32⟩ : BufTy).Contents (Elt F) → (⟨S8x512x2048, .f32⟩ : BufTy).Contents (Elt F)),
    StableHlo.unary main_arg2 main_v40 ((extui 32 · natLt_1_32) : (⟨S8x2048, .i1⟩ : BufTy).Contents (Elt F) → (⟨S8x2048, .i32⟩ : BufTy).Contents (Elt F)) ]
/-- Each touches TensorCore references only (`HostSeg.ofOps` over `StableHlo.tcRefs`, or a subset by `sub_ucRefs`). -/
theorem main_part0_ops7_sub : (main_part0_ops7 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub ..⟩
/-- 3 host operations of @cumsum (main_call3), window 0 (statements 1 … 60), in order. -/
abbrev main_part0_ops8 : List (HloOp τ sig (Elt F)) :=
  [ StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_v40 : StableHlo.TRef sig ⟨S8x2048, .i32⟩) (.of main_call3_call0_v0 : StableHlo.TRef sig ⟨S_, .i32⟩) (.of main_v41 : StableHlo.TRef sig ⟨S8x2048, .i32⟩) (fun x v => Host.reduceWindow IntOp.addi ![1, 2048] ![1, 1] ![0, 2047] ![0, 0] x v reduceWindows_S8x2048_S8x2048_w1s1p0_0_w2048s1p2047_0 h_S_) ]
/-- Each touches TensorCore references only (`HostSeg.ofOps` over `StableHlo.tcRefs`, or a subset by `sub_ucRefs`). -/
theorem main_part0_ops8_sub : (main_part0_ops8 : List (HloOp τ sig (Elt F))).Forall fun op => op.bufs ⊆ StableHlo.tcRefs τ sig :=
  ⟨StableHlo.nullary_bufs_sub .., StableHlo.unary_bufs_sub .., StableHlo.binary_bufs_sub ..⟩
/-- 3 host operations of @main, window 0 (statements 1 … 60), in order. -/
abbrev main_part0_ops9 : List (HloOp τ sig (Elt F)) :=
  [ StableHlo.nullary main_c_7 (constantI S_ 32 1#32),
    StableHlo.unary main_c_7 main_v42 (broadcastInDim S8x2048 ![] bcast_S_S8x2048 : (⟨S_, .i32⟩ : BufTy).Contents (Elt F) → (⟨S8x2048, .i32⟩ : BufTy).Contents (Elt F)),
    StableHlo.binary main_v41 main_v42 main_v43 (subi : (⟨S8x2048, .i32⟩ : BufTy).Contents (Elt F) → (⟨S8x2048, .i32⟩ : BufTy).Contents (Elt F) → (⟨S8x2048, .i32⟩ : BufTy).Contents (Elt F)) ]
/-- Each touches TensorCore references only (`HostSeg.ofOps` over `StableHlo.tcRefs`, or a subset by `sub_ucRefs`). -/
theorem main_part0_ops9_sub : (main_part0_ops9 : List (HloOp τ sig (Elt F))).Forall fun op => op.bufs ⊆ StableHlo.tcRefs τ sig :=
  ⟨StableHlo.nullary_bufs_sub .., StableHlo.unary_bufs_sub .., StableHlo.binary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    HostLoop.enter 0,
    StableHlo.seq main_part0_ops7,
    StableHlo.seq main_part0_ops8 ]
  (StableHlo.seq main_part0_ops9) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

/-- 2 host operations of @main, window 1 (statements 61 … 100), in order. -/
abbrev main_part1_ops0 : List (HloOp τ sig (Elt F)) :=
  [ StableHlo.nullary main_c_8 (constantI S_ 32 0#32),
    StableHlo.nullary main_c_9 (constantI S_ 32 511#32) ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.nullary_bufs_sub .., StableHlo.nullary_bufs_sub ..⟩
/-- 6 host operations of @clip_1 (main_call4), window 1 (statements 61 … 100), in order. -/
abbrev main_part1_ops1 : List (HloOp τ sig (Elt F)) :=
  [ StableHlo.TRef.unary (.of main_c_8 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S8x2048, .i32⟩) (broadcastInDim S8x2048 ![] bcast_S_S8x2048),
    StableHlo.TRef.binary (.of main_call4_v1 : StableHlo.TRef sig ⟨S8x2048, .i32⟩) (.of main_v43 : StableHlo.TRef sig ⟨S8x2048, .i32⟩) (.of main_call4_v2 : StableHlo.TRef sig ⟨S8x2048, .i32⟩) maxsi,
    StableHlo.TRef.unary (.of main_c_9 : StableHlo.TRef sig ⟨S_, .i32⟩) (.of main_call4_v3 : StableHlo.TRef sig ⟨S_, .i32⟩) id,
    StableHlo.TRef.unary (.of main_call4_v3 : StableHlo.TRef sig ⟨S_, .i32⟩) (.of main_call4_v4 : StableHlo.TRef sig ⟨S8x2048, .i32⟩) (broadcastInDim S8x2048 ![] bcast_S_S8x2048),
    StableHlo.TRef.binary (.of main_call4_v4 : StableHlo.TRef sig ⟨S8x2048, .i32⟩) (.of main_call4_v2 : StableHlo.TRef sig ⟨S8x2048, .i32⟩) (.of main_v44 : StableHlo.TRef sig ⟨S8x2048, .i32⟩) minsi ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 4 host operations of @main, window 1 (statements 61 … 100), in order. -/
abbrev main_part1_ops2 : List (HloOp τ sig (Elt F)) :=
  [ StableHlo.nullary main_c_10 (constantI S_ 32 0#32),
    StableHlo.unary main_c_10 main_v45 (broadcastInDim S8x2048 ![] bcast_S_S8x2048 : (⟨S_, .i32⟩ : BufTy).Contents (Elt F) → (⟨S8x2048, .i32⟩ : BufTy).Contents (Elt F)),
    StableHlo.binary main_v43 main_v45 main_v46 (cmpi .sge : (⟨S8x2048, .i32⟩ : BufTy).Contents (Elt F) → (⟨S8x2048, .i32⟩ : BufTy).Contents (Elt F) → (⟨S8x2048, .i1⟩ : BufTy).Contents (Elt F)),
    StableHlo.unary main_v44 main_v47 (broadcastInDim S8x2048x1 ![0, 1] bcast_S8x2048_S8x2048x1_0_1 : (⟨S8x2048, .i32⟩ : BufTy).Contents (Elt F) → (⟨S8x2048x1, .i32⟩ : BufTy).Contents (Elt F)) ]
/-- Each touches TensorCore references only (`HostSeg.ofOps` over `StableHlo.tcRefs`, or a subset by `sub_ucRefs`). -/
theorem main_part1_ops2_sub : (main_part1_ops2 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub ..⟩
/-- 1 host operation of @take_along_axis (main_call5), window 1 (statements 61 … 100), in order. -/
abbrev main_part1_ops3 : List (HloOp τ sig (Elt F)) :=
  [ StableHlo.TRef.binary (.of main_v39 : StableHlo.TRef sig ⟨S8x512x2048, .f32⟩) (.of main_v47 : StableHlo.TRef sig ⟨S8x2048x1, .i32⟩) (.of main_v48 : StableHlo.TRef sig ⟨S8x2048x2048, .f32⟩) (fun x i => Host.gather gather_S8x512x2048_S8x2048x1_S8x2048x2048_2_1_0_0_1_2_112048 x i) ]
/-- Each touches TensorCore references only (`HostSeg.ofOps` over `StableHlo.tcRefs`, or a subset by `sub_ucRefs`). -/
theorem main_part1_ops3_sub : (main_part1_ops3 : List (HloOp τ sig (Elt F))).Forall fun op => op.bufs ⊆ StableHlo.tcRefs τ sig :=
  StableHlo.binary_bufs_sub ..
/-- 21 host operations of @main, window 1 (statements 61 … 100), in order. -/
abbrev main_part1_ops4 : List (HloOp τ sig (Elt F)) :=
  [ StableHlo.unary main_v46 main_v49 (broadcastInDim S8x2048x1 ![0, 1] bcast_S8x2048_S8x2048x1_0_1 : (⟨S8x2048, .i1⟩ : BufTy).Contents (Elt F) → (⟨S8x2048x1, .i1⟩ : BufTy).Contents (Elt F)),
    StableHlo.unary main_v49 main_v50 (uitofp .f32 : (⟨S8x2048x1, .i1⟩ : BufTy).Contents (Elt F) → (⟨S8x2048x1, .f32⟩ : BufTy).Contents (Elt F)),
    StableHlo.unary main_v50 main_v51 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    StableHlo.binary main_v48 main_v51 main_v52 (mulf : (⟨S8x2048x2048, .f32⟩ : BufTy).Contents (Elt F) → (⟨S8x2048x2048, .f32⟩ : BufTy).Contents (Elt F) → (⟨S8x2048x2048, .f32⟩ : BufTy).Contents (Elt F)),
    StableHlo.nullary main_cst_11 (constant S_ .f32 0x3F800000#32),
    StableHlo.unary main_cst_11 main_v53 (broadcastInDim S8x2048 ![] bcast_S_S8x2048 : (⟨S_, .f32⟩ : BufTy).Contents (Elt F) → (⟨S8x2048, .f32⟩ : BufTy).Contents (Elt F)),
    StableHlo.binary main_v53 main_arg3 main_v54 (subf : (⟨S8x2048, .f32⟩ : BufTy).Contents (Elt F) → (⟨S8x2048, .f32⟩ : BufTy).Contents (Elt F) → (⟨S8x2048, .f32⟩ : BufTy).Contents (Elt F)),
    StableHlo.binary main_v54 main_arg3 main_v55 (maximumf : (⟨S8x2048, .f32⟩ : BufTy).Contents (Elt F) → (⟨S8x2048, .f32⟩ : BufTy).Contents (Elt F) → (⟨S8x2048, .f32⟩ : BufTy).Contents (Elt F)),
    StableHlo.binary main_v55 main_v55 main_v56 (subf : (⟨S8x2048, .f32⟩ : BufTy).Contents (Elt F) → (⟨S8x2048, .f32⟩ : BufTy).Contents (Elt F) → (⟨S8x2048, .f32⟩ : BufTy).Contents (Elt F)),
    StableHlo.nullary main_cst_12 (constant S_ .f32 0x3F800000#32),
    StableHlo.unary main_cst_12 main_v57 (broadcastInDim S8x2048 ![] bcast_S_S8x2048 : (⟨S_, .f32⟩ : BufTy).Contents (Elt F) → (⟨S8x2048, .f32⟩ : BufTy).Contents (Elt F)),
    StableHlo.binary main_v56 main_v57 main_v58 (addf : (⟨S8x2048, .f32⟩ : BufTy).Contents (Elt F) → (⟨S8x2048, .f32⟩ : BufTy).Contents (Elt F) → (⟨S8x2048, .f32⟩ : BufTy).Contents (Elt F)),
    StableHlo.unary main_v58 main_v59 (broadcastInDim S8x2048x1 ![0, 1] bcast_S8x2048_S8x2048x1_0_1 : (⟨S8x2048, .f32⟩ : BufTy).Contents (Elt F) → (⟨S8x2048x1, .f32⟩ : BufTy).Contents (Elt F)),
    StableHlo.unary main_v59 main_v60 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    StableHlo.binary main_v52 main_v60 main_v61 (mulf : (⟨S8x2048x2048, .f32⟩ : BufTy).Contents (Elt F) → (⟨S8x2048x2048, .f32⟩ : BufTy).Contents (Elt F) → (⟨S8x2048x2048, .f32⟩ : BufTy).Contents (Elt F)),
    StableHlo.binary main_arg1 main_v61 main_v62 (addf : (⟨S8x2048x2048, .f32⟩ : BufTy).Contents (Elt F) → (⟨S8x2048x2048, .f32⟩ : BufTy).Contents (Elt F) → (⟨S8x2048x2048, .f32⟩ : BufTy).Contents (Elt F)),
    StableHlo.nullary main_c_13 (constantI S_ 32 1#32),
    StableHlo.unary main_c_13 main_v63 (broadcastInDim S8 ![] bcast_S_S8 : (⟨S_, .i32⟩ : BufTy).Contents (Elt F) → (⟨S8, .i32⟩ : BufTy).Contents (Elt F)),
    StableHlo.binary main_arg4 main_v63 main_v64 (subi : (⟨S8, .i32⟩ : BufTy).Contents (Elt F) → (⟨S8, .i32⟩ : BufTy).Contents (Elt F) → (⟨S8, .i32⟩ : BufTy).Contents (Elt F)),
    StableHlo.nullary main_c_14 (constantI S_ 32 0#32),
    StableHlo.nullary main_c_15 (constantI S_ 32 511#32) ]
/-- Each touches TensorCore references only (`HostSeg.ofOps` over `StableHlo.tcRefs`, or a subset by `sub_ucRefs`). -/
theorem main_part1_ops4_sub : (main_part1_ops4 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.nullary_bufs_sub ..⟩
/-- 6 host operations of @clip_2 (main_call6), window 1 (statements 61 … 100), in order. -/
abbrev main_part1_ops5 : List (HloOp τ sig (Elt F)) :=
  [ StableHlo.TRef.unary (.of main_c_14 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S8, .i32⟩) (broadcastInDim S8 ![] bcast_S_S8),
    StableHlo.TRef.binary (.of main_call6_v1 : StableHlo.TRef sig ⟨S8, .i32⟩) (.of main_v64 : StableHlo.TRef sig ⟨S8, .i32⟩) (.of main_call6_v2 : StableHlo.TRef sig ⟨S8, .i32⟩) maxsi,
    StableHlo.TRef.unary (.of main_c_15 : StableHlo.TRef sig ⟨S_, .i32⟩) (.of main_call6_v3 : StableHlo.TRef sig ⟨S_, .i32⟩) id,
    StableHlo.TRef.unary (.of main_call6_v3 : StableHlo.TRef sig ⟨S_, .i32⟩) (.of main_call6_v4 : StableHlo.TRef sig ⟨S8, .i32⟩) (broadcastInDim S8 ![] bcast_S_S8),
    StableHlo.TRef.binary (.of main_call6_v4 : StableHlo.TRef sig ⟨S8, .i32⟩) (.of main_call6_v2 : StableHlo.TRef sig ⟨S8, .i32⟩) (.of main_v65 : StableHlo.TRef sig ⟨S8, .i32⟩) minsi ]
/-- Each touches TensorCore references only (`HostSeg.ofOps` over `StableHlo.tcRefs`, or a subset by `sub_ucRefs`). -/
theorem main_part1_ops5_sub : (main_part1_ops5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 1 host operation of @main, window 1 (statements 61 … 100), in order. -/
abbrev main_part1_ops6 : List (HloOp τ sig (Elt F)) :=
  [ StableHlo.unary main_v65 main_v66 (broadcastInDim S8x1x1 ![0] bcast_S8_S8x1x1_0 : (⟨S8, .i32⟩ : BufTy).Contents (Elt F) → (⟨S8x1x1, .i32⟩ : BufTy).Contents (Elt F)) ]
/-- Each touches TensorCore references only (`HostSeg.ofOps` over `StableHlo.tcRefs`, or a subset by `sub_ucRefs`). -/
theorem main_part1_ops6_sub : (main_part1_ops6 : List (HloOp τ sig (Elt F))).Forall fun op => op.bufs ⊆ StableHlo.tcRefs τ sig :=
  StableHlo.unary_bufs_sub ..
/-- 1 host operation of @take_along_axis_3 (main_call7), window 1 (statements 61 … 100), in order. -/
abbrev main_part1_ops7 : List (HloOp τ sig (Elt F)) :=
  [ StableHlo.TRef.binary (.of main_v39 : StableHlo.TRef sig ⟨S8x512x2048, .f32⟩) (.of main_v66 : StableHlo.TRef sig ⟨S8x1x1, .i32⟩) (.of main_v67 : StableHlo.TRef sig ⟨S8x1x2048, .f32⟩) (fun x i => Host.gather gather_S8x512x2048_S8x1x1_S8x1x2048_2_1_0_0_1_2_112048 x i) ]
/-- Each touches TensorCore references only (`HostSeg.ofOps` over `StableHlo.tcRefs`, or a subset by `sub_ucRefs`). -/
theorem main_part1_ops7_sub : (main_part1_ops7 : List (HloOp τ sig (Elt F))).Forall fun op => op.bufs ⊆ StableHlo.tcRefs τ sig :=
  StableHlo.binary_bufs_sub ..
/-- 5 host operations of @main, window 1 (statements 61 … 100), in order. -/
abbrev main_part1_ops8 : List (HloOp τ sig (Elt F)) :=
  [ StableHlo.reshape main_v67 main_v68 (rfl : (.f32 : EltTy) = .f32) shapeCasts_S8x1x2048_S8x2048,
    StableHlo.nullary main_c_16 (constantI S_ 32 0#32),
    StableHlo.unary main_c_16 main_v69 (broadcastInDim S8 ![] bcast_S_S8 : (⟨S_, .i32⟩ : BufTy).Contents (Elt F) → (⟨S8, .i32⟩ : BufTy).Contents (Elt F)),
    StableHlo.binary main_arg4 main_v69 main_v70 (cmpi .sgt : (⟨S8, .i32⟩ : BufTy).Contents (Elt F) → (⟨S8, .i32⟩ : BufTy).Contents (Elt F) → (⟨S8, .i1⟩ : BufTy).Contents (Elt F)),
    StableHlo.unary main_v70 main_v71 (broadcastInDim S8x1 ![0] bcast_S8_S8x1_0 : (⟨S8, .i1⟩ : BufTy).Contents (Elt F) → (⟨S8x1, .i1⟩ : BufTy).Contents (Elt F)) ]
/-- Each touches TensorCore references only (`HostSeg.ofOps` over `StableHlo.tcRefs`, or a subset by `sub_ucRefs`). -/
theorem main_part1_ops8_sub : (main_part1_ops8 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.unary_bufs_sub ..⟩
/-- 2 host operations of @_where_4 (main_call8), window 1 (statements 61 … 100), in order. -/
abbrev main_part1_ops9 : List (HloOp τ sig (Elt F)) :=
  [ StableHlo.TRef.unary (.of main_v71 : StableHlo.TRef sig ⟨S8x1, .i1⟩) (.of main_call8_v0 : StableHlo.TRef sig ⟨S8x2048, .i1⟩) (broadcastInDim S8x2048 ![0, 1] bcast_S8x1_S8x2048_0_1),
    StableHlo.TRef.ternary (.of main_call8_v0 : StableHlo.TRef sig ⟨S8x2048, .i1⟩) (.of main_v68 : StableHlo.TRef sig ⟨S8x2048, .f32⟩) (.of main_arg5 : StableHlo.TRef sig ⟨S8x2048, .f32⟩) (.of main_v72 : StableHlo.TRef sig ⟨S8x2048, .f32⟩) select ]
/-- Each touches TensorCore references only (`HostSeg.ofOps` over `StableHlo.tcRefs`, or a subset by `sub_ucRefs`). -/
theorem main_part1_ops9_sub : (main_part1_ops9 : List (HloOp τ sig (Elt F))).Forall fun op => op.bufs ⊆ StableHlo.tcRefs τ sig :=
  ⟨StableHlo.unary_bufs_sub .., StableHlo.ternary_bufs_sub ..⟩
/-- 1 host operation of @main, window 1 (statements 61 … 100), in order. -/
abbrev main_part1_ops10 : List (HloOp τ sig (Elt F)) :=
  [ StableHlo.unary main_v72 main_v73 (broadcastInDim S8x1x2048 ![0, 2] bcast_S8x2048_S8x1x2048_0_2 : (⟨S8x2048, .f32⟩ : BufTy).Contents (Elt F) → (⟨S8x1x2048, .f32⟩ : BufTy).Contents (Elt F)) ]
/-- Each touches TensorCore references only (`HostSeg.ofOps` over `StableHlo.tcRefs`, or a subset by `sub_ucRefs`). -/
theorem main_part1_ops10_sub : (main_part1_ops10 : List (HloOp τ sig (Elt F))).Forall fun op => op.bufs ⊆ StableHlo.tcRefs τ sig :=
  StableHlo.unary_bufs_sub ..
/-- The last window of `main` (`main_part1`, statements 61 … 100) is the chain of ITS items, each item aligned with the window's
    statements, then `chain_rfl`. -/
theorem main_part1_chain (c : Dev nD) : main_part1 (F := F) c = (Pipeline.chain
  [ StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    StableHlo.seq main_part1_ops7,
    StableHlo.seq main_part1_ops8,
    StableHlo.seq main_part1_ops9,
    StableHlo.seq main_part1_ops10 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    HostLoop.enter 0,
    StableHlo.seq main_part0_ops7,
    StableHlo.seq main_part0_ops8,
    StableHlo.seq main_part0_ops9,
    StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    StableHlo.seq main_part1_ops7,
    StableHlo.seq main_part1_ops8,
    StableHlo.seq main_part1_ops9,
    StableHlo.seq main_part1_ops10 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0],
    .ops [main_part0_ops1],
    .ops [main_part0_ops2],
    .ops [main_part0_ops3],
    .ops [main_part0_ops4],
    .ops [main_part0_ops5],
    .ops [main_part0_ops6],
    .prog (HostLoop.enter 0),
    .ops [main_part0_ops7],
    .ops [main_part0_ops8],
    .ops [main_part0_ops9, main_part1_ops0],
    .ops [main_part1_ops1],
    .ops [main_part1_ops2],
    .ops [main_part1_ops3],
    .ops [main_part1_ops4],
    .ops [main_part1_ops5],
    .ops [main_part1_ops6],
    .ops [main_part1_ops7],
    .ops [main_part1_ops8],
    .ops [main_part1_ops9],
    .ops [main_part1_ops10] ]

/-- The windows' item list is `main_groups` with each stretch cut into its window pieces (`StableHlo.Group.cut`): the two
    lists are the same, by `chain_rfl`. -/
theorem main_chain_cut (c : Dev nD) : (Pipeline.chain
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    HostLoop.enter 0,
    StableHlo.seq main_part0_ops7,
    StableHlo.seq main_part0_ops8,
    StableHlo.seq main_part0_ops9,
    StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    StableHlo.seq main_part1_ops7,
    StableHlo.seq main_part1_ops8,
    StableHlo.seq main_part1_ops9,
    StableHlo.seq main_part1_ops10 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    HostLoop.enter 0,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps0_14,
    StableHlo.seq hostOps0_15,
    StableHlo.seq hostOps0_16,
    StableHlo.seq hostOps0_17,
    StableHlo.seq hostOps0_18,
    StableHlo.seq hostOps0_19 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    HostLoop.enter 0,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps0_14,
    StableHlo.seq hostOps0_15,
    StableHlo.seq hostOps0_16,
    StableHlo.seq hostOps0_17,
    StableHlo.seq hostOps0_18,
    StableHlo.seq hostOps0_19 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

/-- 43 host operations of host loop 0's body region, in order. -/
abbrev while0Ops0 : List (HloOp τ sig (Elt F)) :=
  ( StableHlo.nullary main_while0b_c_22 (constantI S_ 32 1#32)
  :: StableHlo.binary main_v29_3 main_while0b_c_22 main_while0b_v74 (addi : (⟨S_, .i32⟩ : BufTy).Contents (Elt F) → (⟨S_, .i32⟩ : BufTy).Contents (Elt F) → (⟨S_, .i32⟩ : BufTy).Contents (Elt F))
  :: StableHlo.nullary main_while0b_c_23 (constantI S_ 32 0#32)
  :: StableHlo.binary main_v29_3 main_while0b_c_23 main_while0b_v75 (cmpi .slt : (⟨S_, .i32⟩ : BufTy).Contents (Elt F) → (⟨S_, .i32⟩ : BufTy).Contents (Elt F) → (⟨S_, .i1⟩ : BufTy).Contents (Elt F))
  :: StableHlo.unary main_v29_3 main_while0b_v76 (id : (⟨S_, .i32⟩ : BufTy).Contents (Elt F) → (⟨S_, .i32⟩ : BufTy).Contents (Elt F))
  :: StableHlo.nullary main_while0b_c_24 (constantI S_ 32 512#32)
  :: StableHlo.binary main_while0b_v76 main_while0b_c_24 main_while0b_v77 (addi : (⟨S_, .i32⟩ : BufTy).Contents (Elt F) → (⟨S_, .i32⟩ : BufTy).Contents (Elt F) → (⟨S_, .i32⟩ : BufTy).Contents (Elt F))
  :: StableHlo.ternary main_while0b_v75 main_while0b_v77 main_v29_3 main_while0b_v78 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_25 (constantI S_ 32 0#32)
  :: StableHlo.unaryIndexed main_v29_0 ![main_while0b_c_25, main_while0b_v78] ⟨S_, .i32⟩ main_while0b_v79 ((fun x i => Host.dynamicSlice S8x1 x (fun k => (i k (Shape.Idx.first h_S_)).toInt) sliceFits_S8x512_S8x1) : (⟨S8x512, .f32⟩ : BufTy).Contents (Elt F) → (Fin 2 → (⟨S_, .i32⟩ : BufTy).Contents (Elt F)) → (⟨S8x1, .f32⟩ : BufTy).Contents (Elt F))
  :: StableHlo.unary main_while0b_v79 main_while0b_v80 (broadcastInDim S8x1x1 ![0, 1] bcast_S8x1_S8x1x1_0_1 : (⟨S8x1, .f32⟩ : BufTy).Contents (Elt F) → (⟨S8x1x1, .f32⟩ : BufTy).Contents (Elt F))
  :: StableHlo.nullary main_while0b_c_26 (constantI S_ 32 0#32)
  :: StableHlo.binary main_v29_3 main_while0b_c_26 main_while0b_v81 (cmpi .slt : (⟨S_, .i32⟩ : BufTy).Contents (Elt F) → (⟨S_, .i32⟩ : BufTy).Contents (Elt F) → (⟨S_, .i1⟩ : BufTy).Contents (Elt F))
  :: StableHlo.unary main_v29_3 main_while0b_v82 (id : (⟨S_, .i32⟩ : BufTy).Contents (Elt F) → (⟨S_, .i32⟩ : BufTy).Contents (Elt F))
  :: StableHlo.nullary main_while0b_c_27 (constantI S_ 32 512#32)
  :: StableHlo.binary main_while0b_v82 main_while0b_c_27 main_while0b_v83 (addi : (⟨S_, .i32⟩ : BufTy).Contents (Elt F) → (⟨S_, .i32⟩ : BufTy).Contents (Elt F) → (⟨S_, .i32⟩ : BufTy).Contents (Elt F))
  :: StableHlo.ternary main_while0b_v81 main_while0b_v83 main_v29_3 main_while0b_v84 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_28 (constantI S_ 32 0#32)
  :: StableHlo.nullary main_while0b_c_29 (constantI S_ 32 0#32)
  :: StableHlo.unaryIndexed main_v29_1 ![main_while0b_c_28, main_while0b_v84, main_while0b_c_29] ⟨S_, .i32⟩ main_while0b_v85 ((fun x i => Host.dynamicSlice S8x1x2048 x (fun k => (i k (Shape.Idx.first h_S_)).toInt) sliceFits_S8x512x2048_S8x1x2048) : (⟨S8x512x2048, .f32⟩ : BufTy).Contents (Elt F) → (Fin 3 → (⟨S_, .i32⟩ : BufTy).Contents (Elt F)) → (⟨S8x1x2048, .f32⟩ : BufTy).Contents (Elt F))
  :: StableHlo.unary main_while0b_v80 main_while0b_v86 (broadcastInDim S8x1x2048 ![0, 1, 2] bcast_S8x1x1_S8x1x2048_0_1_2 : (⟨S8x1x1, .f32⟩ : BufTy).Contents (Elt F) → (⟨S8x1x2048, .f32⟩ : BufTy).Contents (Elt F))
  :: StableHlo.binary main_while0b_v86 main_v29_4 main_while0b_v87 (mulf : (⟨S8x1x2048, .f32⟩ : BufTy).Contents (Elt F) → (⟨S8x1x2048, .f32⟩ : BufTy).Contents (Elt F) → (⟨S8x1x2048, .f32⟩ : BufTy).Contents (Elt F))
  :: StableHlo.nullary main_while0b_cst_30 (constant S_ .f32 0x3F800000#32)
  :: StableHlo.unary main_while0b_cst_30 main_while0b_v88 (broadcastInDim S8x1x1 ![] bcast_S_S8x1x1 : (⟨S_, .f32⟩ : BufTy).Contents (Elt F) → (⟨S8x1x1, .f32⟩ : BufTy).Contents (Elt F))
  :: StableHlo.binary main_while0b_v88 main_while0b_v80 main_while0b_v89 (subf : (⟨S8x1x1, .f32⟩ : BufTy).Contents (Elt F) → (⟨S8x1x1, .f32⟩ : BufTy).Contents (Elt F) → (⟨S8x1x1, .f32⟩ : BufTy).Contents (Elt F))
  :: StableHlo.unary main_while0b_v89 main_while0b_v90 (broadcastInDim S8x1x2048 ![0, 1, 2] bcast_S8x1x1_S8x1x2048_0_1_2 : (⟨S8x1x1, .f32⟩ : BufTy).Contents (Elt F) → (⟨S8x1x2048, .f32⟩ : BufTy).Contents (Elt F))
  :: StableHlo.binary main_while0b_v90 main_while0b_v85 main_while0b_v91 (mulf : (⟨S8x1x2048, .f32⟩ : BufTy).Contents (Elt F) → (⟨S8x1x2048, .f32⟩ : BufTy).Contents (Elt F) → (⟨S8x1x2048, .f32⟩ : BufTy).Contents (Elt F))
  :: StableHlo.binary main_while0b_v87 main_while0b_v91 main_while0b_v92 (addf : (⟨S8x1x2048, .f32⟩ : BufTy).Contents (Elt F) → (⟨S8x1x2048, .f32⟩ : BufTy).Contents (Elt F) → (⟨S8x1x2048, .f32⟩ : BufTy).Contents (Elt F))
  :: StableHlo.nullary main_while0b_c_31 (constantI S_ 32 0#32)
  :: StableHlo.binary main_v29_3 main_while0b_c_31 main_while0b_v93 (cmpi .slt : (⟨S_, .i32⟩ : BufTy).Contents (Elt F) → (⟨S_, .i32⟩ : BufTy).Contents (Elt F) → (⟨S_, .i1⟩ : BufTy).Contents (Elt F))
  :: StableHlo.unary main_v29_3 main_while0b_v94 (id : (⟨S_, .i32⟩ : BufTy).Contents (Elt F) → (⟨S_, .i32⟩ : BufTy).Contents (Elt F))
  :: StableHlo.nullary main_while0b_c_32 (constantI S_ 32 512#32)
  :: StableHlo.binary main_while0b_v94 main_while0b_c_32 main_while0b_v95 (addi : (⟨S_, .i32⟩ : BufTy).Contents (Elt F) → (⟨S_, .i32⟩ : BufTy).Contents (Elt F) → (⟨S_, .i32⟩ : BufTy).Contents (Elt F))
  :: StableHlo.ternary main_while0b_v93 main_while0b_v95 main_v29_3 main_while0b_v96 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_33 (constantI S_ 32 0#32)
  :: StableHlo.nullary main_while0b_c_34 (constantI S_ 32 0#32)
  :: StableHlo.binaryIndexed main_v29_5 main_while0b_v92 ![main_while0b_c_33, main_while0b_v96, main_while0b_c_34] ⟨S_, .i32⟩ main_while0b_v97 ((fun x u i => Host.dynamicUpdateSlice x u (fun k => (i k (Shape.Idx.first h_S_)).toInt) updateFits_S8x512x2048_S8x1x2048) : (⟨S8x512x2048, .f32⟩ : BufTy).Contents (Elt F) → (⟨S8x1x2048, .f32⟩ : BufTy).Contents (Elt F) → (Fin 3 → (⟨S_, .i32⟩ : BufTy).Contents (Elt F)) → (⟨S8x512x2048, .f32⟩ : BufTy).Contents (Elt F))
  :: StableHlo.nullary main_while0b_c_35 (constantI S_ 32 1#32)
  :: StableHlo.binary main_v29_2 main_while0b_c_35 main_while0b_v98 (addi : (⟨S_, .i32⟩ : BufTy).Contents (Elt F) → (⟨S_, .i32⟩ : BufTy).Contents (Elt F) → (⟨S_, .i32⟩ : BufTy).Contents (Elt F))
  :: StableHlo.unary main_while0b_v98 main_v29_2 id
  :: StableHlo.unary main_while0b_v74 main_v29_3 id
  :: StableHlo.unary main_while0b_v92 main_v29_4 id
  :: StableHlo.unary main_while0b_v97 main_v29_5 id
  :: [] )
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.unaryIndexed_bufs_sub .., StableHlo.unary_bufs_sub .., StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.nullary_bufs_sub .., StableHlo.unaryIndexed_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0 ] : Prog (TpuEff nD τ sig (Elt F) (HostLoop.Sig (Pipeline.Sig Λ₀ (Fin 0) fun p => (pcfgs (F := F) p).Adm) 1) .tc) PUnit) := by
  rewrite [StableHlo.chain_seq_cons]
  chain_rfl

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0]
/-- Each operation of `hostOps0` writes into the list `hostOps0_W` only. -/
theorem hostOps0_writes : (hostOps0 : List (HloOp τ sig (Elt F))).Forall fun op => op.writes ⊆ (hostOps0_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_call0_call0_c, main_call0_call0_v0, main_v1]
/-- Each operation of `hostOps0_1` writes into the list `hostOps0_1_W` only. -/
theorem hostOps0_1_writes : (hostOps0_1 : List (HloOp τ sig (Elt F))).Forall fun op => op.writes ⊆ (hostOps0_1_W.map (Proc.devRef (τ := τ) .tc)).toFinset :=
  StableHlo.forall_writes_sub_of_map rfl
/-- No operation of `hostOps0_2` allocates a buffer. -/
theorem hostOps0_2_fresh : (hostOps0_2 : List (HloOp τ sig (Elt F))).Forall fun op => op.fresh = ∅ :=
  StableHlo.forall_fresh_of_map rfl
/-- The reference each operation of `hostOps0_2` writes, in order. -/
abbrev hostOps0_2_W : List (Ref sig .tc) := [main_c, main_v2, main_v3, main_v4, main_v5, main_v6, main_v7, main_v8, main_v9, main_v10, main_v11, main_v12, main_v13, main_cst]
/-- Each operation of `hostOps0_2` writes into the list `hostOps0_2_W` only. -/
theorem hostOps0_2_writes : (hostOps0_2 : List (HloOp τ sig (Elt F))).Forall fun op => op.writes ⊆ (hostOps0_2_W.map (Proc.devRef (τ := τ) .tc)).toFinset :=
  StableHlo.forall_writes_sub_of_map rfl
/-- No operation of `hostOps0_3` allocates a buffer. -/
theorem hostOps0_3_fresh : (hostOps0_3 : List (HloOp τ sig (Elt F))).Forall fun op => op.fresh = ∅ :=
  StableHlo.forall_fresh_of_map rfl
/-- The reference each operation of `hostOps0_3` writes, in order. -/
abbrev hostOps0_3_W : List (Ref sig .tc) := [main_call1_v0, main_call1_v1, main_call1_v2, main_v14]
/-- Each operation of `hostOps0_3` writes into the list `hostOps0_3_W` only. -/
theorem hostOps0_3_writes : (hostOps0_3 : List (HloOp τ sig (Elt F))).Forall fun op => op.writes ⊆ (hostOps0_3_W.map (Proc.devRef (τ := τ) .tc)).toFinset :=
  StableHlo.forall_writes_sub_of_map rfl
/-- No operation of `hostOps0_4` allocates a buffer. -/
theorem hostOps0_4_fresh : (hostOps0_4 : List (HloOp τ sig (Elt F))).Forall fun op => op.fresh = ∅ :=
  StableHlo.forall_fresh_of_map rfl
/-- The reference each operation of `hostOps0_4` writes, in order. -/
abbrev hostOps0_4_W : List (Ref sig .tc) := [main_cst_0, main_v15, main_v16, main_v17, main_v18, main_v19, main_v20, main_v21, main_v22, main_v23, main_cst_1, main_v24, main_v25, main_cst_2, main_cst_3]
/-- Each operation of `hostOps0_4` writes into the list `hostOps0_4_W` only. -/
theorem hostOps0_4_writes : (hostOps0_4 : List (HloOp τ sig (Elt F))).Forall fun op => op.writes ⊆ (hostOps0_4_W.map (Proc.devRef (τ := τ) .tc)).toFinset :=
  StableHlo.forall_writes_sub_of_map rfl
/-- No operation of `hostOps0_5` allocates a buffer. -/
theorem hostOps0_5_fresh : (hostOps0_5 : List (HloOp τ sig (Elt F))).Forall fun op => op.fresh = ∅ :=
  StableHlo.forall_fresh_of_map rfl
/-- The reference each operation of `hostOps0_5` writes, in order. -/
abbrev hostOps0_5_W : List (Ref sig .tc) := [main_call2_v0, main_call2_v1, main_call2_v2, main_call2_v3, main_call2_v4, main_v26]
/-- Each operation of `hostOps0_5` writes into the list `hostOps0_5_W` only. -/
theorem hostOps0_5_writes : (hostOps0_5 : List (HloOp τ sig (Elt F))).Forall fun op => op.writes ⊆ (hostOps0_5_W.map (Proc.devRef (τ := τ) .tc)).toFinset :=
  StableHlo.forall_writes_sub_of_map rfl
/-- No operation of `hostOps0_6` allocates a buffer. -/
theorem hostOps0_6_fresh : (hostOps0_6 : List (HloOp τ sig (Elt F))).Forall fun op => op.fresh = ∅ :=
  StableHlo.forall_fresh_of_map rfl
/-- The reference each operation of `hostOps0_6` writes, in order. -/
abbrev hostOps0_6_W : List (Ref sig .tc) := [main_v27, main_cst_4, main_v28, main_c_5, main_c_6, main_v29_0, main_v29_1, main_v29_2, main_v29_3, main_v29_4, main_v29_5]
/-- Each operation of `hostOps0_6` writes into the list `hostOps0_6_W` only. -/
theorem hostOps0_6_writes : (hostOps0_6 : List (HloOp τ sig (Elt F))).Forall fun op => op.writes ⊆ (hostOps0_6_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_c_22, main_while0b_v74, main_while0b_c_23, main_while0b_v75, main_while0b_v76, main_while0b_c_24, main_while0b_v77, main_while0b_v78, main_while0b_c_25, main_while0b_v79, main_while0b_v80, main_while0b_c_26, main_while0b_v81, main_while0b_v82, main_while0b_c_27, main_while0b_v83, main_while0b_v84, main_while0b_c_28, main_while0b_c_29, main_while0b_v85, main_while0b_v86, main_while0b_v87, main_while0b_cst_30, main_while0b_v88, main_while0b_v89, main_while0b_v90, main_while0b_v91, main_while0b_v92, main_while0b_c_31, main_while0b_v93, main_while0b_v94, main_while0b_c_32, main_while0b_v95, main_while0b_v96, main_while0b_c_33, main_while0b_c_34, main_while0b_v97, main_while0b_c_35, main_while0b_v98, main_v29_2, main_v29_3, main_v29_4, main_v29_5]
/-- Each operation of `while0Ops0` writes into the list `while0Ops0_W` only. -/
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `hostOps0_7` allocates a buffer. -/
theorem hostOps0_7_fresh : (hostOps0_7 : List (HloOp τ sig (Elt F))).Forall fun op => op.fresh = ∅ :=
  StableHlo.forall_fresh_of_map rfl
/-- No operation of `hostOps0_8` allocates a buffer. -/
theorem hostOps0_8_fresh : (hostOps0_8 : List (HloOp τ sig (Elt F))).Forall fun op => op.fresh = ∅ :=
  StableHlo.forall_fresh_of_map rfl
/-- No operation of `hostOps0_9` allocates a buffer. -/
theorem hostOps0_9_fresh : (hostOps0_9 : List (HloOp τ sig (Elt F))).Forall fun op => op.fresh = ∅ :=
  StableHlo.forall_fresh_of_map rfl
/-- No operation of `hostOps0_10` allocates a buffer. -/
theorem hostOps0_10_fresh : (hostOps0_10 : List (HloOp τ sig (Elt F))).Forall fun op => op.fresh = ∅ :=
  StableHlo.forall_fresh_of_map rfl
/-- No operation of `hostOps0_11` allocates a buffer. -/
theorem hostOps0_11_fresh : (hostOps0_11 : List (HloOp τ sig (Elt F))).Forall fun op => op.fresh = ∅ :=
  StableHlo.forall_fresh_of_map rfl
/-- No operation of `hostOps0_12` allocates a buffer. -/
theorem hostOps0_12_fresh : (hostOps0_12 : List (HloOp τ sig (Elt F))).Forall fun op => op.fresh = ∅ :=
  StableHlo.forall_fresh_of_map rfl
/-- No operation of `hostOps0_13` allocates a buffer. -/
theorem hostOps0_13_fresh : (hostOps0_13 : List (HloOp τ sig (Elt F))).Forall fun op => op.fresh = ∅ :=
  StableHlo.forall_fresh_of_map rfl
/-- No operation of `hostOps0_14` allocates a buffer. -/
theorem hostOps0_14_fresh : (hostOps0_14 : List (HloOp τ sig (Elt F))).Forall fun op => op.fresh = ∅ :=
  StableHlo.forall_fresh_of_map rfl
/-- No operation of `hostOps0_15` allocates a buffer. -/
theorem hostOps0_15_fresh : (hostOps0_15 : List (HloOp τ sig (Elt F))).Forall fun op => op.fresh = ∅ :=
  StableHlo.forall_fresh_of_map rfl
/-- No operation of `hostOps0_16` allocates a buffer. -/
theorem hostOps0_16_fresh : (hostOps0_16 : List (HloOp τ sig (Elt F))).Forall fun op => op.fresh = ∅ :=
  StableHlo.forall_fresh_of_map rfl
/-- No operation of `hostOps0_17` allocates a buffer. -/
theorem hostOps0_17_fresh : (hostOps0_17 : List (HloOp τ sig (Elt F))).Forall fun op => op.fresh = ∅ :=
  StableHlo.forall_fresh_of_map rfl
/-- No operation of `hostOps0_18` allocates a buffer. -/
theorem hostOps0_18_fresh : (hostOps0_18 : List (HloOp τ sig (Elt F))).Forall fun op => op.fresh = ∅ :=
  StableHlo.forall_fresh_of_map rfl
/-- No operation of `hostOps0_19` allocates a buffer. -/
theorem hostOps0_19_fresh : (hostOps0_19 : List (HloOp τ sig (Elt F))).Forall fun op => op.fresh = ∅ :=
  StableHlo.forall_fresh_of_map rfl
/-- The reference each operation of `hostOps0_7` writes, in order. -/
abbrev hostOps0_7_W : List (Ref sig .tc) := [main_v30, main_v31, main_v32, main_v33, main_v34, main_v35, main_v36, main_v37, main_v38, main_v39, main_v40]
/-- Each operation of `hostOps0_7` writes into the list `hostOps0_7_W` only. -/
theorem hostOps0_7_writes : (hostOps0_7 : List (HloOp τ sig (Elt F))).Forall fun op => op.writes ⊆ (hostOps0_7_W.map (Proc.devRef (τ := τ) .tc)).toFinset :=
  StableHlo.forall_writes_sub_of_map rfl
/-- The reference each operation of `hostOps0_8` writes, in order. -/
abbrev hostOps0_8_W : List (Ref sig .tc) := [main_call3_call0_c, main_call3_call0_v0, main_v41]
/-- Each operation of `hostOps0_8` writes into the list `hostOps0_8_W` only. -/
theorem hostOps0_8_writes : (hostOps0_8 : List (HloOp τ sig (Elt F))).Forall fun op => op.writes ⊆ (hostOps0_8_W.map (Proc.devRef (τ := τ) .tc)).toFinset :=
  StableHlo.forall_writes_sub_of_map rfl
/-- The reference each operation of `hostOps0_9` writes, in order. -/
abbrev hostOps0_9_W : List (Ref sig .tc) := [main_c_7, main_v42, main_v43, main_c_8, main_c_9]
/-- Each operation of `hostOps0_9` writes into the list `hostOps0_9_W` only. -/
theorem hostOps0_9_writes : (hostOps0_9 : List (HloOp τ sig (Elt F))).Forall fun op => op.writes ⊆ (hostOps0_9_W.map (Proc.devRef (τ := τ) .tc)).toFinset :=
  StableHlo.forall_writes_sub_of_map rfl
/-- The reference each operation of `hostOps0_10` writes, in order. -/
abbrev hostOps0_10_W : List (Ref sig .tc) := [main_call4_v0, main_call4_v1, main_call4_v2, main_call4_v3, main_call4_v4, main_v44]
/-- Each operation of `hostOps0_10` writes into the list `hostOps0_10_W` only. -/
theorem hostOps0_10_writes : (hostOps0_10 : List (HloOp τ sig (Elt F))).Forall fun op => op.writes ⊆ (hostOps0_10_W.map (Proc.devRef (τ := τ) .tc)).toFinset :=
  StableHlo.forall_writes_sub_of_map rfl
/-- The reference each operation of `hostOps0_11` writes, in order. -/
abbrev hostOps0_11_W : List (Ref sig .tc) := [main_c_10, main_v45, main_v46, main_v47]
/-- Each operation of `hostOps0_11` writes into the list `hostOps0_11_W` only. -/
theorem hostOps0_11_writes : (hostOps0_11 : List (HloOp τ sig (Elt F))).Forall fun op => op.writes ⊆ (hostOps0_11_W.map (Proc.devRef (τ := τ) .tc)).toFinset :=
  StableHlo.forall_writes_sub_of_map rfl
/-- The reference each operation of `hostOps0_12` writes, in order. -/
abbrev hostOps0_12_W : List (Ref sig .tc) := [main_v48]
/-- Each operation of `hostOps0_12` writes into the list `hostOps0_12_W` only. -/
theorem hostOps0_12_writes : (hostOps0_12 : List (HloOp τ sig (Elt F))).Forall fun op => op.writes ⊆ (hostOps0_12_W.map (Proc.devRef (τ := τ) .tc)).toFinset :=
  StableHlo.forall_writes_sub_of_map rfl
/-- The reference each operation of `hostOps0_13` writes, in order. -/
abbrev hostOps0_13_W : List (Ref sig .tc) := [main_v49, main_v50, main_v51, main_v52, main_cst_11, main_v53, main_v54, main_v55, main_v56, main_cst_12, main_v57, main_v58, main_v59, main_v60, main_v61, main_v62, main_c_13, main_v63, main_v64, main_c_14, main_c_15]
/-- Each operation of `hostOps0_13` writes into the list `hostOps0_13_W` only. -/
theorem hostOps0_13_writes : (hostOps0_13 : List (HloOp τ sig (Elt F))).Forall fun op => op.writes ⊆ (hostOps0_13_W.map (Proc.devRef (τ := τ) .tc)).toFinset :=
  StableHlo.forall_writes_sub_of_map rfl
/-- The reference each operation of `hostOps0_14` writes, in order. -/
abbrev hostOps0_14_W : List (Ref sig .tc) := [main_call6_v0, main_call6_v1, main_call6_v2, main_call6_v3, main_call6_v4, main_v65]
/-- Each operation of `hostOps0_14` writes into the list `hostOps0_14_W` only. -/
theorem hostOps0_14_writes : (hostOps0_14 : List (HloOp τ sig (Elt F))).Forall fun op => op.writes ⊆ (hostOps0_14_W.map (Proc.devRef (τ := τ) .tc)).toFinset :=
  StableHlo.forall_writes_sub_of_map rfl
/-- The reference each operation of `hostOps0_15` writes, in order. -/
abbrev hostOps0_15_W : List (Ref sig .tc) := [main_v66]
/-- Each operation of `hostOps0_15` writes into the list `hostOps0_15_W` only. -/
theorem hostOps0_15_writes : (hostOps0_15 : List (HloOp τ sig (Elt F))).Forall fun op => op.writes ⊆ (hostOps0_15_W.map (Proc.devRef (τ := τ) .tc)).toFinset :=
  StableHlo.forall_writes_sub_of_map rfl
/-- The reference each operation of `hostOps0_16` writes, in order. -/
abbrev hostOps0_16_W : List (Ref sig .tc) := [main_v67]
/-- Each operation of `hostOps0_16` writes into the list `hostOps0_16_W` only. -/
theorem hostOps0_16_writes : (hostOps0_16 : List (HloOp τ sig (Elt F))).Forall fun op => op.writes ⊆ (hostOps0_16_W.map (Proc.devRef (τ := τ) .tc)).toFinset :=
  StableHlo.forall_writes_sub_of_map rfl
/-- The reference each operation of `hostOps0_17` writes, in order. -/
abbrev hostOps0_17_W : List (Ref sig .tc) := [main_v68, main_c_16, main_v69, main_v70, main_v71]
/-- Each operation of `hostOps0_17` writes into the list `hostOps0_17_W` only. -/
theorem hostOps0_17_writes : (hostOps0_17 : List (HloOp τ sig (Elt F))).Forall fun op => op.writes ⊆ (hostOps0_17_W.map (Proc.devRef (τ := τ) .tc)).toFinset :=
  StableHlo.forall_writes_sub_of_map rfl
/-- The reference each operation of `hostOps0_18` writes, in order. -/
abbrev hostOps0_18_W : List (Ref sig .tc) := [main_call8_v0, main_v72]
/-- Each operation of `hostOps0_18` writes into the list `hostOps0_18_W` only. -/
theorem hostOps0_18_writes : (hostOps0_18 : List (HloOp τ sig (Elt F))).Forall fun op => op.writes ⊆ (hostOps0_18_W.map (Proc.devRef (τ := τ) .tc)).toFinset :=
  StableHlo.forall_writes_sub_of_map rfl
/-- The reference each operation of `hostOps0_19` writes, in order. -/
abbrev hostOps0_19_W : List (Ref sig .tc) := [main_v73]
/-- Each operation of `hostOps0_19` writes into the list `hostOps0_19_W` only. -/
theorem hostOps0_19_writes : (hostOps0_19 : List (HloOp τ sig (Elt F))).Forall fun op => op.writes ⊆ (hostOps0_19_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_22 (constantI S_ 32 512#32),
    StableHlo.binary main_v29_2 main_while0c_c_22 main_while0c_v74 (cmpi .slt) ]

/-- @main's stretches before the loop, the loop body's, and @main's after the loop. -/
abbrev preI : List (List (HloOp τ sig (Elt F))) := [hostOps0, hostOps0_1, hostOps0_2, hostOps0_3, hostOps0_4, hostOps0_5, hostOps0_6]
/-- The loop body's stretches. -/
abbrev bodyI : List (List (HloOp τ sig (Elt F))) := [while0Ops0]
/-- The stretches after the loop. -/
abbrev postI : List (List (HloOp τ sig (Elt F))) := [hostOps0_7, hostOps0_8, hostOps0_9, hostOps0_10, hostOps0_11, hostOps0_12, hostOps0_13, hostOps0_14, hostOps0_15, hostOps0_16, hostOps0_17, hostOps0_18, hostOps0_19]

/-- The stretches before the loop allocate nothing and touch only the buffers of the device. -/
theorem hpre : Plain (preI (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.cons hostOps0_6_sub (hf := List.forall_iff_forall_mem.mp hostOps0_6_fresh) (.nil)))))))
/-- So does the loop body's stretch. -/
theorem hbodyI : Plain (bodyI (F := F)) := .cons while0Ops0_sub (hf := List.forall_iff_forall_mem.mp while0Ops0_fresh) (.nil)
/-- So do the stretches after the loop. -/
theorem hpost : Plain (postI (F := F)) := .cons hostOps0_7_sub (hf := List.forall_iff_forall_mem.mp hostOps0_7_fresh) (.cons hostOps0_8_sub (hf := List.forall_iff_forall_mem.mp hostOps0_8_fresh) (.cons hostOps0_9_sub (hf := List.forall_iff_forall_mem.mp hostOps0_9_fresh) (.cons hostOps0_10_sub (hf := List.forall_iff_forall_mem.mp hostOps0_10_fresh) (.cons hostOps0_11_sub (hf := List.forall_iff_forall_mem.mp hostOps0_11_fresh) (.cons hostOps0_12_sub (hf := List.forall_iff_forall_mem.mp hostOps0_12_fresh) (.cons hostOps0_13_sub (hf := List.forall_iff_forall_mem.mp hostOps0_13_fresh) (.cons hostOps0_14_sub (hf := List.forall_iff_forall_mem.mp hostOps0_14_fresh) (.cons hostOps0_15_sub (hf := List.forall_iff_forall_mem.mp hostOps0_15_fresh) (.cons hostOps0_16_sub (hf := List.forall_iff_forall_mem.mp hostOps0_16_fresh) (.cons hostOps0_17_sub (hf := List.forall_iff_forall_mem.mp hostOps0_17_fresh) (.cons hostOps0_18_sub (hf := List.forall_iff_forall_mem.mp hostOps0_18_fresh) (.cons hostOps0_19_sub (hf := List.forall_iff_forall_mem.mp hostOps0_19_fresh) (.nil)))))))))))))

/-- The reference each operation of `condOps` writes, in order. -/
abbrev condOps_W : List (Ref sig .tc) := [main_while0c_c_22, main_while0c_v74]
/-- Each operation of `condOps` writes into the list `condOps_W` only. -/
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v29_2`) is written by one stretch of the body, `while0Ops0`: not by the condition, nor by the
    body's other stretches. -/
theorem ctr_cond (V : Valuation τ sig (Elt F)) : after condOps V (Proc.devRef .tc main_v29_2) = V (Proc.devRef .tc main_v29_2) :=
  after_of_writes_sub condOps V condOps_writes (by decide +kernel)

/-- The body's operations 1 … 10 of 43. -/
abbrev trip_w0 : List (HloOp τ sig (Elt F)) :=
  [ StableHlo.nullary main_while0b_c_22 (constantI S_ 32 1#32),
    StableHlo.binary main_v29_3 main_while0b_c_22 main_while0b_v74 (addi : (⟨S_, .i32⟩ : BufTy).Contents (Elt F) → (⟨S_, .i32⟩ : BufTy).Contents (Elt F) → (⟨S_, .i32⟩ : BufTy).Contents (Elt F)),
    StableHlo.nullary main_while0b_c_23 (constantI S_ 32 0#32),
    StableHlo.binary main_v29_3 main_while0b_c_23 main_while0b_v75 (cmpi .slt : (⟨S_, .i32⟩ : BufTy).Contents (Elt F) → (⟨S_, .i32⟩ : BufTy).Contents (Elt F) → (⟨S_, .i1⟩ : BufTy).Contents (Elt F)),
    StableHlo.unary main_v29_3 main_while0b_v76 (id : (⟨S_, .i32⟩ : BufTy).Contents (Elt F) → (⟨S_, .i32⟩ : BufTy).Contents (Elt F)),
    StableHlo.nullary main_while0b_c_24 (constantI S_ 32 512#32),
    StableHlo.binary main_while0b_v76 main_while0b_c_24 main_while0b_v77 (addi : (⟨S_, .i32⟩ : BufTy).Contents (Elt F) → (⟨S_, .i32⟩ : BufTy).Contents (Elt F) → (⟨S_, .i32⟩ : BufTy).Contents (Elt F)),
    StableHlo.ternary main_while0b_v75 main_while0b_v77 main_v29_3 main_while0b_v78 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_25 (constantI S_ 32 0#32),
    StableHlo.unaryIndexed main_v29_0 ![main_while0b_c_25, main_while0b_v78] ⟨S_, .i32⟩ main_while0b_v79 ((fun x i => Host.dynamicSlice S8x1 x (fun k => (i k (Shape.Idx.first h_S_)).toInt) sliceFits_S8x512_S8x1) : (⟨S8x512, .f32⟩ : BufTy).Contents (Elt F) → (Fin 2 → (⟨S_, .i32⟩ : BufTy).Contents (Elt F)) → (⟨S8x1, .f32⟩ : BufTy).Contents (Elt F)) ]

/-- The body's operations 11 … 20 of 43. -/
abbrev trip_w1 : List (HloOp τ sig (Elt F)) :=
  [ StableHlo.unary main_while0b_v79 main_while0b_v80 (broadcastInDim S8x1x1 ![0, 1] bcast_S8x1_S8x1x1_0_1 : (⟨S8x1, .f32⟩ : BufTy).Contents (Elt F) → (⟨S8x1x1, .f32⟩ : BufTy).Contents (Elt F)),
    StableHlo.nullary main_while0b_c_26 (constantI S_ 32 0#32),
    StableHlo.binary main_v29_3 main_while0b_c_26 main_while0b_v81 (cmpi .slt : (⟨S_, .i32⟩ : BufTy).Contents (Elt F) → (⟨S_, .i32⟩ : BufTy).Contents (Elt F) → (⟨S_, .i1⟩ : BufTy).Contents (Elt F)),
    StableHlo.unary main_v29_3 main_while0b_v82 (id : (⟨S_, .i32⟩ : BufTy).Contents (Elt F) → (⟨S_, .i32⟩ : BufTy).Contents (Elt F)),
    StableHlo.nullary main_while0b_c_27 (constantI S_ 32 512#32),
    StableHlo.binary main_while0b_v82 main_while0b_c_27 main_while0b_v83 (addi : (⟨S_, .i32⟩ : BufTy).Contents (Elt F) → (⟨S_, .i32⟩ : BufTy).Contents (Elt F) → (⟨S_, .i32⟩ : BufTy).Contents (Elt F)),
    StableHlo.ternary main_while0b_v81 main_while0b_v83 main_v29_3 main_while0b_v84 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_28 (constantI S_ 32 0#32),
    StableHlo.nullary main_while0b_c_29 (constantI S_ 32 0#32),
    StableHlo.unaryIndexed main_v29_1 ![main_while0b_c_28, main_while0b_v84, main_while0b_c_29] ⟨S_, .i32⟩ main_while0b_v85 ((fun x i => Host.dynamicSlice S8x1x2048 x (fun k => (i k (Shape.Idx.first h_S_)).toInt) sliceFits_S8x512x2048_S8x1x2048) : (⟨S8x512x2048, .f32⟩ : BufTy).Contents (Elt F) → (Fin 3 → (⟨S_, .i32⟩ : BufTy).Contents (Elt F)) → (⟨S8x1x2048, .f32⟩ : BufTy).Contents (Elt F)) ]

/-- The body's operations 21 … 37 of 43. -/
abbrev trip_w2 : List (HloOp τ sig (Elt F)) :=
  [ StableHlo.unary main_while0b_v80 main_while0b_v86 (broadcastInDim S8x1x2048 ![0, 1, 2] bcast_S8x1x1_S8x1x2048_0_1_2 : (⟨S8x1x1, .f32⟩ : BufTy).Contents (Elt F) → (⟨S8x1x2048, .f32⟩ : BufTy).Contents (Elt F)),
    StableHlo.binary main_while0b_v86 main_v29_4 main_while0b_v87 (mulf : (⟨S8x1x2048, .f32⟩ : BufTy).Contents (Elt F) → (⟨S8x1x2048, .f32⟩ : BufTy).Contents (Elt F) → (⟨S8x1x2048, .f32⟩ : BufTy).Contents (Elt F)),
    StableHlo.nullary main_while0b_cst_30 (constant S_ .f32 0x3F800000#32),
    StableHlo.unary main_while0b_cst_30 main_while0b_v88 (broadcastInDim S8x1x1 ![] bcast_S_S8x1x1 : (⟨S_, .f32⟩ : BufTy).Contents (Elt F) → (⟨S8x1x1, .f32⟩ : BufTy).Contents (Elt F)),
    StableHlo.binary main_while0b_v88 main_while0b_v80 main_while0b_v89 (subf : (⟨S8x1x1, .f32⟩ : BufTy).Contents (Elt F) → (⟨S8x1x1, .f32⟩ : BufTy).Contents (Elt F) → (⟨S8x1x1, .f32⟩ : BufTy).Contents (Elt F)),
    StableHlo.unary main_while0b_v89 main_while0b_v90 (broadcastInDim S8x1x2048 ![0, 1, 2] bcast_S8x1x1_S8x1x2048_0_1_2 : (⟨S8x1x1, .f32⟩ : BufTy).Contents (Elt F) → (⟨S8x1x2048, .f32⟩ : BufTy).Contents (Elt F)),
    StableHlo.binary main_while0b_v90 main_while0b_v85 main_while0b_v91 (mulf : (⟨S8x1x2048, .f32⟩ : BufTy).Contents (Elt F) → (⟨S8x1x2048, .f32⟩ : BufTy).Contents (Elt F) → (⟨S8x1x2048, .f32⟩ : BufTy).Contents (Elt F)),
    StableHlo.binary main_while0b_v87 main_while0b_v91 main_while0b_v92 (addf : (⟨S8x1x2048, .f32⟩ : BufTy).Contents (Elt F) → (⟨S8x1x2048, .f32⟩ : BufTy).Contents (Elt F) → (⟨S8x1x2048, .f32⟩ : BufTy).Contents (Elt F)),
    StableHlo.nullary main_while0b_c_31 (constantI S_ 32 0#32),
    StableHlo.binary main_v29_3 main_while0b_c_31 main_while0b_v93 (cmpi .slt : (⟨S_, .i32⟩ : BufTy).Contents (Elt F) → (⟨S_, .i32⟩ : BufTy).Contents (Elt F) → (⟨S_, .i1⟩ : BufTy).Contents (Elt F)),
    StableHlo.unary main_v29_3 main_while0b_v94 (id : (⟨S_, .i32⟩ : BufTy).Contents (Elt F) → (⟨S_, .i32⟩ : BufTy).Contents (Elt F)),
    StableHlo.nullary main_while0b_c_32 (constantI S_ 32 512#32),
    StableHlo.binary main_while0b_v94 main_while0b_c_32 main_while0b_v95 (addi : (⟨S_, .i32⟩ : BufTy).Contents (Elt F) → (⟨S_, .i32⟩ : BufTy).Contents (Elt F) → (⟨S_, .i32⟩ : BufTy).Contents (Elt F)),
    StableHlo.ternary main_while0b_v93 main_while0b_v95 main_v29_3 main_while0b_v96 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_33 (constantI S_ 32 0#32),
    StableHlo.nullary main_while0b_c_34 (constantI S_ 32 0#32),
    StableHlo.binaryIndexed main_v29_5 main_while0b_v92 ![main_while0b_c_33, main_while0b_v96, main_while0b_c_34] ⟨S_, .i32⟩ main_while0b_v97 ((fun x u i => Host.dynamicUpdateSlice x u (fun k => (i k (Shape.Idx.first h_S_)).toInt) updateFits_S8x512x2048_S8x1x2048) : (⟨S8x512x2048, .f32⟩ : BufTy).Contents (Elt F) → (⟨S8x1x2048, .f32⟩ : BufTy).Contents (Elt F) → (Fin 3 → (⟨S_, .i32⟩ : BufTy).Contents (Elt F)) → (⟨S8x512x2048, .f32⟩ : BufTy).Contents (Elt F)) ]

/-- The body's operations 38 … 43 of 43: the counter's step and the copies back into the carried buffers. -/
abbrev while0Ops0_step : List (HloOp τ sig (Elt F)) :=
  [ StableHlo.nullary main_while0b_c_35 (constantI S_ 32 1#32),
    StableHlo.binary main_v29_2 main_while0b_c_35 main_while0b_v98 (addi : (⟨S_, .i32⟩ : BufTy).Contents (Elt F) → (⟨S_, .i32⟩ : BufTy).Contents (Elt F) → (⟨S_, .i32⟩ : BufTy).Contents (Elt F)),
    StableHlo.unary main_while0b_v98 main_v29_2 id,
    StableHlo.unary main_while0b_v74 main_v29_3 id,
    StableHlo.unary main_while0b_v92 main_v29_4 id,
    StableHlo.unary main_while0b_v97 main_v29_5 id ]

set_option maxRecDepth 5000 in
/-- `while0Ops0` is its windows in order, then the step. -/
theorem while0Ops0_cut : (while0Ops0 : List (HloOp τ sig (Elt F))) = trip_w0 ++ (trip_w1 ++ (trip_w2 ++ (while0Ops0_step))) := rfl

/-- The buffers that window `trip_w0`'s operations write. -/
abbrev trip_w0_W : List (Ref sig .tc) := [main_while0b_c_22, main_while0b_v74, main_while0b_c_23, main_while0b_v75, main_while0b_v76, main_while0b_c_24, main_while0b_v77, main_while0b_v78, main_while0b_c_25, main_while0b_v79]
set_option maxRecDepth 8192 in
/-- What this stretch of the trip writes lies in its list. -/
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w1`'s operations write. -/
abbrev trip_w1_W : List (Ref sig .tc) := [main_while0b_v80, main_while0b_c_26, main_while0b_v81, main_while0b_v82, main_while0b_c_27, main_while0b_v83, main_while0b_v84, main_while0b_c_28, main_while0b_c_29, main_while0b_v85]
set_option maxRecDepth 8192 in
/-- What this stretch of the trip writes lies in its list. -/
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w2`'s operations write. -/
abbrev trip_w2_W : List (Ref sig .tc) := [main_while0b_v86, main_while0b_v87, main_while0b_cst_30, main_while0b_v88, main_while0b_v89, main_while0b_v90, main_while0b_v91, main_while0b_v92, main_while0b_c_31, main_while0b_v93, main_while0b_v94, main_while0b_c_32, main_while0b_v95, main_while0b_v96, main_while0b_c_33, main_while0b_c_34, main_while0b_v97]
set_option maxRecDepth 8192 in
/-- What this stretch of the trip writes lies in its list. -/
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- This stretch of the trip leaves the loop's counter as it was. -/
theorem ctr_trip_w0 (V : Valuation τ sig (Elt F)) : after trip_w0 V (Proc.devRef .tc main_v29_2) = V (Proc.devRef .tc main_v29_2) :=
  after_of_writes_sub trip_w0 V trip_w0_writes (by decide +kernel)
/-- This stretch of the trip leaves the loop's counter as it was. -/
theorem ctr_trip_w1 (V : Valuation τ sig (Elt F)) : after trip_w1 V (Proc.devRef .tc main_v29_2) = V (Proc.devRef .tc main_v29_2) :=
  after_of_writes_sub trip_w1 V trip_w1_writes (by decide +kernel)
/-- This stretch of the trip leaves the loop's counter as it was. -/
theorem ctr_trip_w2 (V : Valuation τ sig (Elt F)) : after trip_w2 V (Proc.devRef .tc main_v29_2) = V (Proc.devRef .tc main_v29_2) :=
  after_of_writes_sub trip_w2 V trip_w2_writes (by decide +kernel)

set_option maxRecDepth 100000 in
/-- `while0Ops0_step` leaves the counter one step on. -/
theorem ctr_while0Ops0_step (Y : Valuation τ sig (Elt F)) :
    after while0Ops0_step Y (Proc.devRef .tc main_v29_2) = addi (Y (Proc.devRef .tc main_v29_2)) (constantI S_ 32 1#32) := by
  after_results
  rfl

set_option maxRecDepth 100000 in
/-- `while0Ops0` leaves the counter one step on: its windows do not write the counter, and `while0Ops0_step` steps it. -/
theorem ctr_step (X : Valuation τ sig (Elt F)) :
    after while0Ops0 X (Proc.devRef .tc main_v29_2) = addi (X (Proc.devRef .tc main_v29_2)) (constantI S_ 32 1#32) := by
  simp only [while0Ops0_cut, after_append]
  rw [ctr_while0Ops0_step, ctr_trip_w2, ctr_trip_w1, ctr_trip_w0]

/-- The counter is the loop's lower bound at the loop's entry: its last writer before the loop read back. -/
theorem ctr_entry (c : Dev nD) : entryContents preI m c (Proc.devRef .tc main_v29_2) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v29_2) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 512 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v29_2 HostLoop.idx0)
        (HloOp.result _ (atK m k c) main_while0c_c_22 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 512 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 512 m ρ (cond_spec m)

end Cert.Proof.RefProgram
end
-- ==== Proof.RefRun.lean ====
module

public import proofs.«01_k».proof.Proof.RefProgram

/-!
What the reference's run leaves.  `trip_…` reads one trip of the loop from any contents, `STEP` is the trip as a function
of the contents, and `run` states the results: `out_main_v62` and `out_main_v73` of `STEP` iterated 512 times on what
stands before the loop.  The windowed sum and the gather stay folded while the operations after the loop are read.
-/

@[expose] public section

set_option maxRecDepth 1184

noncomputable section

namespace Cert.Proof.RefRun

open Cert.Proof.RefProgram
open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]
variable (m : (ℓ : Loc nD τ sig) → Buf (Elt F) ℓ) (ρ : Dev nD → PrngReg)

/-! ## One trip's values -/

set_option maxRecDepth 8192 in
/-- `main_while0b_v80`'s composed term of the carried buffers (named: it is used 2 times). -/
def res_main_while0b_v80 (V0 : Valuation τ sig (Elt F)) : (Proc.devRef .tc main_while0b_v80 : DevRef τ sig).ty.Contents (Elt F) :=
  broadcastInDim S8x1x1 ![0, 1] bcast_S8x1_S8x1x1_0_1 (Host.dynamicSlice S8x1 (V0 (Proc.devRef .tc main_v29_0)) (fun k => (((![constantI S_ 32 0#32, select (cmpi .slt (V0 (Proc.devRef .tc main_v29_3)) (constantI S_ 32 0#32)) (addi (id (V0 (Proc.devRef .tc main_v29_3))) (constantI S_ 32 512#32)) (V0 (Proc.devRef .tc main_v29_3))] : Fin 2 → (⟨S_, .i32⟩ : BufTy).Contents (Elt F))) k (Shape.Idx.first h_S_)).toInt) sliceFits_S8x512_S8x1)

set_option maxRecDepth 8192 in
/-- `main_while0b_v92`'s composed term of the carried buffers (named: it is used 2 times). -/
def res_main_while0b_v92 (V0 : Valuation τ sig (Elt F)) : (Proc.devRef .tc main_while0b_v92 : DevRef τ sig).ty.Contents (Elt F) :=
  addf (mulf (broadcastInDim S8x1x2048 ![0, 1, 2] bcast_S8x1x1_S8x1x2048_0_1_2 (res_main_while0b_v80 V0)) (V0 (Proc.devRef .tc main_v29_4))) (mulf (broadcastInDim S8x1x2048 ![0, 1, 2] bcast_S8x1x1_S8x1x2048_0_1_2 (subf (broadcastInDim S8x1x1 ![] bcast_S_S8x1x1 (constant S_ .f32 0x3F800000#32)) (res_main_while0b_v80 V0))) (Host.dynamicSlice S8x1x2048 (V0 (Proc.devRef .tc main_v29_1)) (fun k => (((![constantI S_ 32 0#32, select (cmpi .slt (V0 (Proc.devRef .tc main_v29_3)) (constantI S_ 32 0#32)) (addi (id (V0 (Proc.devRef .tc main_v29_3))) (constantI S_ 32 512#32)) (V0 (Proc.devRef .tc main_v29_3)), constantI S_ 32 0#32] : Fin 3 → (⟨S_, .i32⟩ : BufTy).Contents (Elt F))) k (Shape.Idx.first h_S_)).toInt) sliceFits_S8x512x2048_S8x1x2048))

/-- The device's buffer contents before the body's first window. -/
def val0 (V0 : Valuation τ sig (Elt F)) : Valuation τ sig (Elt F) := V0
/-- The contents of `main_v29_3` at this place of a trip. -/
theorem val0_main_v29_3 (V0 : Valuation τ sig (Elt F)) : val0 V0 (no_index (Proc.devRef .tc main_v29_3)) = V0 (Proc.devRef .tc main_v29_3) := rfl
/-- The contents of `main_v29_0` at this place of a trip. -/
theorem val0_main_v29_0 (V0 : Valuation τ sig (Elt F)) : val0 V0 (no_index (Proc.devRef .tc main_v29_0)) = V0 (Proc.devRef .tc main_v29_0) := rfl
/-- The contents of `main_v29_1` at this place of a trip. -/
theorem val0_main_v29_1 (V0 : Valuation τ sig (Elt F)) : val0 V0 (no_index (Proc.devRef .tc main_v29_1)) = V0 (Proc.devRef .tc main_v29_1) := rfl
/-- The contents of `main_v29_4` at this place of a trip. -/
theorem val0_main_v29_4 (V0 : Valuation τ sig (Elt F)) : val0 V0 (no_index (Proc.devRef .tc main_v29_4)) = V0 (Proc.devRef .tc main_v29_4) := rfl
/-- The contents of `main_v29_5` at this place of a trip. -/
theorem val0_main_v29_5 (V0 : Valuation τ sig (Elt F)) : val0 V0 (no_index (Proc.devRef .tc main_v29_5)) = V0 (Proc.devRef .tc main_v29_5) := rfl
/-- The contents of `main_v29_2` at this place of a trip. -/
theorem val0_main_v29_2 (V0 : Valuation τ sig (Elt F)) : val0 V0 (no_index (Proc.devRef .tc main_v29_2)) = V0 (Proc.devRef .tc main_v29_2) := rfl

/-- The device's buffer contents after the body's first 1 window. -/
def val1 (V0 : Valuation τ sig (Elt F)) : Valuation τ sig (Elt F) := after trip_w0 (val0 V0)
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
/-- The contents of `main_v29_3` at this place of a trip. -/
theorem val1_main_v29_3 (V0 : Valuation τ sig (Elt F)) : val1 V0 (no_index (Proc.devRef .tc main_v29_3)) = V0 (Proc.devRef .tc main_v29_3) :=
  (val1_keep V0 main_v29_3 (by decide)).trans (val0_main_v29_3 V0)
/-- The contents of `main_v29_0` at this place of a trip. -/
theorem val1_main_v29_0 (V0 : Valuation τ sig (Elt F)) : val1 V0 (no_index (Proc.devRef .tc main_v29_0)) = V0 (Proc.devRef .tc main_v29_0) :=
  (val1_keep V0 main_v29_0 (by decide)).trans (val0_main_v29_0 V0)
/-- The contents of `main_v29_1` at this place of a trip. -/
theorem val1_main_v29_1 (V0 : Valuation τ sig (Elt F)) : val1 V0 (no_index (Proc.devRef .tc main_v29_1)) = V0 (Proc.devRef .tc main_v29_1) :=
  (val1_keep V0 main_v29_1 (by decide)).trans (val0_main_v29_1 V0)
/-- The contents of `main_v29_4` at this place of a trip. -/
theorem val1_main_v29_4 (V0 : Valuation τ sig (Elt F)) : val1 V0 (no_index (Proc.devRef .tc main_v29_4)) = V0 (Proc.devRef .tc main_v29_4) :=
  (val1_keep V0 main_v29_4 (by decide)).trans (val0_main_v29_4 V0)
/-- The contents of `main_v29_5` at this place of a trip. -/
theorem val1_main_v29_5 (V0 : Valuation τ sig (Elt F)) : val1 V0 (no_index (Proc.devRef .tc main_v29_5)) = V0 (Proc.devRef .tc main_v29_5) :=
  (val1_keep V0 main_v29_5 (by decide)).trans (val0_main_v29_5 V0)
/-- The contents of `main_v29_2` at this place of a trip. -/
theorem val1_main_v29_2 (V0 : Valuation τ sig (Elt F)) : val1 V0 (no_index (Proc.devRef .tc main_v29_2)) = V0 (Proc.devRef .tc main_v29_2) :=
  (val1_keep V0 main_v29_2 (by decide)).trans (val0_main_v29_2 V0)
set_option maxRecDepth 8192 in
set_option maxHeartbeats 1000000 in
/-- The contents of `main_while0b_v74` at this place of a trip. -/
theorem val1_main_while0b_v74 (V0 : Valuation τ sig (Elt F)) : val1 V0 (no_index (Proc.devRef .tc main_while0b_v74)) = addi (V0 (Proc.devRef .tc main_v29_3)) (constantI S_ 32 1#32) := by
  unfold val1
  simp only [trip_w0]
  after_results_entrywise [val0_main_v29_3, cast_eq]
set_option maxRecDepth 8192 in
set_option maxHeartbeats 1000000 in
/-- The contents of `main_while0b_v79` at this place of a trip. -/
theorem val1_main_while0b_v79 (V0 : Valuation τ sig (Elt F)) : val1 V0 (no_index (Proc.devRef .tc main_while0b_v79)) = Host.dynamicSlice S8x1 (V0 (Proc.devRef .tc main_v29_0)) (fun k => (((![constantI S_ 32 0#32, select (cmpi .slt (V0 (Proc.devRef .tc main_v29_3)) (constantI S_ 32 0#32)) (addi (id (V0 (Proc.devRef .tc main_v29_3))) (constantI S_ 32 512#32)) (V0 (Proc.devRef .tc main_v29_3))] : Fin 2 → (⟨S_, .i32⟩ : BufTy).Contents (Elt F))) k (Shape.Idx.first h_S_)).toInt) sliceFits_S8x512_S8x1 := by
  unfold val1
  simp only [trip_w0]
  after_results_entrywise [val0_main_v29_3, val0_main_v29_0, cast_eq]

/-- The device's buffer contents after the body's first 2 windows. -/
def val2 (V0 : Valuation τ sig (Elt F)) : Valuation τ sig (Elt F) := after trip_w1 (val1 V0)
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
/-- The contents of `main_v29_3` at this place of a trip. -/
theorem val2_main_v29_3 (V0 : Valuation τ sig (Elt F)) : val2 V0 (no_index (Proc.devRef .tc main_v29_3)) = V0 (Proc.devRef .tc main_v29_3) :=
  (val2_keep V0 main_v29_3 (by decide)).trans (val1_main_v29_3 V0)
/-- The contents of `main_v29_0` at this place of a trip. -/
theorem val2_main_v29_0 (V0 : Valuation τ sig (Elt F)) : val2 V0 (no_index (Proc.devRef .tc main_v29_0)) = V0 (Proc.devRef .tc main_v29_0) :=
  (val2_keep V0 main_v29_0 (by decide)).trans (val1_main_v29_0 V0)
/-- The contents of `main_v29_1` at this place of a trip. -/
theorem val2_main_v29_1 (V0 : Valuation τ sig (Elt F)) : val2 V0 (no_index (Proc.devRef .tc main_v29_1)) = V0 (Proc.devRef .tc main_v29_1) :=
  (val2_keep V0 main_v29_1 (by decide)).trans (val1_main_v29_1 V0)
/-- The contents of `main_v29_4` at this place of a trip. -/
theorem val2_main_v29_4 (V0 : Valuation τ sig (Elt F)) : val2 V0 (no_index (Proc.devRef .tc main_v29_4)) = V0 (Proc.devRef .tc main_v29_4) :=
  (val2_keep V0 main_v29_4 (by decide)).trans (val1_main_v29_4 V0)
/-- The contents of `main_v29_5` at this place of a trip. -/
theorem val2_main_v29_5 (V0 : Valuation τ sig (Elt F)) : val2 V0 (no_index (Proc.devRef .tc main_v29_5)) = V0 (Proc.devRef .tc main_v29_5) :=
  (val2_keep V0 main_v29_5 (by decide)).trans (val1_main_v29_5 V0)
/-- The contents of `main_v29_2` at this place of a trip. -/
theorem val2_main_v29_2 (V0 : Valuation τ sig (Elt F)) : val2 V0 (no_index (Proc.devRef .tc main_v29_2)) = V0 (Proc.devRef .tc main_v29_2) :=
  (val2_keep V0 main_v29_2 (by decide)).trans (val1_main_v29_2 V0)
/-- The contents of `main_while0b_v74` at this place of a trip. -/
theorem val2_main_while0b_v74 (V0 : Valuation τ sig (Elt F)) : val2 V0 (no_index (Proc.devRef .tc main_while0b_v74)) = addi (V0 (Proc.devRef .tc main_v29_3)) (constantI S_ 32 1#32) :=
  (val2_keep V0 main_while0b_v74 (by decide)).trans (val1_main_while0b_v74 V0)
set_option maxRecDepth 8192 in
set_option maxHeartbeats 1000000 in
/-- The contents of `main_while0b_v80` at this place of a trip. -/
theorem val2_main_while0b_v80 (V0 : Valuation τ sig (Elt F)) : val2 V0 (no_index (Proc.devRef .tc main_while0b_v80)) = res_main_while0b_v80 V0 := by
  unfold val2
  simp only [trip_w1]
  after_results_entrywise [val1_main_while0b_v79, res_main_while0b_v80, cast_eq]
set_option maxRecDepth 8192 in
set_option maxHeartbeats 1000000 in
/-- The contents of `main_while0b_v85` at this place of a trip. -/
theorem val2_main_while0b_v85 (V0 : Valuation τ sig (Elt F)) : val2 V0 (no_index (Proc.devRef .tc main_while0b_v85)) = Host.dynamicSlice S8x1x2048 (V0 (Proc.devRef .tc main_v29_1)) (fun k => (((![constantI S_ 32 0#32, select (cmpi .slt (V0 (Proc.devRef .tc main_v29_3)) (constantI S_ 32 0#32)) (addi (id (V0 (Proc.devRef .tc main_v29_3))) (constantI S_ 32 512#32)) (V0 (Proc.devRef .tc main_v29_3)), constantI S_ 32 0#32] : Fin 3 → (⟨S_, .i32⟩ : BufTy).Contents (Elt F))) k (Shape.Idx.first h_S_)).toInt) sliceFits_S8x512x2048_S8x1x2048 := by
  unfold val2
  simp only [trip_w1]
  after_results_entrywise [val1_main_v29_3, val1_main_v29_1, cast_eq]

/-- The device's buffer contents after the body's first 3 windows. -/
def val3 (V0 : Valuation τ sig (Elt F)) : Valuation τ sig (Elt F) := after trip_w2 (val2 V0)
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
/-- The contents of `main_v29_3` at this place of a trip. -/
theorem val3_main_v29_3 (V0 : Valuation τ sig (Elt F)) : val3 V0 (no_index (Proc.devRef .tc main_v29_3)) = V0 (Proc.devRef .tc main_v29_3) :=
  (val3_keep V0 main_v29_3 (by decide)).trans (val2_main_v29_3 V0)
/-- The contents of `main_v29_0` at this place of a trip. -/
theorem val3_main_v29_0 (V0 : Valuation τ sig (Elt F)) : val3 V0 (no_index (Proc.devRef .tc main_v29_0)) = V0 (Proc.devRef .tc main_v29_0) :=
  (val3_keep V0 main_v29_0 (by decide)).trans (val2_main_v29_0 V0)
/-- The contents of `main_v29_1` at this place of a trip. -/
theorem val3_main_v29_1 (V0 : Valuation τ sig (Elt F)) : val3 V0 (no_index (Proc.devRef .tc main_v29_1)) = V0 (Proc.devRef .tc main_v29_1) :=
  (val3_keep V0 main_v29_1 (by decide)).trans (val2_main_v29_1 V0)
/-- The contents of `main_v29_4` at this place of a trip. -/
theorem val3_main_v29_4 (V0 : Valuation τ sig (Elt F)) : val3 V0 (no_index (Proc.devRef .tc main_v29_4)) = V0 (Proc.devRef .tc main_v29_4) :=
  (val3_keep V0 main_v29_4 (by decide)).trans (val2_main_v29_4 V0)
/-- The contents of `main_v29_5` at this place of a trip. -/
theorem val3_main_v29_5 (V0 : Valuation τ sig (Elt F)) : val3 V0 (no_index (Proc.devRef .tc main_v29_5)) = V0 (Proc.devRef .tc main_v29_5) :=
  (val3_keep V0 main_v29_5 (by decide)).trans (val2_main_v29_5 V0)
/-- The contents of `main_v29_2` at this place of a trip. -/
theorem val3_main_v29_2 (V0 : Valuation τ sig (Elt F)) : val3 V0 (no_index (Proc.devRef .tc main_v29_2)) = V0 (Proc.devRef .tc main_v29_2) :=
  (val3_keep V0 main_v29_2 (by decide)).trans (val2_main_v29_2 V0)
/-- The contents of `main_while0b_v74` at this place of a trip. -/
theorem val3_main_while0b_v74 (V0 : Valuation τ sig (Elt F)) : val3 V0 (no_index (Proc.devRef .tc main_while0b_v74)) = addi (V0 (Proc.devRef .tc main_v29_3)) (constantI S_ 32 1#32) :=
  (val3_keep V0 main_while0b_v74 (by decide)).trans (val2_main_while0b_v74 V0)
set_option maxRecDepth 8192 in
set_option maxHeartbeats 1700000 in
/-- The contents of `main_while0b_v92` at this place of a trip. -/
theorem val3_main_while0b_v92 (V0 : Valuation τ sig (Elt F)) : val3 V0 (no_index (Proc.devRef .tc main_while0b_v92)) = res_main_while0b_v92 V0 := by
  unfold val3
  simp only [trip_w2]
  after_results_entrywise [val2_main_while0b_v85, val2_main_while0b_v80, val2_main_v29_4, res_main_while0b_v92, cast_eq]
set_option maxRecDepth 8192 in
set_option maxHeartbeats 1700000 in
/-- The contents of `main_while0b_v97` at this place of a trip. -/
theorem val3_main_while0b_v97 (V0 : Valuation τ sig (Elt F)) : val3 V0 (no_index (Proc.devRef .tc main_while0b_v97)) = Host.dynamicUpdateSlice (V0 (Proc.devRef .tc main_v29_5)) (res_main_while0b_v92 V0) (fun k => (((![constantI S_ 32 0#32, select (cmpi .slt (V0 (Proc.devRef .tc main_v29_3)) (constantI S_ 32 0#32)) (addi (id (V0 (Proc.devRef .tc main_v29_3))) (constantI S_ 32 512#32)) (V0 (Proc.devRef .tc main_v29_3)), constantI S_ 32 0#32] : Fin 3 → (⟨S_, .i32⟩ : BufTy).Contents (Elt F))) k (Shape.Idx.first h_S_)).toInt) updateFits_S8x512x2048_S8x1x2048 := by
  unfold val3
  simp only [trip_w2]
  after_results_entrywise [val2_main_v29_3, val2_main_while0b_v85, val2_main_while0b_v80, val2_main_v29_4, val2_main_v29_5, res_main_while0b_v92, cast_eq]

set_option maxRecDepth 8192 in
/-- `while0Ops0`, from any contents: the trip's windows in order, then the step. -/
theorem trip_windows (V0 : Valuation τ sig (Elt F)) : after while0Ops0 (V0) = after while0Ops0_step (val3 V0) := by
  simp only [while0Ops0_cut, after_append]
  rfl

set_option maxRecDepth 8192 in
set_option maxHeartbeats 2000000 in
/-- `main_v29_0` after one trip's body, from any contents. -/
theorem trip_main_v29_0 (V0 : Valuation τ sig (Elt F)) : afterL bodyI V0 (no_index (Proc.devRef .tc main_v29_0)) = V0 (Proc.devRef .tc main_v29_0) := by
  simp only [bodyI, afterL_cons, afterL_nil, trip_windows]
  after_results
  all_goals (try simp only [val3_main_while0b_v74, val3_main_while0b_v92, val3_main_while0b_v97, val3_main_v29_0, val3_main_v29_1, val3_main_v29_2, val3_main_v29_3, val3_main_v29_4, val3_main_v29_5]) <;> rfl
set_option maxRecDepth 8192 in
set_option maxHeartbeats 2000000 in
/-- `main_v29_1` after one trip's body, from any contents. -/
theorem trip_main_v29_1 (V0 : Valuation τ sig (Elt F)) : afterL bodyI V0 (no_index (Proc.devRef .tc main_v29_1)) = V0 (Proc.devRef .tc main_v29_1) := by
  simp only [bodyI, afterL_cons, afterL_nil, trip_windows]
  after_results
  all_goals (try simp only [val3_main_while0b_v74, val3_main_while0b_v92, val3_main_while0b_v97, val3_main_v29_0, val3_main_v29_1, val3_main_v29_2, val3_main_v29_3, val3_main_v29_4, val3_main_v29_5]) <;> rfl
set_option maxRecDepth 8192 in
set_option maxHeartbeats 2000000 in
/-- `main_v29_2` after one trip's body, from any contents. -/
theorem trip_main_v29_2 (V0 : Valuation τ sig (Elt F)) : afterL bodyI V0 (no_index (Proc.devRef .tc main_v29_2)) = id (addi (V0 (Proc.devRef .tc main_v29_2)) (constantI S_ 32 1#32)) := by
  simp only [bodyI, afterL_cons, afterL_nil, trip_windows]
  after_results
  all_goals (try simp only [val3_main_while0b_v74, val3_main_while0b_v92, val3_main_while0b_v97, val3_main_v29_0, val3_main_v29_1, val3_main_v29_2, val3_main_v29_3, val3_main_v29_4, val3_main_v29_5]) <;> rfl
set_option maxRecDepth 8192 in
set_option maxHeartbeats 2000000 in
/-- `main_v29_3` after one trip's body, from any contents. -/
theorem trip_main_v29_3 (V0 : Valuation τ sig (Elt F)) : afterL bodyI V0 (no_index (Proc.devRef .tc main_v29_3)) = id (addi (V0 (Proc.devRef .tc main_v29_3)) (constantI S_ 32 1#32)) := by
  simp only [bodyI, afterL_cons, afterL_nil, trip_windows]
  after_results
  all_goals (try simp only [val3_main_while0b_v74, val3_main_while0b_v92, val3_main_while0b_v97, val3_main_v29_0, val3_main_v29_1, val3_main_v29_2, val3_main_v29_3, val3_main_v29_4, val3_main_v29_5]) <;> rfl
set_option maxRecDepth 8192 in
set_option maxHeartbeats 2000000 in
/-- `main_v29_4` after one trip's body, from any contents. -/
theorem trip_main_v29_4 (V0 : Valuation τ sig (Elt F)) : afterL bodyI V0 (no_index (Proc.devRef .tc main_v29_4)) = id (res_main_while0b_v92 V0) := by
  simp only [bodyI, afterL_cons, afterL_nil, trip_windows]
  after_results
  all_goals (try simp only [val3_main_while0b_v74, val3_main_while0b_v92, val3_main_while0b_v97, val3_main_v29_0, val3_main_v29_1, val3_main_v29_2, val3_main_v29_3, val3_main_v29_4, val3_main_v29_5]) <;> rfl
set_option maxRecDepth 8192 in
set_option maxHeartbeats 2000000 in
/-- `main_v29_5` after one trip's body, from any contents. -/
theorem trip_main_v29_5 (V0 : Valuation τ sig (Elt F)) : afterL bodyI V0 (no_index (Proc.devRef .tc main_v29_5)) = id (Host.dynamicUpdateSlice (V0 (Proc.devRef .tc main_v29_5)) (res_main_while0b_v92 V0) (fun k => (((![constantI S_ 32 0#32, select (cmpi .slt (V0 (Proc.devRef .tc main_v29_3)) (constantI S_ 32 0#32)) (addi (id (V0 (Proc.devRef .tc main_v29_3))) (constantI S_ 32 512#32)) (V0 (Proc.devRef .tc main_v29_3)), constantI S_ 32 0#32] : Fin 3 → (⟨S_, .i32⟩ : BufTy).Contents (Elt F))) k (Shape.Idx.first h_S_)).toInt) updateFits_S8x512x2048_S8x1x2048) := by
  simp only [bodyI, afterL_cons, afterL_nil, trip_windows]
  after_results
  all_goals (try simp only [val3_main_while0b_v74, val3_main_while0b_v92, val3_main_while0b_v97, val3_main_v29_0, val3_main_v29_1, val3_main_v29_2, val3_main_v29_3, val3_main_v29_4, val3_main_v29_5]) <;> rfl

/-- The loop's carried buffers. -/
abbrev carriedRefs : List (Ref sig .tc) := [main_v29_0, main_v29_1, main_v29_2, main_v29_3, main_v29_4, main_v29_5]
/-- Two contents agree on the carried buffers: all that one trip reads. -/
def Agree (V V' : Valuation τ sig (Elt F)) : Prop := ∀ j ∈ carriedRefs, V (Proc.devRef .tc j) = V' (Proc.devRef .tc j)

set_option maxRecDepth 8192 in
/-- `res_main_while0b_v80` depends only on the buffers that it reads. -/
theorem res_main_while0b_v80_congr {V0 V0' : Valuation τ sig (Elt F)} (h : Agree V0 V0') : res_main_while0b_v80 V0 = res_main_while0b_v80 V0' := by
  unfold res_main_while0b_v80
  rw [h main_v29_0 (by decide), h main_v29_3 (by decide)]
set_option maxRecDepth 8192 in
/-- `res_main_while0b_v92` depends only on the buffers that it reads. -/
theorem res_main_while0b_v92_congr {V0 V0' : Valuation τ sig (Elt F)} (h : Agree V0 V0') : res_main_while0b_v92 V0 = res_main_while0b_v92 V0' := by
  unfold res_main_while0b_v92
  rw [res_main_while0b_v80_congr h, h main_v29_4 (by decide), h main_v29_1 (by decide), h main_v29_3 (by decide)]

set_option maxRecDepth 8192 in
/-- `main_v29_2` after one trip, of the contents before it. -/
def step_main_v29_2 (V0 : Valuation τ sig (Elt F)) : (Proc.devRef .tc main_v29_2 : DevRef τ sig).ty.Contents (Elt F) :=
  id (addi (V0 (Proc.devRef .tc main_v29_2)) (constantI S_ 32 1#32))
set_option maxRecDepth 8192 in
/-- `step_main_v29_2` depends only on the buffers that it reads. -/
theorem step_main_v29_2_congr {V0 V0' : Valuation τ sig (Elt F)} (h : Agree V0 V0') : step_main_v29_2 V0 = step_main_v29_2 V0' := by
  unfold step_main_v29_2
  rw [h main_v29_2 (by decide)]
set_option maxRecDepth 8192 in
/-- `main_v29_3` after one trip, of the contents before it. -/
def step_main_v29_3 (V0 : Valuation τ sig (Elt F)) : (Proc.devRef .tc main_v29_3 : DevRef τ sig).ty.Contents (Elt F) :=
  id (addi (V0 (Proc.devRef .tc main_v29_3)) (constantI S_ 32 1#32))
set_option maxRecDepth 8192 in
/-- `step_main_v29_3` depends only on the buffers that it reads. -/
theorem step_main_v29_3_congr {V0 V0' : Valuation τ sig (Elt F)} (h : Agree V0 V0') : step_main_v29_3 V0 = step_main_v29_3 V0' := by
  unfold step_main_v29_3
  rw [h main_v29_3 (by decide)]
set_option maxRecDepth 8192 in
/-- `main_v29_4` after one trip, of the contents before it. -/
def step_main_v29_4 (V0 : Valuation τ sig (Elt F)) : (Proc.devRef .tc main_v29_4 : DevRef τ sig).ty.Contents (Elt F) :=
  id (res_main_while0b_v92 V0)
set_option maxRecDepth 8192 in
/-- `step_main_v29_4` depends only on the buffers that it reads. -/
theorem step_main_v29_4_congr {V0 V0' : Valuation τ sig (Elt F)} (h : Agree V0 V0') : step_main_v29_4 V0 = step_main_v29_4 V0' := by
  unfold step_main_v29_4
  rw [res_main_while0b_v92_congr h]
set_option maxRecDepth 8192 in
/-- `main_v29_5` after one trip, of the contents before it. -/
def step_main_v29_5 (V0 : Valuation τ sig (Elt F)) : (Proc.devRef .tc main_v29_5 : DevRef τ sig).ty.Contents (Elt F) :=
  id (Host.dynamicUpdateSlice (V0 (Proc.devRef .tc main_v29_5)) (res_main_while0b_v92 V0) (fun k => (((![constantI S_ 32 0#32, select (cmpi .slt (V0 (Proc.devRef .tc main_v29_3)) (constantI S_ 32 0#32)) (addi (id (V0 (Proc.devRef .tc main_v29_3))) (constantI S_ 32 512#32)) (V0 (Proc.devRef .tc main_v29_3)), constantI S_ 32 0#32] : Fin 3 → (⟨S_, .i32⟩ : BufTy).Contents (Elt F))) k (Shape.Idx.first h_S_)).toInt) updateFits_S8x512x2048_S8x1x2048)
set_option maxRecDepth 8192 in
/-- `step_main_v29_5` depends only on the buffers that it reads. -/
theorem step_main_v29_5_congr {V0 V0' : Valuation τ sig (Elt F)} (h : Agree V0 V0') : step_main_v29_5 V0 = step_main_v29_5 V0' := by
  unfold step_main_v29_5
  rw [res_main_while0b_v92_congr h, h main_v29_5 (by decide), h main_v29_3 (by decide)]

/-- ONE TRIP on the carried buffers: the buffers the body writes step, everything else is as it was. -/
def STEP (V0 : Valuation τ sig (Elt F)) : Valuation τ sig (Elt F) :=
  Function.update (Function.update (Function.update (Function.update (V0) (Proc.devRef .tc main_v29_2) (step_main_v29_2 V0)) (Proc.devRef .tc main_v29_3) (step_main_v29_3 V0)) (Proc.devRef .tc main_v29_4) (step_main_v29_4 V0)) (Proc.devRef .tc main_v29_5) (step_main_v29_5 V0)

/-- What `STEP` puts at the carried buffer `main_v29_0`. -/
theorem STEP_main_v29_0 (V0 : Valuation τ sig (Elt F)) : STEP V0 (Proc.devRef .tc main_v29_0) = V0 (Proc.devRef .tc main_v29_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
/-- What `STEP` puts at the carried buffer `main_v29_1`. -/
theorem STEP_main_v29_1 (V0 : Valuation τ sig (Elt F)) : STEP V0 (Proc.devRef .tc main_v29_1) = V0 (Proc.devRef .tc main_v29_1) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
/-- What `STEP` puts at the carried buffer `main_v29_2`. -/
theorem STEP_main_v29_2 (V0 : Valuation τ sig (Elt F)) : STEP V0 (Proc.devRef .tc main_v29_2) = step_main_v29_2 V0 := by
  unfold STEP; rw [Function.update_of_ne (devRef_ne_of_ne (by decide))]; rw [Function.update_of_ne (devRef_ne_of_ne (by decide))]; rw [Function.update_of_ne (devRef_ne_of_ne (by decide))]; rw [Function.update_self]
/-- What `STEP` puts at the carried buffer `main_v29_3`. -/
theorem STEP_main_v29_3 (V0 : Valuation τ sig (Elt F)) : STEP V0 (Proc.devRef .tc main_v29_3) = step_main_v29_3 V0 := by
  unfold STEP; rw [Function.update_of_ne (devRef_ne_of_ne (by decide))]; rw [Function.update_of_ne (devRef_ne_of_ne (by decide))]; rw [Function.update_self]
/-- What `STEP` puts at the carried buffer `main_v29_4`. -/
theorem STEP_main_v29_4 (V0 : Valuation τ sig (Elt F)) : STEP V0 (Proc.devRef .tc main_v29_4) = step_main_v29_4 V0 := by
  unfold STEP; rw [Function.update_of_ne (devRef_ne_of_ne (by decide))]; rw [Function.update_self]
/-- What `STEP` puts at the carried buffer `main_v29_5`. -/
theorem STEP_main_v29_5 (V0 : Valuation τ sig (Elt F)) : STEP V0 (Proc.devRef .tc main_v29_5) = step_main_v29_5 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v29_0 (after condOps X)).trans ((hc main_v29_0 (by decide)).trans (STEP_main_v29_0 X).symm)
  · exact (trip_main_v29_1 (after condOps X)).trans ((hc main_v29_1 (by decide)).trans (STEP_main_v29_1 X).symm)
  · exact (trip_main_v29_2 (after condOps X)).trans ((step_main_v29_2_congr hc).trans (STEP_main_v29_2 X).symm)
  · exact (trip_main_v29_3 (after condOps X)).trans ((step_main_v29_3_congr hc).trans (STEP_main_v29_3 X).symm)
  · exact (trip_main_v29_4 (after condOps X)).trans ((step_main_v29_4_congr hc).trans (STEP_main_v29_4 X).symm)
  · exact (trip_main_v29_5 (after condOps X)).trans ((step_main_v29_5_congr hc).trans (STEP_main_v29_5 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v29_0, STEP_main_v29_0]; exact h main_v29_0 (by decide)
  · rw [STEP_main_v29_1, STEP_main_v29_1]; exact h main_v29_1 (by decide)
  · rw [STEP_main_v29_2, STEP_main_v29_2]; exact step_main_v29_2_congr h
  · rw [STEP_main_v29_3, STEP_main_v29_3]; exact step_main_v29_3_congr h
  · rw [STEP_main_v29_4, STEP_main_v29_4]; exact step_main_v29_4_congr h
  · rw [STEP_main_v29_5, STEP_main_v29_5]; exact step_main_v29_5_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

/-- `hostOps0` leaves the argument `main_arg0` as it was. -/
theorem keep_main_arg0_hostOps0 (V : Valuation τ sig (Elt F)) : after hostOps0 V (Proc.devRef .tc main_arg0) = V (Proc.devRef .tc main_arg0) :=
  after_of_writes_sub hostOps0 V hostOps0_writes (by decide +kernel)
/-- `hostOps0_1` leaves the argument `main_arg0` as it was. -/
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
/-- `hostOps0_2` leaves the argument `main_arg0` as it was. -/
theorem keep_main_arg0_hostOps0_2 (V : Valuation τ sig (Elt F)) : after hostOps0_2 V (Proc.devRef .tc main_arg0) = V (Proc.devRef .tc main_arg0) :=
  after_of_writes_sub hostOps0_2 V hostOps0_2_writes (by decide +kernel)
/-- `hostOps0_3` leaves the argument `main_arg0` as it was. -/
theorem keep_main_arg0_hostOps0_3 (V : Valuation τ sig (Elt F)) : after hostOps0_3 V (Proc.devRef .tc main_arg0) = V (Proc.devRef .tc main_arg0) :=
  after_of_writes_sub hostOps0_3 V hostOps0_3_writes (by decide +kernel)
/-- `hostOps0_4` leaves the argument `main_arg0` as it was. -/
theorem keep_main_arg0_hostOps0_4 (V : Valuation τ sig (Elt F)) : after hostOps0_4 V (Proc.devRef .tc main_arg0) = V (Proc.devRef .tc main_arg0) :=
  after_of_writes_sub hostOps0_4 V hostOps0_4_writes (by decide +kernel)
/-- `hostOps0_5` leaves the argument `main_arg0` as it was. -/
theorem keep_main_arg0_hostOps0_5 (V : Valuation τ sig (Elt F)) : after hostOps0_5 V (Proc.devRef .tc main_arg0) = V (Proc.devRef .tc main_arg0) :=
  after_of_writes_sub hostOps0_5 V hostOps0_5_writes (by decide +kernel)
/-- `hostOps0_6` leaves the argument `main_arg0` as it was. -/
theorem keep_main_arg0_hostOps0_6 (V : Valuation τ sig (Elt F)) : after hostOps0_6 V (Proc.devRef .tc main_arg0) = V (Proc.devRef .tc main_arg0) :=
  after_of_writes_sub hostOps0_6 V hostOps0_6_writes (by decide +kernel)
/-- `condOps` leaves the argument `main_arg0` as it was. -/
theorem keep_main_arg0_condOps (V : Valuation τ sig (Elt F)) : after condOps V (Proc.devRef .tc main_arg0) = V (Proc.devRef .tc main_arg0) :=
  after_of_writes_sub condOps V condOps_writes (by decide +kernel)
/-- `while0Ops0` leaves the argument `main_arg0` as it was. -/
theorem keep_main_arg0_while0Ops0 (V : Valuation τ sig (Elt F)) : after while0Ops0 V (Proc.devRef .tc main_arg0) = V (Proc.devRef .tc main_arg0) :=
  after_of_writes_sub while0Ops0 V while0Ops0_writes (by decide +kernel)
/-- `hostOps0_7` leaves the argument `main_arg0` as it was. -/
theorem keep_main_arg0_hostOps0_7 (V : Valuation τ sig (Elt F)) : after hostOps0_7 V (Proc.devRef .tc main_arg0) = V (Proc.devRef .tc main_arg0) :=
  after_of_writes_sub hostOps0_7 V hostOps0_7_writes (by decide +kernel)
/-- `hostOps0_8` leaves the argument `main_arg0` as it was. -/
theorem keep_main_arg0_hostOps0_8 (V : Valuation τ sig (Elt F)) : after hostOps0_8 V (Proc.devRef .tc main_arg0) = V (Proc.devRef .tc main_arg0) :=
  after_of_writes_sub hostOps0_8 V hostOps0_8_writes (by decide +kernel)
/-- `hostOps0_9` leaves the argument `main_arg0` as it was. -/
theorem keep_main_arg0_hostOps0_9 (V : Valuation τ sig (Elt F)) : after hostOps0_9 V (Proc.devRef .tc main_arg0) = V (Proc.devRef .tc main_arg0) :=
  after_of_writes_sub hostOps0_9 V hostOps0_9_writes (by decide +kernel)
/-- `hostOps0_10` leaves the argument `main_arg0` as it was. -/
theorem keep_main_arg0_hostOps0_10 (V : Valuation τ sig (Elt F)) : after hostOps0_10 V (Proc.devRef .tc main_arg0) = V (Proc.devRef .tc main_arg0) :=
  after_of_writes_sub hostOps0_10 V hostOps0_10_writes (by decide +kernel)
/-- `hostOps0_11` leaves the argument `main_arg0` as it was. -/
theorem keep_main_arg0_hostOps0_11 (V : Valuation τ sig (Elt F)) : after hostOps0_11 V (Proc.devRef .tc main_arg0) = V (Proc.devRef .tc main_arg0) :=
  after_of_writes_sub hostOps0_11 V hostOps0_11_writes (by decide +kernel)
/-- `hostOps0_12` leaves the argument `main_arg0` as it was. -/
theorem keep_main_arg0_hostOps0_12 (V : Valuation τ sig (Elt F)) : after hostOps0_12 V (Proc.devRef .tc main_arg0) = V (Proc.devRef .tc main_arg0) :=
  after_of_writes_sub hostOps0_12 V hostOps0_12_writes (by decide +kernel)
/-- `hostOps0_13` leaves the argument `main_arg0` as it was. -/
theorem keep_main_arg0_hostOps0_13 (V : Valuation τ sig (Elt F)) : after hostOps0_13 V (Proc.devRef .tc main_arg0) = V (Proc.devRef .tc main_arg0) :=
  after_of_writes_sub hostOps0_13 V hostOps0_13_writes (by decide +kernel)
/-- `hostOps0_14` leaves the argument `main_arg0` as it was. -/
theorem keep_main_arg0_hostOps0_14 (V : Valuation τ sig (Elt F)) : after hostOps0_14 V (Proc.devRef .tc main_arg0) = V (Proc.devRef .tc main_arg0) :=
  after_of_writes_sub hostOps0_14 V hostOps0_14_writes (by decide +kernel)
/-- `hostOps0_15` leaves the argument `main_arg0` as it was. -/
theorem keep_main_arg0_hostOps0_15 (V : Valuation τ sig (Elt F)) : after hostOps0_15 V (Proc.devRef .tc main_arg0) = V (Proc.devRef .tc main_arg0) :=
  after_of_writes_sub hostOps0_15 V hostOps0_15_writes (by decide +kernel)
/-- `hostOps0_16` leaves the argument `main_arg0` as it was. -/
theorem keep_main_arg0_hostOps0_16 (V : Valuation τ sig (Elt F)) : after hostOps0_16 V (Proc.devRef .tc main_arg0) = V (Proc.devRef .tc main_arg0) :=
  after_of_writes_sub hostOps0_16 V hostOps0_16_writes (by decide +kernel)
/-- `hostOps0_17` leaves the argument `main_arg0` as it was. -/
theorem keep_main_arg0_hostOps0_17 (V : Valuation τ sig (Elt F)) : after hostOps0_17 V (Proc.devRef .tc main_arg0) = V (Proc.devRef .tc main_arg0) :=
  after_of_writes_sub hostOps0_17 V hostOps0_17_writes (by decide +kernel)
/-- `hostOps0_18` leaves the argument `main_arg0` as it was. -/
theorem keep_main_arg0_hostOps0_18 (V : Valuation τ sig (Elt F)) : after hostOps0_18 V (Proc.devRef .tc main_arg0) = V (Proc.devRef .tc main_arg0) :=
  after_of_writes_sub hostOps0_18 V hostOps0_18_writes (by decide +kernel)
/-- `hostOps0_19` leaves the argument `main_arg0` as it was. -/
theorem keep_main_arg0_hostOps0_19 (V : Valuation τ sig (Elt F)) : after hostOps0_19 V (Proc.devRef .tc main_arg0) = V (Proc.devRef .tc main_arg0) :=
  after_of_writes_sub hostOps0_19 V hostOps0_19_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0_6, keep_main_arg0_hostOps0_5, keep_main_arg0_hostOps0_4, keep_main_arg0_hostOps0_3, keep_main_arg0_hostOps0_2, keep_main_arg0_hostOps0_1, keep_main_arg0_hostOps0]
  | k + 1 => by
    rw [show atK m (k + 1) c = afterL bodyI (after condOps (atK m k c)) from rfl]
    simp only [afterL_cons, afterL_nil]
    rw [keep_main_arg0_while0Ops0, keep_main_arg0_condOps, atK_main_arg0 c k]

/-- `hostOps0` leaves the argument `main_arg1` as it was. -/
theorem keep_main_arg1_hostOps0 (V : Valuation τ sig (Elt F)) : after hostOps0 V (Proc.devRef .tc main_arg1) = V (Proc.devRef .tc main_arg1) :=
  after_of_writes_sub hostOps0 V hostOps0_writes (by decide +kernel)
/-- `hostOps0_1` leaves the argument `main_arg1` as it was. -/
theorem keep_main_arg1_hostOps0_1 (V : Valuation τ sig (Elt F)) : after hostOps0_1 V (Proc.devRef .tc main_arg1) = V (Proc.devRef .tc main_arg1) :=
  after_of_writes_sub hostOps0_1 V hostOps0_1_writes (by decide +kernel)
/-- `hostOps0_2` leaves the argument `main_arg1` as it was. -/
theorem keep_main_arg1_hostOps0_2 (V : Valuation τ sig (Elt F)) : after hostOps0_2 V (Proc.devRef .tc main_arg1) = V (Proc.devRef .tc main_arg1) :=
  after_of_writes_sub hostOps0_2 V hostOps0_2_writes (by decide +kernel)
/-- `hostOps0_3` leaves the argument `main_arg1` as it was. -/
theorem keep_main_arg1_hostOps0_3 (V : Valuation τ sig (Elt F)) : after hostOps0_3 V (Proc.devRef .tc main_arg1) = V (Proc.devRef .tc main_arg1) :=
  after_of_writes_sub hostOps0_3 V hostOps0_3_writes (by decide +kernel)
/-- `hostOps0_4` leaves the argument `main_arg1` as it was. -/
theorem keep_main_arg1_hostOps0_4 (V : Valuation τ sig (Elt F)) : after hostOps0_4 V (Proc.devRef .tc main_arg1) = V (Proc.devRef .tc main_arg1) :=
  after_of_writes_sub hostOps0_4 V hostOps0_4_writes (by decide +kernel)
/-- `hostOps0_5` leaves the argument `main_arg1` as it was. -/
theorem keep_main_arg1_hostOps0_5 (V : Valuation τ sig (Elt F)) : after hostOps0_5 V (Proc.devRef .tc main_arg1) = V (Proc.devRef .tc main_arg1) :=
  after_of_writes_sub hostOps0_5 V hostOps0_5_writes (by decide +kernel)
/-- `hostOps0_6` leaves the argument `main_arg1` as it was. -/
theorem keep_main_arg1_hostOps0_6 (V : Valuation τ sig (Elt F)) : after hostOps0_6 V (Proc.devRef .tc main_arg1) = V (Proc.devRef .tc main_arg1) :=
  after_of_writes_sub hostOps0_6 V hostOps0_6_writes (by decide +kernel)
/-- `condOps` leaves the argument `main_arg1` as it was. -/
theorem keep_main_arg1_condOps (V : Valuation τ sig (Elt F)) : after condOps V (Proc.devRef .tc main_arg1) = V (Proc.devRef .tc main_arg1) :=
  after_of_writes_sub condOps V condOps_writes (by decide +kernel)
/-- `while0Ops0` leaves the argument `main_arg1` as it was. -/
theorem keep_main_arg1_while0Ops0 (V : Valuation τ sig (Elt F)) : after while0Ops0 V (Proc.devRef .tc main_arg1) = V (Proc.devRef .tc main_arg1) :=
  after_of_writes_sub while0Ops0 V while0Ops0_writes (by decide +kernel)
/-- `hostOps0_7` leaves the argument `main_arg1` as it was. -/
theorem keep_main_arg1_hostOps0_7 (V : Valuation τ sig (Elt F)) : after hostOps0_7 V (Proc.devRef .tc main_arg1) = V (Proc.devRef .tc main_arg1) :=
  after_of_writes_sub hostOps0_7 V hostOps0_7_writes (by decide +kernel)
/-- `hostOps0_8` leaves the argument `main_arg1` as it was. -/
theorem keep_main_arg1_hostOps0_8 (V : Valuation τ sig (Elt F)) : after hostOps0_8 V (Proc.devRef .tc main_arg1) = V (Proc.devRef .tc main_arg1) :=
  after_of_writes_sub hostOps0_8 V hostOps0_8_writes (by decide +kernel)
/-- `hostOps0_9` leaves the argument `main_arg1` as it was. -/
theorem keep_main_arg1_hostOps0_9 (V : Valuation τ sig (Elt F)) : after hostOps0_9 V (Proc.devRef .tc main_arg1) = V (Proc.devRef .tc main_arg1) :=
  after_of_writes_sub hostOps0_9 V hostOps0_9_writes (by decide +kernel)
/-- `hostOps0_10` leaves the argument `main_arg1` as it was. -/
theorem keep_main_arg1_hostOps0_10 (V : Valuation τ sig (Elt F)) : after hostOps0_10 V (Proc.devRef .tc main_arg1) = V (Proc.devRef .tc main_arg1) :=
  after_of_writes_sub hostOps0_10 V hostOps0_10_writes (by decide +kernel)
/-- `hostOps0_11` leaves the argument `main_arg1` as it was. -/
theorem keep_main_arg1_hostOps0_11 (V : Valuation τ sig (Elt F)) : after hostOps0_11 V (Proc.devRef .tc main_arg1) = V (Proc.devRef .tc main_arg1) :=
  after_of_writes_sub hostOps0_11 V hostOps0_11_writes (by decide +kernel)
/-- `hostOps0_12` leaves the argument `main_arg1` as it was. -/
theorem keep_main_arg1_hostOps0_12 (V : Valuation τ sig (Elt F)) : after hostOps0_12 V (Proc.devRef .tc main_arg1) = V (Proc.devRef .tc main_arg1) :=
  after_of_writes_sub hostOps0_12 V hostOps0_12_writes (by decide +kernel)
/-- `hostOps0_13` leaves the argument `main_arg1` as it was. -/
theorem keep_main_arg1_hostOps0_13 (V : Valuation τ sig (Elt F)) : after hostOps0_13 V (Proc.devRef .tc main_arg1) = V (Proc.devRef .tc main_arg1) :=
  after_of_writes_sub hostOps0_13 V hostOps0_13_writes (by decide +kernel)
/-- `hostOps0_14` leaves the argument `main_arg1` as it was. -/
theorem keep_main_arg1_hostOps0_14 (V : Valuation τ sig (Elt F)) : after hostOps0_14 V (Proc.devRef .tc main_arg1) = V (Proc.devRef .tc main_arg1) :=
  after_of_writes_sub hostOps0_14 V hostOps0_14_writes (by decide +kernel)
/-- `hostOps0_15` leaves the argument `main_arg1` as it was. -/
theorem keep_main_arg1_hostOps0_15 (V : Valuation τ sig (Elt F)) : after hostOps0_15 V (Proc.devRef .tc main_arg1) = V (Proc.devRef .tc main_arg1) :=
  after_of_writes_sub hostOps0_15 V hostOps0_15_writes (by decide +kernel)
/-- `hostOps0_16` leaves the argument `main_arg1` as it was. -/
theorem keep_main_arg1_hostOps0_16 (V : Valuation τ sig (Elt F)) : after hostOps0_16 V (Proc.devRef .tc main_arg1) = V (Proc.devRef .tc main_arg1) :=
  after_of_writes_sub hostOps0_16 V hostOps0_16_writes (by decide +kernel)
/-- `hostOps0_17` leaves the argument `main_arg1` as it was. -/
theorem keep_main_arg1_hostOps0_17 (V : Valuation τ sig (Elt F)) : after hostOps0_17 V (Proc.devRef .tc main_arg1) = V (Proc.devRef .tc main_arg1) :=
  after_of_writes_sub hostOps0_17 V hostOps0_17_writes (by decide +kernel)
/-- `hostOps0_18` leaves the argument `main_arg1` as it was. -/
theorem keep_main_arg1_hostOps0_18 (V : Valuation τ sig (Elt F)) : after hostOps0_18 V (Proc.devRef .tc main_arg1) = V (Proc.devRef .tc main_arg1) :=
  after_of_writes_sub hostOps0_18 V hostOps0_18_writes (by decide +kernel)
/-- `hostOps0_19` leaves the argument `main_arg1` as it was. -/
theorem keep_main_arg1_hostOps0_19 (V : Valuation τ sig (Elt F)) : after hostOps0_19 V (Proc.devRef .tc main_arg1) = V (Proc.devRef .tc main_arg1) :=
  after_of_writes_sub hostOps0_19 V hostOps0_19_writes (by decide +kernel)
/-- The argument `main_arg1` is written by nothing: it holds its launch contents before every condition. -/
theorem atK_main_arg1 (c : Dev nD) : ∀ k, atK m k c (Proc.devRef .tc main_arg1) = m ((c.tc : Thread nD τ).loc main_arg1)
  | 0 => by
    rw [show atK m 0 c = entryContents preI m c from rfl]
    simp only [entryContents, afterL_cons, afterL_nil]
    rw [keep_main_arg1_hostOps0_6, keep_main_arg1_hostOps0_5, keep_main_arg1_hostOps0_4, keep_main_arg1_hostOps0_3, keep_main_arg1_hostOps0_2, keep_main_arg1_hostOps0_1, keep_main_arg1_hostOps0]
  | k + 1 => by
    rw [show atK m (k + 1) c = afterL bodyI (after condOps (atK m k c)) from rfl]
    simp only [afterL_cons, afterL_nil]
    rw [keep_main_arg1_while0Ops0, keep_main_arg1_condOps, atK_main_arg1 c k]

/-- `hostOps0` leaves the argument `main_arg2` as it was. -/
theorem keep_main_arg2_hostOps0 (V : Valuation τ sig (Elt F)) : after hostOps0 V (Proc.devRef .tc main_arg2) = V (Proc.devRef .tc main_arg2) :=
  after_of_writes_sub hostOps0 V hostOps0_writes (by decide +kernel)
/-- `hostOps0_1` leaves the argument `main_arg2` as it was. -/
theorem keep_main_arg2_hostOps0_1 (V : Valuation τ sig (Elt F)) : after hostOps0_1 V (Proc.devRef .tc main_arg2) = V (Proc.devRef .tc main_arg2) :=
  after_of_writes_sub hostOps0_1 V hostOps0_1_writes (by decide +kernel)
/-- `hostOps0_2` leaves the argument `main_arg2` as it was. -/
theorem keep_main_arg2_hostOps0_2 (V : Valuation τ sig (Elt F)) : after hostOps0_2 V (Proc.devRef .tc main_arg2) = V (Proc.devRef .tc main_arg2) :=
  after_of_writes_sub hostOps0_2 V hostOps0_2_writes (by decide +kernel)
/-- `hostOps0_3` leaves the argument `main_arg2` as it was. -/
theorem keep_main_arg2_hostOps0_3 (V : Valuation τ sig (Elt F)) : after hostOps0_3 V (Proc.devRef .tc main_arg2) = V (Proc.devRef .tc main_arg2) :=
  after_of_writes_sub hostOps0_3 V hostOps0_3_writes (by decide +kernel)
/-- `hostOps0_4` leaves the argument `main_arg2` as it was. -/
theorem keep_main_arg2_hostOps0_4 (V : Valuation τ sig (Elt F)) : after hostOps0_4 V (Proc.devRef .tc main_arg2) = V (Proc.devRef .tc main_arg2) :=
  after_of_writes_sub hostOps0_4 V hostOps0_4_writes (by decide +kernel)
/-- `hostOps0_5` leaves the argument `main_arg2` as it was. -/
theorem keep_main_arg2_hostOps0_5 (V : Valuation τ sig (Elt F)) : after hostOps0_5 V (Proc.devRef .tc main_arg2) = V (Proc.devRef .tc main_arg2) :=
  after_of_writes_sub hostOps0_5 V hostOps0_5_writes (by decide +kernel)
/-- `hostOps0_6` leaves the argument `main_arg2` as it was. -/
theorem keep_main_arg2_hostOps0_6 (V : Valuation τ sig (Elt F)) : after hostOps0_6 V (Proc.devRef .tc main_arg2) = V (Proc.devRef .tc main_arg2) :=
  after_of_writes_sub hostOps0_6 V hostOps0_6_writes (by decide +kernel)
/-- `condOps` leaves the argument `main_arg2` as it was. -/
theorem keep_main_arg2_condOps (V : Valuation τ sig (Elt F)) : after condOps V (Proc.devRef .tc main_arg2) = V (Proc.devRef .tc main_arg2) :=
  after_of_writes_sub condOps V condOps_writes (by decide +kernel)
/-- `while0Ops0` leaves the argument `main_arg2` as it was. -/
theorem keep_main_arg2_while0Ops0 (V : Valuation τ sig (Elt F)) : after while0Ops0 V (Proc.devRef .tc main_arg2) = V (Proc.devRef .tc main_arg2) :=
  after_of_writes_sub while0Ops0 V while0Ops0_writes (by decide +kernel)
/-- `hostOps0_7` leaves the argument `main_arg2` as it was. -/
theorem keep_main_arg2_hostOps0_7 (V : Valuation τ sig (Elt F)) : after hostOps0_7 V (Proc.devRef .tc main_arg2) = V (Proc.devRef .tc main_arg2) :=
  after_of_writes_sub hostOps0_7 V hostOps0_7_writes (by decide +kernel)
/-- `hostOps0_8` leaves the argument `main_arg2` as it was. -/
theorem keep_main_arg2_hostOps0_8 (V : Valuation τ sig (Elt F)) : after hostOps0_8 V (Proc.devRef .tc main_arg2) = V (Proc.devRef .tc main_arg2) :=
  after_of_writes_sub hostOps0_8 V hostOps0_8_writes (by decide +kernel)
/-- `hostOps0_9` leaves the argument `main_arg2` as it was. -/
theorem keep_main_arg2_hostOps0_9 (V : Valuation τ sig (Elt F)) : after hostOps0_9 V (Proc.devRef .tc main_arg2) = V (Proc.devRef .tc main_arg2) :=
  after_of_writes_sub hostOps0_9 V hostOps0_9_writes (by decide +kernel)
/-- `hostOps0_10` leaves the argument `main_arg2` as it was. -/
theorem keep_main_arg2_hostOps0_10 (V : Valuation τ sig (Elt F)) : after hostOps0_10 V (Proc.devRef .tc main_arg2) = V (Proc.devRef .tc main_arg2) :=
  after_of_writes_sub hostOps0_10 V hostOps0_10_writes (by decide +kernel)
/-- `hostOps0_11` leaves the argument `main_arg2` as it was. -/
theorem keep_main_arg2_hostOps0_11 (V : Valuation τ sig (Elt F)) : after hostOps0_11 V (Proc.devRef .tc main_arg2) = V (Proc.devRef .tc main_arg2) :=
  after_of_writes_sub hostOps0_11 V hostOps0_11_writes (by decide +kernel)
/-- `hostOps0_12` leaves the argument `main_arg2` as it was. -/
theorem keep_main_arg2_hostOps0_12 (V : Valuation τ sig (Elt F)) : after hostOps0_12 V (Proc.devRef .tc main_arg2) = V (Proc.devRef .tc main_arg2) :=
  after_of_writes_sub hostOps0_12 V hostOps0_12_writes (by decide +kernel)
/-- `hostOps0_13` leaves the argument `main_arg2` as it was. -/
theorem keep_main_arg2_hostOps0_13 (V : Valuation τ sig (Elt F)) : after hostOps0_13 V (Proc.devRef .tc main_arg2) = V (Proc.devRef .tc main_arg2) :=
  after_of_writes_sub hostOps0_13 V hostOps0_13_writes (by decide +kernel)
/-- `hostOps0_14` leaves the argument `main_arg2` as it was. -/
theorem keep_main_arg2_hostOps0_14 (V : Valuation τ sig (Elt F)) : after hostOps0_14 V (Proc.devRef .tc main_arg2) = V (Proc.devRef .tc main_arg2) :=
  after_of_writes_sub hostOps0_14 V hostOps0_14_writes (by decide +kernel)
/-- `hostOps0_15` leaves the argument `main_arg2` as it was. -/
theorem keep_main_arg2_hostOps0_15 (V : Valuation τ sig (Elt F)) : after hostOps0_15 V (Proc.devRef .tc main_arg2) = V (Proc.devRef .tc main_arg2) :=
  after_of_writes_sub hostOps0_15 V hostOps0_15_writes (by decide +kernel)
/-- `hostOps0_16` leaves the argument `main_arg2` as it was. -/
theorem keep_main_arg2_hostOps0_16 (V : Valuation τ sig (Elt F)) : after hostOps0_16 V (Proc.devRef .tc main_arg2) = V (Proc.devRef .tc main_arg2) :=
  after_of_writes_sub hostOps0_16 V hostOps0_16_writes (by decide +kernel)
/-- `hostOps0_17` leaves the argument `main_arg2` as it was. -/
theorem keep_main_arg2_hostOps0_17 (V : Valuation τ sig (Elt F)) : after hostOps0_17 V (Proc.devRef .tc main_arg2) = V (Proc.devRef .tc main_arg2) :=
  after_of_writes_sub hostOps0_17 V hostOps0_17_writes (by decide +kernel)
/-- `hostOps0_18` leaves the argument `main_arg2` as it was. -/
theorem keep_main_arg2_hostOps0_18 (V : Valuation τ sig (Elt F)) : after hostOps0_18 V (Proc.devRef .tc main_arg2) = V (Proc.devRef .tc main_arg2) :=
  after_of_writes_sub hostOps0_18 V hostOps0_18_writes (by decide +kernel)
/-- `hostOps0_19` leaves the argument `main_arg2` as it was. -/
theorem keep_main_arg2_hostOps0_19 (V : Valuation τ sig (Elt F)) : after hostOps0_19 V (Proc.devRef .tc main_arg2) = V (Proc.devRef .tc main_arg2) :=
  after_of_writes_sub hostOps0_19 V hostOps0_19_writes (by decide +kernel)
/-- The argument `main_arg2` is written by nothing: it holds its launch contents before every condition. -/
theorem atK_main_arg2 (c : Dev nD) : ∀ k, atK m k c (Proc.devRef .tc main_arg2) = m ((c.tc : Thread nD τ).loc main_arg2)
  | 0 => by
    rw [show atK m 0 c = entryContents preI m c from rfl]
    simp only [entryContents, afterL_cons, afterL_nil]
    rw [keep_main_arg2_hostOps0_6, keep_main_arg2_hostOps0_5, keep_main_arg2_hostOps0_4, keep_main_arg2_hostOps0_3, keep_main_arg2_hostOps0_2, keep_main_arg2_hostOps0_1, keep_main_arg2_hostOps0]
  | k + 1 => by
    rw [show atK m (k + 1) c = afterL bodyI (after condOps (atK m k c)) from rfl]
    simp only [afterL_cons, afterL_nil]
    rw [keep_main_arg2_while0Ops0, keep_main_arg2_condOps, atK_main_arg2 c k]

/-- `hostOps0` leaves the argument `main_arg3` as it was. -/
theorem keep_main_arg3_hostOps0 (V : Valuation τ sig (Elt F)) : after hostOps0 V (Proc.devRef .tc main_arg3) = V (Proc.devRef .tc main_arg3) :=
  after_of_writes_sub hostOps0 V hostOps0_writes (by decide +kernel)
/-- `hostOps0_1` leaves the argument `main_arg3` as it was. -/
theorem keep_main_arg3_hostOps0_1 (V : Valuation τ sig (Elt F)) : after hostOps0_1 V (Proc.devRef .tc main_arg3) = V (Proc.devRef .tc main_arg3) :=
  after_of_writes_sub hostOps0_1 V hostOps0_1_writes (by decide +kernel)
/-- `hostOps0_2` leaves the argument `main_arg3` as it was. -/
theorem keep_main_arg3_hostOps0_2 (V : Valuation τ sig (Elt F)) : after hostOps0_2 V (Proc.devRef .tc main_arg3) = V (Proc.devRef .tc main_arg3) :=
  after_of_writes_sub hostOps0_2 V hostOps0_2_writes (by decide +kernel)
/-- `hostOps0_3` leaves the argument `main_arg3` as it was. -/
theorem keep_main_arg3_hostOps0_3 (V : Valuation τ sig (Elt F)) : after hostOps0_3 V (Proc.devRef .tc main_arg3) = V (Proc.devRef .tc main_arg3) :=
  after_of_writes_sub hostOps0_3 V hostOps0_3_writes (by decide +kernel)
/-- `hostOps0_4` leaves the argument `main_arg3` as it was. -/
theorem keep_main_arg3_hostOps0_4 (V : Valuation τ sig (Elt F)) : after hostOps0_4 V (Proc.devRef .tc main_arg3) = V (Proc.devRef .tc main_arg3) :=
  after_of_writes_sub hostOps0_4 V hostOps0_4_writes (by decide +kernel)
/-- `hostOps0_5` leaves the argument `main_arg3` as it was. -/
theorem keep_main_arg3_hostOps0_5 (V : Valuation τ sig (Elt F)) : after hostOps0_5 V (Proc.devRef .tc main_arg3) = V (Proc.devRef .tc main_arg3) :=
  after_of_writes_sub hostOps0_5 V hostOps0_5_writes (by decide +kernel)
/-- `hostOps0_6` leaves the argument `main_arg3` as it was. -/
theorem keep_main_arg3_hostOps0_6 (V : Valuation τ sig (Elt F)) : after hostOps0_6 V (Proc.devRef .tc main_arg3) = V (Proc.devRef .tc main_arg3) :=
  after_of_writes_sub hostOps0_6 V hostOps0_6_writes (by decide +kernel)
/-- `condOps` leaves the argument `main_arg3` as it was. -/
theorem keep_main_arg3_condOps (V : Valuation τ sig (Elt F)) : after condOps V (Proc.devRef .tc main_arg3) = V (Proc.devRef .tc main_arg3) :=
  after_of_writes_sub condOps V condOps_writes (by decide +kernel)
/-- `while0Ops0` leaves the argument `main_arg3` as it was. -/
theorem keep_main_arg3_while0Ops0 (V : Valuation τ sig (Elt F)) : after while0Ops0 V (Proc.devRef .tc main_arg3) = V (Proc.devRef .tc main_arg3) :=
  after_of_writes_sub while0Ops0 V while0Ops0_writes (by decide +kernel)
/-- `hostOps0_7` leaves the argument `main_arg3` as it was. -/
theorem keep_main_arg3_hostOps0_7 (V : Valuation τ sig (Elt F)) : after hostOps0_7 V (Proc.devRef .tc main_arg3) = V (Proc.devRef .tc main_arg3) :=
  after_of_writes_sub hostOps0_7 V hostOps0_7_writes (by decide +kernel)
/-- `hostOps0_8` leaves the argument `main_arg3` as it was. -/
theorem keep_main_arg3_hostOps0_8 (V : Valuation τ sig (Elt F)) : after hostOps0_8 V (Proc.devRef .tc main_arg3) = V (Proc.devRef .tc main_arg3) :=
  after_of_writes_sub hostOps0_8 V hostOps0_8_writes (by decide +kernel)
/-- `hostOps0_9` leaves the argument `main_arg3` as it was. -/
theorem keep_main_arg3_hostOps0_9 (V : Valuation τ sig (Elt F)) : after hostOps0_9 V (Proc.devRef .tc main_arg3) = V (Proc.devRef .tc main_arg3) :=
  after_of_writes_sub hostOps0_9 V hostOps0_9_writes (by decide +kernel)
/-- `hostOps0_10` leaves the argument `main_arg3` as it was. -/
theorem keep_main_arg3_hostOps0_10 (V : Valuation τ sig (Elt F)) : after hostOps0_10 V (Proc.devRef .tc main_arg3) = V (Proc.devRef .tc main_arg3) :=
  after_of_writes_sub hostOps0_10 V hostOps0_10_writes (by decide +kernel)
/-- `hostOps0_11` leaves the argument `main_arg3` as it was. -/
theorem keep_main_arg3_hostOps0_11 (V : Valuation τ sig (Elt F)) : after hostOps0_11 V (Proc.devRef .tc main_arg3) = V (Proc.devRef .tc main_arg3) :=
  after_of_writes_sub hostOps0_11 V hostOps0_11_writes (by decide +kernel)
/-- `hostOps0_12` leaves the argument `main_arg3` as it was. -/
theorem keep_main_arg3_hostOps0_12 (V : Valuation τ sig (Elt F)) : after hostOps0_12 V (Proc.devRef .tc main_arg3) = V (Proc.devRef .tc main_arg3) :=
  after_of_writes_sub hostOps0_12 V hostOps0_12_writes (by decide +kernel)
/-- `hostOps0_13` leaves the argument `main_arg3` as it was. -/
theorem keep_main_arg3_hostOps0_13 (V : Valuation τ sig (Elt F)) : after hostOps0_13 V (Proc.devRef .tc main_arg3) = V (Proc.devRef .tc main_arg3) :=
  after_of_writes_sub hostOps0_13 V hostOps0_13_writes (by decide +kernel)
/-- `hostOps0_14` leaves the argument `main_arg3` as it was. -/
theorem keep_main_arg3_hostOps0_14 (V : Valuation τ sig (Elt F)) : after hostOps0_14 V (Proc.devRef .tc main_arg3) = V (Proc.devRef .tc main_arg3) :=
  after_of_writes_sub hostOps0_14 V hostOps0_14_writes (by decide +kernel)
/-- `hostOps0_15` leaves the argument `main_arg3` as it was. -/
theorem keep_main_arg3_hostOps0_15 (V : Valuation τ sig (Elt F)) : after hostOps0_15 V (Proc.devRef .tc main_arg3) = V (Proc.devRef .tc main_arg3) :=
  after_of_writes_sub hostOps0_15 V hostOps0_15_writes (by decide +kernel)
/-- `hostOps0_16` leaves the argument `main_arg3` as it was. -/
theorem keep_main_arg3_hostOps0_16 (V : Valuation τ sig (Elt F)) : after hostOps0_16 V (Proc.devRef .tc main_arg3) = V (Proc.devRef .tc main_arg3) :=
  after_of_writes_sub hostOps0_16 V hostOps0_16_writes (by decide +kernel)
/-- `hostOps0_17` leaves the argument `main_arg3` as it was. -/
theorem keep_main_arg3_hostOps0_17 (V : Valuation τ sig (Elt F)) : after hostOps0_17 V (Proc.devRef .tc main_arg3) = V (Proc.devRef .tc main_arg3) :=
  after_of_writes_sub hostOps0_17 V hostOps0_17_writes (by decide +kernel)
/-- `hostOps0_18` leaves the argument `main_arg3` as it was. -/
theorem keep_main_arg3_hostOps0_18 (V : Valuation τ sig (Elt F)) : after hostOps0_18 V (Proc.devRef .tc main_arg3) = V (Proc.devRef .tc main_arg3) :=
  after_of_writes_sub hostOps0_18 V hostOps0_18_writes (by decide +kernel)
/-- `hostOps0_19` leaves the argument `main_arg3` as it was. -/
theorem keep_main_arg3_hostOps0_19 (V : Valuation τ sig (Elt F)) : after hostOps0_19 V (Proc.devRef .tc main_arg3) = V (Proc.devRef .tc main_arg3) :=
  after_of_writes_sub hostOps0_19 V hostOps0_19_writes (by decide +kernel)
/-- The argument `main_arg3` is written by nothing: it holds its launch contents before every condition. -/
theorem atK_main_arg3 (c : Dev nD) : ∀ k, atK m k c (Proc.devRef .tc main_arg3) = m ((c.tc : Thread nD τ).loc main_arg3)
  | 0 => by
    rw [show atK m 0 c = entryContents preI m c from rfl]
    simp only [entryContents, afterL_cons, afterL_nil]
    rw [keep_main_arg3_hostOps0_6, keep_main_arg3_hostOps0_5, keep_main_arg3_hostOps0_4, keep_main_arg3_hostOps0_3, keep_main_arg3_hostOps0_2, keep_main_arg3_hostOps0_1, keep_main_arg3_hostOps0]
  | k + 1 => by
    rw [show atK m (k + 1) c = afterL bodyI (after condOps (atK m k c)) from rfl]
    simp only [afterL_cons, afterL_nil]
    rw [keep_main_arg3_while0Ops0, keep_main_arg3_condOps, atK_main_arg3 c k]

/-- `hostOps0` leaves the argument `main_arg4` as it was. -/
theorem keep_main_arg4_hostOps0 (V : Valuation τ sig (Elt F)) : after hostOps0 V (Proc.devRef .tc main_arg4) = V (Proc.devRef .tc main_arg4) :=
  after_of_writes_sub hostOps0 V hostOps0_writes (by decide +kernel)
/-- `hostOps0_1` leaves the argument `main_arg4` as it was. -/
theorem keep_main_arg4_hostOps0_1 (V : Valuation τ sig (Elt F)) : after hostOps0_1 V (Proc.devRef .tc main_arg4) = V (Proc.devRef .tc main_arg4) :=
  after_of_writes_sub hostOps0_1 V hostOps0_1_writes (by decide +kernel)
/-- `hostOps0_2` leaves the argument `main_arg4` as it was. -/
theorem keep_main_arg4_hostOps0_2 (V : Valuation τ sig (Elt F)) : after hostOps0_2 V (Proc.devRef .tc main_arg4) = V (Proc.devRef .tc main_arg4) :=
  after_of_writes_sub hostOps0_2 V hostOps0_2_writes (by decide +kernel)
/-- `hostOps0_3` leaves the argument `main_arg4` as it was. -/
theorem keep_main_arg4_hostOps0_3 (V : Valuation τ sig (Elt F)) : after hostOps0_3 V (Proc.devRef .tc main_arg4) = V (Proc.devRef .tc main_arg4) :=
  after_of_writes_sub hostOps0_3 V hostOps0_3_writes (by decide +kernel)
/-- `hostOps0_4` leaves the argument `main_arg4` as it was. -/
theorem keep_main_arg4_hostOps0_4 (V : Valuation τ sig (Elt F)) : after hostOps0_4 V (Proc.devRef .tc main_arg4) = V (Proc.devRef .tc main_arg4) :=
  after_of_writes_sub hostOps0_4 V hostOps0_4_writes (by decide +kernel)
/-- `hostOps0_5` leaves the argument `main_arg4` as it was. -/
theorem keep_main_arg4_hostOps0_5 (V : Valuation τ sig (Elt F)) : after hostOps0_5 V (Proc.devRef .tc main_arg4) = V (Proc.devRef .tc main_arg4) :=
  after_of_writes_sub hostOps0_5 V hostOps0_5_writes (by decide +kernel)
/-- `hostOps0_6` leaves the argument `main_arg4` as it was. -/
theorem keep_main_arg4_hostOps0_6 (V : Valuation τ sig (Elt F)) : after hostOps0_6 V (Proc.devRef .tc main_arg4) = V (Proc.devRef .tc main_arg4) :=
  after_of_writes_sub hostOps0_6 V hostOps0_6_writes (by decide +kernel)
/-- `condOps` leaves the argument `main_arg4` as it was. -/
theorem keep_main_arg4_condOps (V : Valuation τ sig (Elt F)) : after condOps V (Proc.devRef .tc main_arg4) = V (Proc.devRef .tc main_arg4) :=
  after_of_writes_sub condOps V condOps_writes (by decide +kernel)
/-- `while0Ops0` leaves the argument `main_arg4` as it was. -/
theorem keep_main_arg4_while0Ops0 (V : Valuation τ sig (Elt F)) : after while0Ops0 V (Proc.devRef .tc main_arg4) = V (Proc.devRef .tc main_arg4) :=
  after_of_writes_sub while0Ops0 V while0Ops0_writes (by decide +kernel)
/-- `hostOps0_7` leaves the argument `main_arg4` as it was. -/
theorem keep_main_arg4_hostOps0_7 (V : Valuation τ sig (Elt F)) : after hostOps0_7 V (Proc.devRef .tc main_arg4) = V (Proc.devRef .tc main_arg4) :=
  after_of_writes_sub hostOps0_7 V hostOps0_7_writes (by decide +kernel)
/-- `hostOps0_8` leaves the argument `main_arg4` as it was. -/
theorem keep_main_arg4_hostOps0_8 (V : Valuation τ sig (Elt F)) : after hostOps0_8 V (Proc.devRef .tc main_arg4) = V (Proc.devRef .tc main_arg4) :=
  after_of_writes_sub hostOps0_8 V hostOps0_8_writes (by decide +kernel)
/-- `hostOps0_9` leaves the argument `main_arg4` as it was. -/
theorem keep_main_arg4_hostOps0_9 (V : Valuation τ sig (Elt F)) : after hostOps0_9 V (Proc.devRef .tc main_arg4) = V (Proc.devRef .tc main_arg4) :=
  after_of_writes_sub hostOps0_9 V hostOps0_9_writes (by decide +kernel)
/-- `hostOps0_10` leaves the argument `main_arg4` as it was. -/
theorem keep_main_arg4_hostOps0_10 (V : Valuation τ sig (Elt F)) : after hostOps0_10 V (Proc.devRef .tc main_arg4) = V (Proc.devRef .tc main_arg4) :=
  after_of_writes_sub hostOps0_10 V hostOps0_10_writes (by decide +kernel)
/-- `hostOps0_11` leaves the argument `main_arg4` as it was. -/
theorem keep_main_arg4_hostOps0_11 (V : Valuation τ sig (Elt F)) : after hostOps0_11 V (Proc.devRef .tc main_arg4) = V (Proc.devRef .tc main_arg4) :=
  after_of_writes_sub hostOps0_11 V hostOps0_11_writes (by decide +kernel)
/-- `hostOps0_12` leaves the argument `main_arg4` as it was. -/
theorem keep_main_arg4_hostOps0_12 (V : Valuation τ sig (Elt F)) : after hostOps0_12 V (Proc.devRef .tc main_arg4) = V (Proc.devRef .tc main_arg4) :=
  after_of_writes_sub hostOps0_12 V hostOps0_12_writes (by decide +kernel)
/-- `hostOps0_13` leaves the argument `main_arg4` as it was. -/
theorem keep_main_arg4_hostOps0_13 (V : Valuation τ sig (Elt F)) : after hostOps0_13 V (Proc.devRef .tc main_arg4) = V (Proc.devRef .tc main_arg4) :=
  after_of_writes_sub hostOps0_13 V hostOps0_13_writes (by decide +kernel)
/-- `hostOps0_14` leaves the argument `main_arg4` as it was. -/
theorem keep_main_arg4_hostOps0_14 (V : Valuation τ sig (Elt F)) : after hostOps0_14 V (Proc.devRef .tc main_arg4) = V (Proc.devRef .tc main_arg4) :=
  after_of_writes_sub hostOps0_14 V hostOps0_14_writes (by decide +kernel)
/-- `hostOps0_15` leaves the argument `main_arg4` as it was. -/
theorem keep_main_arg4_hostOps0_15 (V : Valuation τ sig (Elt F)) : after hostOps0_15 V (Proc.devRef .tc main_arg4) = V (Proc.devRef .tc main_arg4) :=
  after_of_writes_sub hostOps0_15 V hostOps0_15_writes (by decide +kernel)
/-- `hostOps0_16` leaves the argument `main_arg4` as it was. -/
theorem keep_main_arg4_hostOps0_16 (V : Valuation τ sig (Elt F)) : after hostOps0_16 V (Proc.devRef .tc main_arg4) = V (Proc.devRef .tc main_arg4) :=
  after_of_writes_sub hostOps0_16 V hostOps0_16_writes (by decide +kernel)
/-- `hostOps0_17` leaves the argument `main_arg4` as it was. -/
theorem keep_main_arg4_hostOps0_17 (V : Valuation τ sig (Elt F)) : after hostOps0_17 V (Proc.devRef .tc main_arg4) = V (Proc.devRef .tc main_arg4) :=
  after_of_writes_sub hostOps0_17 V hostOps0_17_writes (by decide +kernel)
/-- `hostOps0_18` leaves the argument `main_arg4` as it was. -/
theorem keep_main_arg4_hostOps0_18 (V : Valuation τ sig (Elt F)) : after hostOps0_18 V (Proc.devRef .tc main_arg4) = V (Proc.devRef .tc main_arg4) :=
  after_of_writes_sub hostOps0_18 V hostOps0_18_writes (by decide +kernel)
/-- `hostOps0_19` leaves the argument `main_arg4` as it was. -/
theorem keep_main_arg4_hostOps0_19 (V : Valuation τ sig (Elt F)) : after hostOps0_19 V (Proc.devRef .tc main_arg4) = V (Proc.devRef .tc main_arg4) :=
  after_of_writes_sub hostOps0_19 V hostOps0_19_writes (by decide +kernel)
/-- The argument `main_arg4` is written by nothing: it holds its launch contents before every condition. -/
theorem atK_main_arg4 (c : Dev nD) : ∀ k, atK m k c (Proc.devRef .tc main_arg4) = m ((c.tc : Thread nD τ).loc main_arg4)
  | 0 => by
    rw [show atK m 0 c = entryContents preI m c from rfl]
    simp only [entryContents, afterL_cons, afterL_nil]
    rw [keep_main_arg4_hostOps0_6, keep_main_arg4_hostOps0_5, keep_main_arg4_hostOps0_4, keep_main_arg4_hostOps0_3, keep_main_arg4_hostOps0_2, keep_main_arg4_hostOps0_1, keep_main_arg4_hostOps0]
  | k + 1 => by
    rw [show atK m (k + 1) c = afterL bodyI (after condOps (atK m k c)) from rfl]
    simp only [afterL_cons, afterL_nil]
    rw [keep_main_arg4_while0Ops0, keep_main_arg4_condOps, atK_main_arg4 c k]

/-- `hostOps0` leaves the argument `main_arg5` as it was. -/
theorem keep_main_arg5_hostOps0 (V : Valuation τ sig (Elt F)) : after hostOps0 V (Proc.devRef .tc main_arg5) = V (Proc.devRef .tc main_arg5) :=
  after_of_writes_sub hostOps0 V hostOps0_writes (by decide +kernel)
/-- `hostOps0_1` leaves the argument `main_arg5` as it was. -/
theorem keep_main_arg5_hostOps0_1 (V : Valuation τ sig (Elt F)) : after hostOps0_1 V (Proc.devRef .tc main_arg5) = V (Proc.devRef .tc main_arg5) :=
  after_of_writes_sub hostOps0_1 V hostOps0_1_writes (by decide +kernel)
/-- `hostOps0_2` leaves the argument `main_arg5` as it was. -/
theorem keep_main_arg5_hostOps0_2 (V : Valuation τ sig (Elt F)) : after hostOps0_2 V (Proc.devRef .tc main_arg5) = V (Proc.devRef .tc main_arg5) :=
  after_of_writes_sub hostOps0_2 V hostOps0_2_writes (by decide +kernel)
/-- `hostOps0_3` leaves the argument `main_arg5` as it was. -/
theorem keep_main_arg5_hostOps0_3 (V : Valuation τ sig (Elt F)) : after hostOps0_3 V (Proc.devRef .tc main_arg5) = V (Proc.devRef .tc main_arg5) :=
  after_of_writes_sub hostOps0_3 V hostOps0_3_writes (by decide +kernel)
/-- `hostOps0_4` leaves the argument `main_arg5` as it was. -/
theorem keep_main_arg5_hostOps0_4 (V : Valuation τ sig (Elt F)) : after hostOps0_4 V (Proc.devRef .tc main_arg5) = V (Proc.devRef .tc main_arg5) :=
  after_of_writes_sub hostOps0_4 V hostOps0_4_writes (by decide +kernel)
/-- `hostOps0_5` leaves the argument `main_arg5` as it was. -/
theorem keep_main_arg5_hostOps0_5 (V : Valuation τ sig (Elt F)) : after hostOps0_5 V (Proc.devRef .tc main_arg5) = V (Proc.devRef .tc main_arg5) :=
  after_of_writes_sub hostOps0_5 V hostOps0_5_writes (by decide +kernel)
/-- `hostOps0_6` leaves the argument `main_arg5` as it was. -/
theorem keep_main_arg5_hostOps0_6 (V : Valuation τ sig (Elt F)) : after hostOps0_6 V (Proc.devRef .tc main_arg5) = V (Proc.devRef .tc main_arg5) :=
  after_of_writes_sub hostOps0_6 V hostOps0_6_writes (by decide +kernel)
/-- `condOps` leaves the argument `main_arg5` as it was. -/
theorem keep_main_arg5_condOps (V : Valuation τ sig (Elt F)) : after condOps V (Proc.devRef .tc main_arg5) = V (Proc.devRef .tc main_arg5) :=
  after_of_writes_sub condOps V condOps_writes (by decide +kernel)
/-- `while0Ops0` leaves the argument `main_arg5` as it was. -/
theorem keep_main_arg5_while0Ops0 (V : Valuation τ sig (Elt F)) : after while0Ops0 V (Proc.devRef .tc main_arg5) = V (Proc.devRef .tc main_arg5) :=
  after_of_writes_sub while0Ops0 V while0Ops0_writes (by decide +kernel)
/-- `hostOps0_7` leaves the argument `main_arg5` as it was. -/
theorem keep_main_arg5_hostOps0_7 (V : Valuation τ sig (Elt F)) : after hostOps0_7 V (Proc.devRef .tc main_arg5) = V (Proc.devRef .tc main_arg5) :=
  after_of_writes_sub hostOps0_7 V hostOps0_7_writes (by decide +kernel)
/-- `hostOps0_8` leaves the argument `main_arg5` as it was. -/
theorem keep_main_arg5_hostOps0_8 (V : Valuation τ sig (Elt F)) : after hostOps0_8 V (Proc.devRef .tc main_arg5) = V (Proc.devRef .tc main_arg5) :=
  after_of_writes_sub hostOps0_8 V hostOps0_8_writes (by decide +kernel)
/-- `hostOps0_9` leaves the argument `main_arg5` as it was. -/
theorem keep_main_arg5_hostOps0_9 (V : Valuation τ sig (Elt F)) : after hostOps0_9 V (Proc.devRef .tc main_arg5) = V (Proc.devRef .tc main_arg5) :=
  after_of_writes_sub hostOps0_9 V hostOps0_9_writes (by decide +kernel)
/-- `hostOps0_10` leaves the argument `main_arg5` as it was. -/
theorem keep_main_arg5_hostOps0_10 (V : Valuation τ sig (Elt F)) : after hostOps0_10 V (Proc.devRef .tc main_arg5) = V (Proc.devRef .tc main_arg5) :=
  after_of_writes_sub hostOps0_10 V hostOps0_10_writes (by decide +kernel)
/-- `hostOps0_11` leaves the argument `main_arg5` as it was. -/
theorem keep_main_arg5_hostOps0_11 (V : Valuation τ sig (Elt F)) : after hostOps0_11 V (Proc.devRef .tc main_arg5) = V (Proc.devRef .tc main_arg5) :=
  after_of_writes_sub hostOps0_11 V hostOps0_11_writes (by decide +kernel)
/-- `hostOps0_12` leaves the argument `main_arg5` as it was. -/
theorem keep_main_arg5_hostOps0_12 (V : Valuation τ sig (Elt F)) : after hostOps0_12 V (Proc.devRef .tc main_arg5) = V (Proc.devRef .tc main_arg5) :=
  after_of_writes_sub hostOps0_12 V hostOps0_12_writes (by decide +kernel)
/-- `hostOps0_13` leaves the argument `main_arg5` as it was. -/
theorem keep_main_arg5_hostOps0_13 (V : Valuation τ sig (Elt F)) : after hostOps0_13 V (Proc.devRef .tc main_arg5) = V (Proc.devRef .tc main_arg5) :=
  after_of_writes_sub hostOps0_13 V hostOps0_13_writes (by decide +kernel)
/-- `hostOps0_14` leaves the argument `main_arg5` as it was. -/
theorem keep_main_arg5_hostOps0_14 (V : Valuation τ sig (Elt F)) : after hostOps0_14 V (Proc.devRef .tc main_arg5) = V (Proc.devRef .tc main_arg5) :=
  after_of_writes_sub hostOps0_14 V hostOps0_14_writes (by decide +kernel)
/-- `hostOps0_15` leaves the argument `main_arg5` as it was. -/
theorem keep_main_arg5_hostOps0_15 (V : Valuation τ sig (Elt F)) : after hostOps0_15 V (Proc.devRef .tc main_arg5) = V (Proc.devRef .tc main_arg5) :=
  after_of_writes_sub hostOps0_15 V hostOps0_15_writes (by decide +kernel)
/-- `hostOps0_16` leaves the argument `main_arg5` as it was. -/
theorem keep_main_arg5_hostOps0_16 (V : Valuation τ sig (Elt F)) : after hostOps0_16 V (Proc.devRef .tc main_arg5) = V (Proc.devRef .tc main_arg5) :=
  after_of_writes_sub hostOps0_16 V hostOps0_16_writes (by decide +kernel)
/-- `hostOps0_17` leaves the argument `main_arg5` as it was. -/
theorem keep_main_arg5_hostOps0_17 (V : Valuation τ sig (Elt F)) : after hostOps0_17 V (Proc.devRef .tc main_arg5) = V (Proc.devRef .tc main_arg5) :=
  after_of_writes_sub hostOps0_17 V hostOps0_17_writes (by decide +kernel)
/-- `hostOps0_18` leaves the argument `main_arg5` as it was. -/
theorem keep_main_arg5_hostOps0_18 (V : Valuation τ sig (Elt F)) : after hostOps0_18 V (Proc.devRef .tc main_arg5) = V (Proc.devRef .tc main_arg5) :=
  after_of_writes_sub hostOps0_18 V hostOps0_18_writes (by decide +kernel)
/-- `hostOps0_19` leaves the argument `main_arg5` as it was. -/
theorem keep_main_arg5_hostOps0_19 (V : Valuation τ sig (Elt F)) : after hostOps0_19 V (Proc.devRef .tc main_arg5) = V (Proc.devRef .tc main_arg5) :=
  after_of_writes_sub hostOps0_19 V hostOps0_19_writes (by decide +kernel)
/-- The argument `main_arg5` is written by nothing: it holds its launch contents before every condition. -/
theorem atK_main_arg5 (c : Dev nD) : ∀ k, atK m k c (Proc.devRef .tc main_arg5) = m ((c.tc : Thread nD τ).loc main_arg5)
  | 0 => by
    rw [show atK m 0 c = entryContents preI m c from rfl]
    simp only [entryContents, afterL_cons, afterL_nil]
    rw [keep_main_arg5_hostOps0_6, keep_main_arg5_hostOps0_5, keep_main_arg5_hostOps0_4, keep_main_arg5_hostOps0_3, keep_main_arg5_hostOps0_2, keep_main_arg5_hostOps0_1, keep_main_arg5_hostOps0]
  | k + 1 => by
    rw [show atK m (k + 1) c = afterL bodyI (after condOps (atK m k c)) from rfl]
    simp only [afterL_cons, afterL_nil]
    rw [keep_main_arg5_while0Ops0, keep_main_arg5_condOps, atK_main_arg5 c k]

/-! ## After the loop -/

/-- The operations after the loop do not write `main_arg0`. -/
theorem post_keeps_main_arg0 (V0 : Valuation τ sig (Elt F)) : afterL postI V0 (Proc.devRef .tc main_arg0) = V0 (Proc.devRef .tc main_arg0) := by
  simp only [postI, afterL_cons, afterL_nil]
  rw [keep_main_arg0_hostOps0_19, keep_main_arg0_hostOps0_18, keep_main_arg0_hostOps0_17, keep_main_arg0_hostOps0_16, keep_main_arg0_hostOps0_15, keep_main_arg0_hostOps0_14, keep_main_arg0_hostOps0_13, keep_main_arg0_hostOps0_12, keep_main_arg0_hostOps0_11, keep_main_arg0_hostOps0_10, keep_main_arg0_hostOps0_9, keep_main_arg0_hostOps0_8, keep_main_arg0_hostOps0_7]
/-- The operations after the loop do not write `main_arg1`. -/
theorem post_keeps_main_arg1 (V0 : Valuation τ sig (Elt F)) : afterL postI V0 (Proc.devRef .tc main_arg1) = V0 (Proc.devRef .tc main_arg1) := by
  simp only [postI, afterL_cons, afterL_nil]
  rw [keep_main_arg1_hostOps0_19, keep_main_arg1_hostOps0_18, keep_main_arg1_hostOps0_17, keep_main_arg1_hostOps0_16, keep_main_arg1_hostOps0_15, keep_main_arg1_hostOps0_14, keep_main_arg1_hostOps0_13, keep_main_arg1_hostOps0_12, keep_main_arg1_hostOps0_11, keep_main_arg1_hostOps0_10, keep_main_arg1_hostOps0_9, keep_main_arg1_hostOps0_8, keep_main_arg1_hostOps0_7]
/-- The operations after the loop do not write `main_arg2`. -/
theorem post_keeps_main_arg2 (V0 : Valuation τ sig (Elt F)) : afterL postI V0 (Proc.devRef .tc main_arg2) = V0 (Proc.devRef .tc main_arg2) := by
  simp only [postI, afterL_cons, afterL_nil]
  rw [keep_main_arg2_hostOps0_19, keep_main_arg2_hostOps0_18, keep_main_arg2_hostOps0_17, keep_main_arg2_hostOps0_16, keep_main_arg2_hostOps0_15, keep_main_arg2_hostOps0_14, keep_main_arg2_hostOps0_13, keep_main_arg2_hostOps0_12, keep_main_arg2_hostOps0_11, keep_main_arg2_hostOps0_10, keep_main_arg2_hostOps0_9, keep_main_arg2_hostOps0_8, keep_main_arg2_hostOps0_7]
/-- The operations after the loop do not write `main_arg3`. -/
theorem post_keeps_main_arg3 (V0 : Valuation τ sig (Elt F)) : afterL postI V0 (Proc.devRef .tc main_arg3) = V0 (Proc.devRef .tc main_arg3) := by
  simp only [postI, afterL_cons, afterL_nil]
  rw [keep_main_arg3_hostOps0_19, keep_main_arg3_hostOps0_18, keep_main_arg3_hostOps0_17, keep_main_arg3_hostOps0_16, keep_main_arg3_hostOps0_15, keep_main_arg3_hostOps0_14, keep_main_arg3_hostOps0_13, keep_main_arg3_hostOps0_12, keep_main_arg3_hostOps0_11, keep_main_arg3_hostOps0_10, keep_main_arg3_hostOps0_9, keep_main_arg3_hostOps0_8, keep_main_arg3_hostOps0_7]
/-- The operations after the loop do not write `main_arg4`. -/
theorem post_keeps_main_arg4 (V0 : Valuation τ sig (Elt F)) : afterL postI V0 (Proc.devRef .tc main_arg4) = V0 (Proc.devRef .tc main_arg4) := by
  simp only [postI, afterL_cons, afterL_nil]
  rw [keep_main_arg4_hostOps0_19, keep_main_arg4_hostOps0_18, keep_main_arg4_hostOps0_17, keep_main_arg4_hostOps0_16, keep_main_arg4_hostOps0_15, keep_main_arg4_hostOps0_14, keep_main_arg4_hostOps0_13, keep_main_arg4_hostOps0_12, keep_main_arg4_hostOps0_11, keep_main_arg4_hostOps0_10, keep_main_arg4_hostOps0_9, keep_main_arg4_hostOps0_8, keep_main_arg4_hostOps0_7]
/-- The operations after the loop do not write `main_arg5`. -/
theorem post_keeps_main_arg5 (V0 : Valuation τ sig (Elt F)) : afterL postI V0 (Proc.devRef .tc main_arg5) = V0 (Proc.devRef .tc main_arg5) := by
  simp only [postI, afterL_cons, afterL_nil]
  rw [keep_main_arg5_hostOps0_19, keep_main_arg5_hostOps0_18, keep_main_arg5_hostOps0_17, keep_main_arg5_hostOps0_16, keep_main_arg5_hostOps0_15, keep_main_arg5_hostOps0_14, keep_main_arg5_hostOps0_13, keep_main_arg5_hostOps0_12, keep_main_arg5_hostOps0_11, keep_main_arg5_hostOps0_10, keep_main_arg5_hostOps0_9, keep_main_arg5_hostOps0_8, keep_main_arg5_hostOps0_7]
/-- `STEP` iterated on the loop's entry leaves the argument `main_arg0` as the launch has it. -/
theorem iter_main_arg0 (c : Dev nD) : ∀ k, (STEP^[k] (entryContents preI m c)) (Proc.devRef .tc main_arg0) = m ((c.tc : Thread nD τ).loc main_arg0)
  | 0 => by rw [Function.iterate_zero, id_eq, ← atTrip_zero condOps bodyI (entryContents preI m)]; exact atK_main_arg0 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg0 c k
/-- `STEP` iterated on the loop's entry leaves the argument `main_arg1` as the launch has it. -/
theorem iter_main_arg1 (c : Dev nD) : ∀ k, (STEP^[k] (entryContents preI m c)) (Proc.devRef .tc main_arg1) = m ((c.tc : Thread nD τ).loc main_arg1)
  | 0 => by rw [Function.iterate_zero, id_eq, ← atTrip_zero condOps bodyI (entryContents preI m)]; exact atK_main_arg1 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg1 c k
/-- `STEP` iterated on the loop's entry leaves the argument `main_arg2` as the launch has it. -/
theorem iter_main_arg2 (c : Dev nD) : ∀ k, (STEP^[k] (entryContents preI m c)) (Proc.devRef .tc main_arg2) = m ((c.tc : Thread nD τ).loc main_arg2)
  | 0 => by rw [Function.iterate_zero, id_eq, ← atTrip_zero condOps bodyI (entryContents preI m)]; exact atK_main_arg2 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg2 c k
/-- `STEP` iterated on the loop's entry leaves the argument `main_arg3` as the launch has it. -/
theorem iter_main_arg3 (c : Dev nD) : ∀ k, (STEP^[k] (entryContents preI m c)) (Proc.devRef .tc main_arg3) = m ((c.tc : Thread nD τ).loc main_arg3)
  | 0 => by rw [Function.iterate_zero, id_eq, ← atTrip_zero condOps bodyI (entryContents preI m)]; exact atK_main_arg3 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg3 c k
/-- `STEP` iterated on the loop's entry leaves the argument `main_arg4` as the launch has it. -/
theorem iter_main_arg4 (c : Dev nD) : ∀ k, (STEP^[k] (entryContents preI m c)) (Proc.devRef .tc main_arg4) = m ((c.tc : Thread nD τ).loc main_arg4)
  | 0 => by rw [Function.iterate_zero, id_eq, ← atTrip_zero condOps bodyI (entryContents preI m)]; exact atK_main_arg4 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg4 c k
/-- `STEP` iterated on the loop's entry leaves the argument `main_arg5` as the launch has it. -/
theorem iter_main_arg5 (c : Dev nD) : ∀ k, (STEP^[k] (entryContents preI m c)) (Proc.devRef .tc main_arg5) = m ((c.tc : Thread nD τ).loc main_arg5)
  | 0 => by rw [Function.iterate_zero, id_eq, ← atTrip_zero condOps bodyI (entryContents preI m)]; exact atK_main_arg5 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg5 c k

attribute [local irreducible] Host.reduceWindow Host.gather

set_option maxRecDepth 8192 in
/-- `main_v62`, which the operations after the loop make, of the contents they start from. -/
def out_main_v62 (V0 : Valuation τ sig (Elt F)) : (Proc.devRef .tc main_v62 : DevRef τ sig).ty.Contents (Elt F) :=
  addf (V0 (Proc.devRef .tc main_arg1)) (mulf (mulf (Host.gather gather_S8x512x2048_S8x2048x1_S8x2048x2048_2_1_0_0_1_2_112048 (mulf (V0 (Proc.devRef .tc main_v29_5)) (broadcastInDim S8x512x2048 ![0, 1, 2] bcast_S8x512x1_S8x512x2048_0_1_2 (uitofp .f32 (broadcastInDim S8x512x1 ![0, 1] bcast_S8x512_S8x512x1_0_1 (cmpi .slt (broadcastInDim S8x512 ![0, 1] bcast_S1x512_S8x512_0_1 (broadcastInDim S1x512 ![1] bcast_S512_S1x512_1 (iotaInDim S512 32 0))) (broadcastInDim S8x512 ![0, 1] bcast_S8x1_S8x512_0_1 (broadcastInDim S8x1 ![0] bcast_S8_S8x1_0 (V0 (Proc.devRef .tc main_arg4))))))))) (broadcastInDim S8x2048x1 ![0, 1] bcast_S8x2048_S8x2048x1_0_1 (minsi (broadcastInDim S8x2048 ![] bcast_S_S8x2048 (id (constantI S_ 32 511#32))) (maxsi (broadcastInDim S8x2048 ![] bcast_S_S8x2048 (id (constantI S_ 32 0#32))) (subi (Host.reduceWindow IntOp.addi ![1, 2048] ![1, 1] ![0, 2047] ![0, 0] (extui 32 (V0 (Proc.devRef .tc main_arg2)) natLt_1_32) (broadcastInDim S_ ![] bcast_S_S_ (constantI S_ 32 0#32)) reduceWindows_S8x2048_S8x2048_w1s1p0_0_w2048s1p2047_0 h_S_) (broadcastInDim S8x2048 ![] bcast_S_S8x2048 (constantI S_ 32 1#32))))))) (broadcastInDim S8x2048x2048 ![0, 1, 2] bcast_S8x2048x1_S8x2048x2048_0_1_2 (uitofp .f32 (broadcastInDim S8x2048x1 ![0, 1] bcast_S8x2048_S8x2048x1_0_1 (cmpi .sge (subi (Host.reduceWindow IntOp.addi ![1, 2048] ![1, 1] ![0, 2047] ![0, 0] (extui 32 (V0 (Proc.devRef .tc main_arg2)) natLt_1_32) (broadcastInDim S_ ![] bcast_S_S_ (constantI S_ 32 0#32)) reduceWindows_S8x2048_S8x2048_w1s1p0_0_w2048s1p2047_0 h_S_) (broadcastInDim S8x2048 ![] bcast_S_S8x2048 (constantI S_ 32 1#32))) (broadcastInDim S8x2048 ![] bcast_S_S8x2048 (constantI S_ 32 0#32))))))) (broadcastInDim S8x2048x2048 ![0, 1, 2] bcast_S8x2048x1_S8x2048x2048_0_1_2 (broadcastInDim S8x2048x1 ![0, 1] bcast_S8x2048_S8x2048x1_0_1 (addf (subf (maximumf (subf (broadcastInDim S8x2048 ![] bcast_S_S8x2048 (constant S_ .f32 0x3F800000#32)) (V0 (Proc.devRef .tc main_arg3))) (V0 (Proc.devRef .tc main_arg3))) (maximumf (subf (broadcastInDim S8x2048 ![] bcast_S_S8x2048 (constant S_ .f32 0x3F800000#32)) (V0 (Proc.devRef .tc main_arg3))) (V0 (Proc.devRef .tc main_arg3)))) (broadcastInDim S8x2048 ![] bcast_S_S8x2048 (constant S_ .f32 0x3F800000#32))))))
set_option maxRecDepth 8192 in
set_option maxHeartbeats 2000000 in
/-- After the operations that follow the loop, `main_v62` holds `out_main_v62` of what they start from. -/
theorem post_main_v62 (V0 : Valuation τ sig (Elt F)) : afterL postI V0 (no_index (Proc.devRef .tc main_v62)) = out_main_v62 V0 := by
  unfold out_main_v62
  simp only [postI, afterL_cons, afterL_nil, hostOps0_7, hostOps0_8, hostOps0_9, hostOps0_10, hostOps0_11, hostOps0_12, hostOps0_13, hostOps0_14, hostOps0_15, hostOps0_16, hostOps0_17, hostOps0_18, hostOps0_19]
  after_results_entrywise []
set_option maxRecDepth 8192 in
/-- `out_main_v62` depends only on the buffers that it reads. -/
theorem out_main_v62_congr {V0 V0' : Valuation τ sig (Elt F)} (h : Agree V0 V0') (h_main_arg1 : V0 (Proc.devRef .tc main_arg1) = V0' (Proc.devRef .tc main_arg1)) (h_main_arg4 : V0 (Proc.devRef .tc main_arg4) = V0' (Proc.devRef .tc main_arg4)) (h_main_arg2 : V0 (Proc.devRef .tc main_arg2) = V0' (Proc.devRef .tc main_arg2)) (h_main_arg3 : V0 (Proc.devRef .tc main_arg3) = V0' (Proc.devRef .tc main_arg3)) : out_main_v62 V0 = out_main_v62 V0' := by
  unfold out_main_v62
  rw [h_main_arg1, h main_v29_5 (by decide), h_main_arg4, h_main_arg2, h_main_arg3]
set_option maxRecDepth 8192 in
/-- `main_v73`, which the operations after the loop make, of the contents they start from. -/
def out_main_v73 (V0 : Valuation τ sig (Elt F)) : (Proc.devRef .tc main_v73 : DevRef τ sig).ty.Contents (Elt F) :=
  broadcastInDim S8x1x2048 ![0, 2] bcast_S8x2048_S8x1x2048_0_2 (select (broadcastInDim S8x2048 ![0, 1] bcast_S8x1_S8x2048_0_1 (broadcastInDim S8x1 ![0] bcast_S8_S8x1_0 (cmpi .sgt (V0 (Proc.devRef .tc main_arg4)) (broadcastInDim S8 ![] bcast_S_S8 (constantI S_ 32 0#32))))) (shapeCast _ (Host.gather gather_S8x512x2048_S8x1x1_S8x1x2048_2_1_0_0_1_2_112048 (mulf (V0 (Proc.devRef .tc main_v29_5)) (broadcastInDim S8x512x2048 ![0, 1, 2] bcast_S8x512x1_S8x512x2048_0_1_2 (uitofp .f32 (broadcastInDim S8x512x1 ![0, 1] bcast_S8x512_S8x512x1_0_1 (cmpi .slt (broadcastInDim S8x512 ![0, 1] bcast_S1x512_S8x512_0_1 (broadcastInDim S1x512 ![1] bcast_S512_S1x512_1 (iotaInDim S512 32 0))) (broadcastInDim S8x512 ![0, 1] bcast_S8x1_S8x512_0_1 (broadcastInDim S8x1 ![0] bcast_S8_S8x1_0 (V0 (Proc.devRef .tc main_arg4))))))))) (broadcastInDim S8x1x1 ![0] bcast_S8_S8x1x1_0 (minsi (broadcastInDim S8 ![] bcast_S_S8 (id (constantI S_ 32 511#32))) (maxsi (broadcastInDim S8 ![] bcast_S_S8 (id (constantI S_ 32 0#32))) (subi (V0 (Proc.devRef .tc main_arg4)) (broadcastInDim S8 ![] bcast_S_S8 (constantI S_ 32 1#32))))))) shapeCasts_S8x1x2048_S8x2048) (V0 (Proc.devRef .tc main_arg5)))
set_option maxRecDepth 8192 in
set_option maxHeartbeats 2000000 in
/-- After the operations that follow the loop, `main_v73` holds `out_main_v73` of what they start from. -/
theorem post_main_v73 (V0 : Valuation τ sig (Elt F)) : afterL postI V0 (no_index (Proc.devRef .tc main_v73)) = out_main_v73 V0 := by
  unfold out_main_v73
  simp only [postI, afterL_cons, afterL_nil, hostOps0_7, hostOps0_8, hostOps0_9, hostOps0_10, hostOps0_11, hostOps0_12, hostOps0_13, hostOps0_14, hostOps0_15, hostOps0_16, hostOps0_17, hostOps0_18, hostOps0_19]
  after_results_entrywise []
set_option maxRecDepth 8192 in
/-- `out_main_v73` depends only on the buffers that it reads. -/
theorem out_main_v73_congr {V0 V0' : Valuation τ sig (Elt F)} (h : Agree V0 V0') (h_main_arg4 : V0 (Proc.devRef .tc main_arg4) = V0' (Proc.devRef .tc main_arg4)) (h_main_arg5 : V0 (Proc.devRef .tc main_arg5) = V0' (Proc.devRef .tc main_arg5)) : out_main_v73 V0 = out_main_v73 V0' := by
  unfold out_main_v73
  rw [h_main_arg4, h main_v29_5 (by decide), h_main_arg5]
/-- THE RUN: on every device, for any float values, from any memory with zero counters, every weakly fair execution
    of @main terminates with each result at its component of `STEP` iterated 512 times on the loop's entry (`step_‹buffer›`
    says what one trip makes of each carried buffer), or, for a result the operations after the loop make, at `out_‹result›` of that, and every argument unchanged. -/
theorem run : θ_run (defs (F := F)) (onTc (τ := τ) (main (F := F))) ⟨m, fun _ => 0, ρ⟩ fun r => ∀ c : Dev nD,
      r.2.mem ((c.tc : Thread nD τ).loc main_v62) = out_main_v62 (STEP^[512] (entryContents preI m c))
      ∧ r.2.mem ((c.tc : Thread nD τ).loc main_v73) = out_main_v73 (STEP^[512] (entryContents preI m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v62 rfl).trans ((post_main_v62 _).trans (out_main_v62_congr (fun j hj => (cond_keeps _ j hj).trans (atK_agree m c 512 j hj)) ((keep_main_arg1_condOps _).trans ((atK_main_arg1 m c 512).trans (iter_main_arg1 m c 512).symm)) ((keep_main_arg4_condOps _).trans ((atK_main_arg4 m c 512).trans (iter_main_arg4 m c 512).symm)) ((keep_main_arg2_condOps _).trans ((atK_main_arg2 m c 512).trans (iter_main_arg2 m c 512).symm)) ((keep_main_arg3_condOps _).trans ((atK_main_arg3 m c 512).trans (iter_main_arg3 m c 512).symm)))),
      (h c main_v73 rfl).trans ((post_main_v73 _).trans (out_main_v73_congr (fun j hj => (cond_keeps _ j hj).trans (atK_agree m c 512 j hj)) ((keep_main_arg4_condOps _).trans ((atK_main_arg4 m c 512).trans (iter_main_arg4 m c 512).symm)) ((keep_main_arg5_condOps _).trans ((atK_main_arg5 m c 512).trans (iter_main_arg5 m c 512).symm)))),
      (h c main_arg0 rfl).trans ((post_keeps_main_arg0 _).trans ((keep_main_arg0_condOps _).trans (atK_main_arg0 m c 512))),
      (h c main_arg1 rfl).trans ((post_keeps_main_arg1 _).trans ((keep_main_arg1_condOps _).trans (atK_main_arg1 m c 512))),
      (h c main_arg2 rfl).trans ((post_keeps_main_arg2 _).trans ((keep_main_arg2_condOps _).trans (atK_main_arg2 m c 512))),
      (h c main_arg3 rfl).trans ((post_keeps_main_arg3 _).trans ((keep_main_arg3_condOps _).trans (atK_main_arg3 m c 512))),
      (h c main_arg4 rfl).trans ((post_keeps_main_arg4 _).trans ((keep_main_arg4_condOps _).trans (atK_main_arg4 m c 512))),
      (h c main_arg5 rfl).trans ((post_keeps_main_arg5 _).trans ((keep_main_arg5_condOps _).trans (atK_main_arg5 m c 512)))⟩) (run_fold m ρ)

end Cert.Proof.RefRun
end
-- ==== Proof.RefSteps.lean ====
module

public import proofs.«01_k».proof.Proof.RefRun
public import proofs.«01_k».proof.Proof.Gen.ReferenceIdeal.Step

/-!
The reference's run in terms of its step.  Contents HOLD a state when each carried buffer has that state's field and each
counter the trip's number.  What stands before the loop holds the initial state, one trip keeps the contents holding with
the step applied, and so the results are those of the step iterated 512 times.  `al_0` to `al_36` say of each value that
one trip computes that it is the step's value of the same place.
-/

@[expose] public section

noncomputable section

namespace Cert.Proof.RefSteps

open Idealize.ShloMosaic Idealize.ShloMosaic.TcCoe Idealize.SL.Sem Idealize.ShloMosaic.StableHlo
open Cert.ReferenceIdeal Cert.ReferenceIdeal.Gen Cert.Proof.RefProgram Cert.Proof.RefRun
open Cert.ReferenceIdeal.Step (State step init)

variable {F : FTy → Type} [FloatOps F]

variable (V0 : Valuation τ sig (Elt F)) (s : State F) (j : ℕ)

/-- The valuation holds the state, the set-up values and the trip's number. -/
structure Holds : Prop where
  f_4 : V0 (Proc.devRef .tc main_v29_4) = s.main_v29_4
  f_5 : V0 (Proc.devRef .tc main_v29_5) = s.main_v29_5
  f_0 : V0 (Proc.devRef .tc main_v29_0) = s.main_v29_0
  f_1 : V0 (Proc.devRef .tc main_v29_1) = s.main_v29_1
  n_2 : V0 (Proc.devRef .tc main_v29_2) = constantI S_ 32 (BitVec.ofNat 32 j)
  n_3 : V0 (Proc.devRef .tc main_v29_3) = constantI S_ 32 (BitVec.ofNat 32 j)

variable {V0 s j}

set_option maxRecDepth 8192 in
/-- Where the contents hold a state, value 0 of one trip is the step's value 0. -/
theorem al_0 (h : Holds V0 s j) : (constantI S_ 32 1#32 : (Proc.devRef .tc main_while0b_c_22 : DevRef τ sig).ty.Contents (Elt F)) = Cert.ReferenceIdeal.Step.b0 j s := by
  unfold Cert.ReferenceIdeal.Step.b0
  rfl
set_option maxRecDepth 8192 in
/-- Where the contents hold a state, value 1 of one trip is the step's value 1. -/
theorem al_1 (h : Holds V0 s j) : (addi (V0 (Proc.devRef .tc main_v29_3)) (constantI S_ 32 1#32) : (Proc.devRef .tc main_while0b_v74 : DevRef τ sig).ty.Contents (Elt F)) = Cert.ReferenceIdeal.Step.b1 j s := by
  unfold Cert.ReferenceIdeal.Step.b1
  rw [← al_0 h, h.n_3]
  try rfl
set_option maxRecDepth 8192 in
/-- Where the contents hold a state, value 2 of one trip is the step's value 2. -/
theorem al_2 (h : Holds V0 s j) : (constantI S_ 32 0#32 : (Proc.devRef .tc main_while0b_c_23 : DevRef τ sig).ty.Contents (Elt F)) = Cert.ReferenceIdeal.Step.b2 j s := by
  unfold Cert.ReferenceIdeal.Step.b2
  rfl
set_option maxRecDepth 8192 in
/-- Where the contents hold a state, value 3 of one trip is the step's value 3. -/
theorem al_3 (h : Holds V0 s j) : (cmpi .slt (V0 (Proc.devRef .tc main_v29_3)) (constantI S_ 32 0#32) : (Proc.devRef .tc main_while0b_v75 : DevRef τ sig).ty.Contents (Elt F)) = Cert.ReferenceIdeal.Step.b3 j s := by
  unfold Cert.ReferenceIdeal.Step.b3
  rw [← al_2 h, h.n_3]
  try rfl
set_option maxRecDepth 8192 in
/-- Where the contents hold a state, value 4 of one trip is the step's value 4. -/
theorem al_4 (h : Holds V0 s j) : (id (V0 (Proc.devRef .tc main_v29_3)) : (Proc.devRef .tc main_while0b_v76 : DevRef τ sig).ty.Contents (Elt F)) = Cert.ReferenceIdeal.Step.b4 j s := by
  unfold Cert.ReferenceIdeal.Step.b4
  rw [h.n_3]
  try rfl
set_option maxRecDepth 8192 in
/-- Where the contents hold a state, value 5 of one trip is the step's value 5. -/
theorem al_5 (h : Holds V0 s j) : (constantI S_ 32 512#32 : (Proc.devRef .tc main_while0b_c_24 : DevRef τ sig).ty.Contents (Elt F)) = Cert.ReferenceIdeal.Step.b5 j s := by
  unfold Cert.ReferenceIdeal.Step.b5
  rfl
set_option maxRecDepth 8192 in
/-- Where the contents hold a state, value 6 of one trip is the step's value 6. -/
theorem al_6 (h : Holds V0 s j) : (addi (id (V0 (Proc.devRef .tc main_v29_3))) (constantI S_ 32 512#32) : (Proc.devRef .tc main_while0b_v77 : DevRef τ sig).ty.Contents (Elt F)) = Cert.ReferenceIdeal.Step.b6 j s := by
  unfold Cert.ReferenceIdeal.Step.b6
  rw [← al_4 h, ← al_5 h]
  try rfl
set_option maxRecDepth 8192 in
/-- Where the contents hold a state, value 7 of one trip is the step's value 7. -/
theorem al_7 (h : Holds V0 s j) : (select (cmpi .slt (V0 (Proc.devRef .tc main_v29_3)) (constantI S_ 32 0#32)) (addi (id (V0 (Proc.devRef .tc main_v29_3))) (constantI S_ 32 512#32)) (V0 (Proc.devRef .tc main_v29_3)) : (Proc.devRef .tc main_while0b_v78 : DevRef τ sig).ty.Contents (Elt F)) = Cert.ReferenceIdeal.Step.b7 j s := by
  unfold Cert.ReferenceIdeal.Step.b7
  rw [← al_3 h, ← al_6 h, h.n_3]
  try rfl
set_option maxRecDepth 8192 in
/-- Where the contents hold a state, value 8 of one trip is the step's value 8. -/
theorem al_8 (h : Holds V0 s j) : (constantI S_ 32 0#32 : (Proc.devRef .tc main_while0b_c_25 : DevRef τ sig).ty.Contents (Elt F)) = Cert.ReferenceIdeal.Step.b8 j s := by
  unfold Cert.ReferenceIdeal.Step.b8
  rfl
set_option maxRecDepth 8192 in
/-- Where the contents hold a state, value 9 of one trip is the step's value 9. -/
theorem al_9 (h : Holds V0 s j) : (Host.dynamicSlice S8x1 (V0 (Proc.devRef .tc main_v29_0)) (fun k => (((![constantI S_ 32 0#32, select (cmpi .slt (V0 (Proc.devRef .tc main_v29_3)) (constantI S_ 32 0#32)) (addi (id (V0 (Proc.devRef .tc main_v29_3))) (constantI S_ 32 512#32)) (V0 (Proc.devRef .tc main_v29_3))] : Fin 2 → (⟨S_, .i32⟩ : BufTy).Contents (Elt F))) k (Shape.Idx.first h_S_)).toInt) sliceFits_S8x512_S8x1 : (Proc.devRef .tc main_while0b_v79 : DevRef τ sig).ty.Contents (Elt F)) = Cert.ReferenceIdeal.Step.b9 j s := by
  unfold Cert.ReferenceIdeal.Step.b9
  rw [← al_8 h, ← al_7 h, h.f_0]
  try rfl
set_option maxRecDepth 8192 in
/-- Where the contents hold a state, value 10 of one trip is the step's value 10. -/
theorem al_10 (h : Holds V0 s j) : (res_main_while0b_v80 V0 : (Proc.devRef .tc main_while0b_v80 : DevRef τ sig).ty.Contents (Elt F)) = Cert.ReferenceIdeal.Step.b10 j s := by
  unfold res_main_while0b_v80 Cert.ReferenceIdeal.Step.b10
  rw [← al_9 h]
  try rfl
set_option maxRecDepth 8192 in
/-- Where the contents hold a state, value 11 of one trip is the step's value 11. -/
theorem al_11 (h : Holds V0 s j) : (constantI S_ 32 0#32 : (Proc.devRef .tc main_while0b_c_26 : DevRef τ sig).ty.Contents (Elt F)) = Cert.ReferenceIdeal.Step.b11 j s := by
  unfold Cert.ReferenceIdeal.Step.b11
  rfl
set_option maxRecDepth 8192 in
/-- Where the contents hold a state, value 12 of one trip is the step's value 12. -/
theorem al_12 (h : Holds V0 s j) : (cmpi .slt (V0 (Proc.devRef .tc main_v29_3)) (constantI S_ 32 0#32) : (Proc.devRef .tc main_while0b_v81 : DevRef τ sig).ty.Contents (Elt F)) = Cert.ReferenceIdeal.Step.b12 j s := by
  unfold Cert.ReferenceIdeal.Step.b12
  rw [← al_11 h, h.n_3]
  try rfl
set_option maxRecDepth 8192 in
/-- Where the contents hold a state, value 13 of one trip is the step's value 13. -/
theorem al_13 (h : Holds V0 s j) : (id (V0 (Proc.devRef .tc main_v29_3)) : (Proc.devRef .tc main_while0b_v82 : DevRef τ sig).ty.Contents (Elt F)) = Cert.ReferenceIdeal.Step.b13 j s := by
  unfold Cert.ReferenceIdeal.Step.b13
  rw [h.n_3]
  try rfl
set_option maxRecDepth 8192 in
/-- Where the contents hold a state, value 14 of one trip is the step's value 14. -/
theorem al_14 (h : Holds V0 s j) : (constantI S_ 32 512#32 : (Proc.devRef .tc main_while0b_c_27 : DevRef τ sig).ty.Contents (Elt F)) = Cert.ReferenceIdeal.Step.b14 j s := by
  unfold Cert.ReferenceIdeal.Step.b14
  rfl
set_option maxRecDepth 8192 in
/-- Where the contents hold a state, value 15 of one trip is the step's value 15. -/
theorem al_15 (h : Holds V0 s j) : (addi (id (V0 (Proc.devRef .tc main_v29_3))) (constantI S_ 32 512#32) : (Proc.devRef .tc main_while0b_v83 : DevRef τ sig).ty.Contents (Elt F)) = Cert.ReferenceIdeal.Step.b15 j s := by
  unfold Cert.ReferenceIdeal.Step.b15
  rw [← al_13 h, ← al_14 h]
  try rfl
set_option maxRecDepth 8192 in
/-- Where the contents hold a state, value 16 of one trip is the step's value 16. -/
theorem al_16 (h : Holds V0 s j) : (select (cmpi .slt (V0 (Proc.devRef .tc main_v29_3)) (constantI S_ 32 0#32)) (addi (id (V0 (Proc.devRef .tc main_v29_3))) (constantI S_ 32 512#32)) (V0 (Proc.devRef .tc main_v29_3)) : (Proc.devRef .tc main_while0b_v84 : DevRef τ sig).ty.Contents (Elt F)) = Cert.ReferenceIdeal.Step.b16 j s := by
  unfold Cert.ReferenceIdeal.Step.b16
  rw [← al_12 h, ← al_15 h, h.n_3]
  try rfl
set_option maxRecDepth 8192 in
/-- Where the contents hold a state, value 17 of one trip is the step's value 17. -/
theorem al_17 (h : Holds V0 s j) : (constantI S_ 32 0#32 : (Proc.devRef .tc main_while0b_c_28 : DevRef τ sig).ty.Contents (Elt F)) = Cert.ReferenceIdeal.Step.b17 j s := by
  unfold Cert.ReferenceIdeal.Step.b17
  rfl
set_option maxRecDepth 8192 in
/-- Where the contents hold a state, value 18 of one trip is the step's value 18. -/
theorem al_18 (h : Holds V0 s j) : (constantI S_ 32 0#32 : (Proc.devRef .tc main_while0b_c_29 : DevRef τ sig).ty.Contents (Elt F)) = Cert.ReferenceIdeal.Step.b18 j s := by
  unfold Cert.ReferenceIdeal.Step.b18
  rfl
set_option maxRecDepth 8192 in
/-- Where the contents hold a state, value 19 of one trip is the step's value 19. -/
theorem al_19 (h : Holds V0 s j) : (Host.dynamicSlice S8x1x2048 (V0 (Proc.devRef .tc main_v29_1)) (fun k => (((![constantI S_ 32 0#32, select (cmpi .slt (V0 (Proc.devRef .tc main_v29_3)) (constantI S_ 32 0#32)) (addi (id (V0 (Proc.devRef .tc main_v29_3))) (constantI S_ 32 512#32)) (V0 (Proc.devRef .tc main_v29_3)), constantI S_ 32 0#32] : Fin 3 → (⟨S_, .i32⟩ : BufTy).Contents (Elt F))) k (Shape.Idx.first h_S_)).toInt) sliceFits_S8x512x2048_S8x1x2048 : (Proc.devRef .tc main_while0b_v85 : DevRef τ sig).ty.Contents (Elt F)) = Cert.ReferenceIdeal.Step.b19 j s := by
  unfold Cert.ReferenceIdeal.Step.b19
  rw [← al_17 h, ← al_16 h, ← al_18 h, h.f_1]
  try rfl
set_option maxRecDepth 8192 in
/-- Where the contents hold a state, value 20 of one trip is the step's value 20. -/
theorem al_20 (h : Holds V0 s j) : (broadcastInDim S8x1x2048 ![0, 1, 2] bcast_S8x1x1_S8x1x2048_0_1_2 (res_main_while0b_v80 V0) : (Proc.devRef .tc main_while0b_v86 : DevRef τ sig).ty.Contents (Elt F)) = Cert.ReferenceIdeal.Step.b20 j s := by
  unfold Cert.ReferenceIdeal.Step.b20
  rw [← al_10 h]
  try rfl
set_option maxRecDepth 8192 in
/-- Where the contents hold a state, value 21 of one trip is the step's value 21. -/
theorem al_21 (h : Holds V0 s j) : (mulf (broadcastInDim S8x1x2048 ![0, 1, 2] bcast_S8x1x1_S8x1x2048_0_1_2 (res_main_while0b_v80 V0)) (V0 (Proc.devRef .tc main_v29_4)) : (Proc.devRef .tc main_while0b_v87 : DevRef τ sig).ty.Contents (Elt F)) = Cert.ReferenceIdeal.Step.b21 j s := by
  unfold Cert.ReferenceIdeal.Step.b21
  rw [← al_20 h, h.f_4]
  try rfl
set_option maxRecDepth 8192 in
/-- Where the contents hold a state, value 22 of one trip is the step's value 22. -/
theorem al_22 (h : Holds V0 s j) : (constant S_ .f32 0x3F800000#32 : (Proc.devRef .tc main_while0b_cst_30 : DevRef τ sig).ty.Contents (Elt F)) = Cert.ReferenceIdeal.Step.b22 j s := by
  unfold Cert.ReferenceIdeal.Step.b22
  rfl
set_option maxRecDepth 8192 in
/-- Where the contents hold a state, value 23 of one trip is the step's value 23. -/
theorem al_23 (h : Holds V0 s j) : (broadcastInDim S8x1x1 ![] bcast_S_S8x1x1 (constant S_ .f32 0x3F800000#32) : (Proc.devRef .tc main_while0b_v88 : DevRef τ sig).ty.Contents (Elt F)) = Cert.ReferenceIdeal.Step.b23 j s := by
  unfold Cert.ReferenceIdeal.Step.b23
  rw [← al_22 h]
  try rfl
set_option maxRecDepth 8192 in
/-- Where the contents hold a state, value 24 of one trip is the step's value 24. -/
theorem al_24 (h : Holds V0 s j) : (subf (broadcastInDim S8x1x1 ![] bcast_S_S8x1x1 (constant S_ .f32 0x3F800000#32)) (res_main_while0b_v80 V0) : (Proc.devRef .tc main_while0b_v89 : DevRef τ sig).ty.Contents (Elt F)) = Cert.ReferenceIdeal.Step.b24 j s := by
  unfold Cert.ReferenceIdeal.Step.b24
  rw [← al_23 h, ← al_10 h]
  try rfl
set_option maxRecDepth 8192 in
/-- Where the contents hold a state, value 25 of one trip is the step's value 25. -/
theorem al_25 (h : Holds V0 s j) : (broadcastInDim S8x1x2048 ![0, 1, 2] bcast_S8x1x1_S8x1x2048_0_1_2 (subf (broadcastInDim S8x1x1 ![] bcast_S_S8x1x1 (constant S_ .f32 0x3F800000#32)) (res_main_while0b_v80 V0)) : (Proc.devRef .tc main_while0b_v90 : DevRef τ sig).ty.Contents (Elt F)) = Cert.ReferenceIdeal.Step.b25 j s := by
  unfold Cert.ReferenceIdeal.Step.b25
  rw [← al_24 h]
  try rfl
set_option maxRecDepth 8192 in
/-- Where the contents hold a state, value 26 of one trip is the step's value 26. -/
theorem al_26 (h : Holds V0 s j) : (mulf (broadcastInDim S8x1x2048 ![0, 1, 2] bcast_S8x1x1_S8x1x2048_0_1_2 (subf (broadcastInDim S8x1x1 ![] bcast_S_S8x1x1 (constant S_ .f32 0x3F800000#32)) (res_main_while0b_v80 V0))) (Host.dynamicSlice S8x1x2048 (V0 (Proc.devRef .tc main_v29_1)) (fun k => (((![constantI S_ 32 0#32, select (cmpi .slt (V0 (Proc.devRef .tc main_v29_3)) (constantI S_ 32 0#32)) (addi (id (V0 (Proc.devRef .tc main_v29_3))) (constantI S_ 32 512#32)) (V0 (Proc.devRef .tc main_v29_3)), constantI S_ 32 0#32] : Fin 3 → (⟨S_, .i32⟩ : BufTy).Contents (Elt F))) k (Shape.Idx.first h_S_)).toInt) sliceFits_S8x512x2048_S8x1x2048) : (Proc.devRef .tc main_while0b_v91 : DevRef τ sig).ty.Contents (Elt F)) = Cert.ReferenceIdeal.Step.b26 j s := by
  unfold Cert.ReferenceIdeal.Step.b26
  rw [← al_25 h, ← al_19 h]
  try rfl
set_option maxRecDepth 8192 in
/-- Where the contents hold a state, value 27 of one trip is the step's value 27. -/
theorem al_27 (h : Holds V0 s j) : (res_main_while0b_v92 V0 : (Proc.devRef .tc main_while0b_v92 : DevRef τ sig).ty.Contents (Elt F)) = Cert.ReferenceIdeal.Step.b27 j s := by
  unfold res_main_while0b_v92 Cert.ReferenceIdeal.Step.b27
  rw [← al_21 h, ← al_26 h]
  try rfl
set_option maxRecDepth 8192 in
/-- Where the contents hold a state, value 28 of one trip is the step's value 28. -/
theorem al_28 (h : Holds V0 s j) : (constantI S_ 32 0#32 : (Proc.devRef .tc main_while0b_c_31 : DevRef τ sig).ty.Contents (Elt F)) = Cert.ReferenceIdeal.Step.b28 j s := by
  unfold Cert.ReferenceIdeal.Step.b28
  rfl
set_option maxRecDepth 8192 in
/-- Where the contents hold a state, value 29 of one trip is the step's value 29. -/
theorem al_29 (h : Holds V0 s j) : (cmpi .slt (V0 (Proc.devRef .tc main_v29_3)) (constantI S_ 32 0#32) : (Proc.devRef .tc main_while0b_v93 : DevRef τ sig).ty.Contents (Elt F)) = Cert.ReferenceIdeal.Step.b29 j s := by
  unfold Cert.ReferenceIdeal.Step.b29
  rw [← al_28 h, h.n_3]
  try rfl
set_option maxRecDepth 8192 in
/-- Where the contents hold a state, value 30 of one trip is the step's value 30. -/
theorem al_30 (h : Holds V0 s j) : (id (V0 (Proc.devRef .tc main_v29_3)) : (Proc.devRef .tc main_while0b_v94 : DevRef τ sig).ty.Contents (Elt F)) = Cert.ReferenceIdeal.Step.b30 j s := by
  unfold Cert.ReferenceIdeal.Step.b30
  rw [h.n_3]
  try rfl
set_option maxRecDepth 8192 in
/-- Where the contents hold a state, value 31 of one trip is the step's value 31. -/
theorem al_31 (h : Holds V0 s j) : (constantI S_ 32 512#32 : (Proc.devRef .tc main_while0b_c_32 : DevRef τ sig).ty.Contents (Elt F)) = Cert.ReferenceIdeal.Step.b31 j s := by
  unfold Cert.ReferenceIdeal.Step.b31
  rfl
set_option maxRecDepth 8192 in
/-- Where the contents hold a state, value 32 of one trip is the step's value 32. -/
theorem al_32 (h : Holds V0 s j) : (addi (id (V0 (Proc.devRef .tc main_v29_3))) (constantI S_ 32 512#32) : (Proc.devRef .tc main_while0b_v95 : DevRef τ sig).ty.Contents (Elt F)) = Cert.ReferenceIdeal.Step.b32 j s := by
  unfold Cert.ReferenceIdeal.Step.b32
  rw [← al_30 h, ← al_31 h]
  try rfl
set_option maxRecDepth 8192 in
/-- Where the contents hold a state, value 33 of one trip is the step's value 33. -/
theorem al_33 (h : Holds V0 s j) : (select (cmpi .slt (V0 (Proc.devRef .tc main_v29_3)) (constantI S_ 32 0#32)) (addi (id (V0 (Proc.devRef .tc main_v29_3))) (constantI S_ 32 512#32)) (V0 (Proc.devRef .tc main_v29_3)) : (Proc.devRef .tc main_while0b_v96 : DevRef τ sig).ty.Contents (Elt F)) = Cert.ReferenceIdeal.Step.b33 j s := by
  unfold Cert.ReferenceIdeal.Step.b33
  rw [← al_29 h, ← al_32 h, h.n_3]
  try rfl
set_option maxRecDepth 8192 in
/-- Where the contents hold a state, value 34 of one trip is the step's value 34. -/
theorem al_34 (h : Holds V0 s j) : (constantI S_ 32 0#32 : (Proc.devRef .tc main_while0b_c_33 : DevRef τ sig).ty.Contents (Elt F)) = Cert.ReferenceIdeal.Step.b34 j s := by
  unfold Cert.ReferenceIdeal.Step.b34
  rfl
set_option maxRecDepth 8192 in
/-- Where the contents hold a state, value 35 of one trip is the step's value 35. -/
theorem al_35 (h : Holds V0 s j) : (constantI S_ 32 0#32 : (Proc.devRef .tc main_while0b_c_34 : DevRef τ sig).ty.Contents (Elt F)) = Cert.ReferenceIdeal.Step.b35 j s := by
  unfold Cert.ReferenceIdeal.Step.b35
  rfl
set_option maxRecDepth 8192 in
/-- Where the contents hold a state, value 36 of one trip is the step's value 36. -/
theorem al_36 (h : Holds V0 s j) : (Host.dynamicUpdateSlice (V0 (Proc.devRef .tc main_v29_5)) (res_main_while0b_v92 V0) (fun k => (((![constantI S_ 32 0#32, select (cmpi .slt (V0 (Proc.devRef .tc main_v29_3)) (constantI S_ 32 0#32)) (addi (id (V0 (Proc.devRef .tc main_v29_3))) (constantI S_ 32 512#32)) (V0 (Proc.devRef .tc main_v29_3)), constantI S_ 32 0#32] : Fin 3 → (⟨S_, .i32⟩ : BufTy).Contents (Elt F))) k (Shape.Idx.first h_S_)).toInt) updateFits_S8x512x2048_S8x1x2048 : (Proc.devRef .tc main_while0b_v97 : DevRef τ sig).ty.Contents (Elt F)) = Cert.ReferenceIdeal.Step.b36 j s := by
  unfold Cert.ReferenceIdeal.Step.b36
  rw [← al_27 h, ← al_34 h, ← al_33 h, ← al_35 h, h.f_5]
  try rfl

/-! One trip's step of the carried values is `step`, field by field; a counter steps to the next number. -/

/-- Where the contents hold a state, one trip's carried value 4 is the next state's. -/
theorem step_4 (h : Holds V0 s j) : step_main_v29_4 V0 = (step j s).main_v29_4 := by
  unfold step_main_v29_4 Cert.ReferenceIdeal.Step.step
  show id (res_main_while0b_v92 V0) = _
  rw [al_27 h]
  try rfl
/-- Where the contents hold a state, one trip's carried value 5 is the next state's. -/
theorem step_5 (h : Holds V0 s j) : step_main_v29_5 V0 = (step j s).main_v29_5 := by
  unfold step_main_v29_5 Cert.ReferenceIdeal.Step.step
  exact al_36 h
/-- Where the contents hold a state, one trip's carried value 2 is the next state's. -/
theorem step_2 (h : Holds V0 s j) : step_main_v29_2 V0 = constantI S_ 32 (BitVec.ofNat 32 (j + 1)) := by
  unfold step_main_v29_2
  rw [h.n_2]
  funext i
  show BitVec.ofNat 32 j + 1#32 = BitVec.ofNat 32 (j + 1)
  simp only [BitVec.ofNat_add]
/-- Where the contents hold a state, one trip's carried value 3 is the next state's. -/
theorem step_3 (h : Holds V0 s j) : step_main_v29_3 V0 = constantI S_ 32 (BitVec.ofNat 32 (j + 1)) := by
  unfold step_main_v29_3
  rw [h.n_3]
  funext i
  show BitVec.ofNat 32 j + 1#32 = BitVec.ofNat 32 (j + 1)
  simp only [BitVec.ofNat_add]

set_option maxRecDepth 8192 in
/-- Where the contents hold a state, `out_main_v62` is the result as a function of that state and the arguments. -/
theorem out_main_v62_holds (h : Holds V0 s j) {x_main_arg1 : (⟨S8x2048x2048, .f32⟩ : BufTy).Contents (Elt F)} (h_main_arg1 : V0 (Proc.devRef .tc main_arg1) = x_main_arg1) {x_main_arg2 : (⟨S8x2048, .i1⟩ : BufTy).Contents (Elt F)} (h_main_arg2 : V0 (Proc.devRef .tc main_arg2) = x_main_arg2) {x_main_arg3 : (⟨S8x2048, .f32⟩ : BufTy).Contents (Elt F)} (h_main_arg3 : V0 (Proc.devRef .tc main_arg3) = x_main_arg3) {x_main_arg4 : (⟨S8, .i32⟩ : BufTy).Contents (Elt F)} (h_main_arg4 : V0 (Proc.devRef .tc main_arg4) = x_main_arg4) : out_main_v62 V0 = Cert.ReferenceIdeal.Step.R_main_v62 s x_main_arg1 x_main_arg2 x_main_arg3 x_main_arg4 := by
  unfold out_main_v62 Cert.ReferenceIdeal.Step.R_main_v62
  rw [h.f_5, h_main_arg1, h_main_arg2, h_main_arg3, h_main_arg4]
  try rfl

set_option maxRecDepth 8192 in
/-- Where the contents hold a state, `out_main_v73` is the result as a function of that state and the arguments. -/
theorem out_main_v73_holds (h : Holds V0 s j) {x_main_arg4 : (⟨S8, .i32⟩ : BufTy).Contents (Elt F)} (h_main_arg4 : V0 (Proc.devRef .tc main_arg4) = x_main_arg4) {x_main_arg5 : (⟨S8x2048, .f32⟩ : BufTy).Contents (Elt F)} (h_main_arg5 : V0 (Proc.devRef .tc main_arg5) = x_main_arg5) : out_main_v73 V0 = Cert.ReferenceIdeal.Step.R_main_v73 s x_main_arg4 x_main_arg5 := by
  unfold out_main_v73 Cert.ReferenceIdeal.Step.R_main_v73
  rw [h.f_5, h_main_arg4, h_main_arg5]
  try rfl

/-- One trip keeps the valuation holding: `step` of the state, the same set-up values, the next number. -/
theorem holds_step (h : Holds V0 s j) : Holds (STEP V0) (step j s) (j + 1) where
  f_4 := (STEP_main_v29_4 V0).trans (step_4 h)
  f_5 := (STEP_main_v29_5 V0).trans (step_5 h)
  n_2 := (STEP_main_v29_2 V0).trans (step_2 h)
  n_3 := (STEP_main_v29_3 V0).trans (step_3 h)
  f_0 := (STEP_main_v29_0 V0).trans h.f_0
  f_1 := (STEP_main_v29_1 V0).trans h.f_1

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

attribute [local irreducible] Host.reduceWindow Host.gather

set_option maxRecDepth 65536 in
set_option maxHeartbeats 2000000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 512 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v62) = Cert.ReferenceIdeal.Step.R_main_v62 (it c 512) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v73) = Cert.ReferenceIdeal.Step.R_main_v73 (it c 512) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 512
    ⟨(h c).1.trans (out_main_v62_holds hk (iter_main_arg1 m c 512) (iter_main_arg2 m c 512) (iter_main_arg3 m c 512) (iter_main_arg4 m c 512)), (h c).2.1.trans (out_main_v73_holds hk (iter_main_arg4 m c 512) (iter_main_arg5 m c 512)), (h c).2.2.1, (h c).2.2.2.1, (h c).2.2.2.2.1, (h c).2.2.2.2.2.1, (h c).2.2.2.2.2.2.1, (h c).2.2.2.2.2.2.2⟩) (RefRun.run m ρ)

end Cert.Proof.RefSteps
end
-- ==== Proof.RefFrame.lean ====
module

public import proofs.«01_k».proof.Proof.RefSteps
public import proofs.«01_k».proof.Defs
public import Idealize.ShloMosaic.Lib.Quiescent

/-!
The reference's frame: it runs to its end, leaves its arguments as they were, and has no semaphore.
-/

@[expose] public section
set_option maxRecDepth 16384
noncomputable section

namespace Cert.Proof

open Idealize.ShloMosaic Idealize.ShloMosaic.TcCoe
open Idealize.SL Idealize.SL.Sem

/-- The reference's frame: its arguments are read only, and it has no semaphore. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
        ∧ r.2.sem = fun _ => 0) :=
  (θ_run Cert.ReferenceIdeal.defs _ _).mono
    (fun r h => ⟨fun c => (h c).2.2, sem_eq_zero_of_no_sems (by decide) r.2⟩) (RefRun.run (F := Ideal) m ρ)

end Cert.Proof
end
-- ==== Proof.ScanDef.lean ====
module

public import proofs.«01_k».proof.Proof.Gen.KernelIdeal.Skeleton

/-!
The scan one block of the kernel computes, written once.

The kernel scans 512 rows of a 512-column piece of the hidden states in nine doublings: it keeps a decay column
`a` and a drive array `b`, and a doubling by `d` replaces `b` by `a · (b moved down d rows, zeros on top) + b` and
`a` by `a · (a moved down d rows, ones on top)`.
The program spells this out once for every column piece of the first batch and once for every column piece of a later
batch; the theorems of the module say that all eight spellings are this one function.
-/

@[expose] public section
noncomputable section

namespace Cert.Proof

open Cert.KernelIdeal Cert.KernelIdeal.Gen
open Idealize.ShloMosaic

variable {F : FTy → Type} [FloatOps F]

/-- The first `512 - d` rows are a slice of 512 rows. -/
theorem slices_rows (d n : ℕ) : (⟨2, ![512, n]⟩ : Shape).Slices ![0, 0] ⟨2, ![512 - d, n]⟩ :=
  ⟨rfl, fun a => by fin_cases a <;> simp⟩

/-- `d` rows over `512 - d` rows make 512 rows. -/
theorem concatenates_rows (d n : ℕ) (hd : d ≤ 512) :
    Shape.Concatenates [⟨2, ![d, n]⟩, ⟨2, ![512 - d, n]⟩] ⟨2, ![512, n]⟩ 0 := by
  refine ⟨by simp, ?_, ?_⟩
  · intro s hs
    simp only [List.mem_cons, List.not_mem_nil, or_false] at hs
    rcases hs with rfl | rfl
    · exact ⟨rfl, fun b hb => by fin_cases b <;> simp_all⟩
    · exact ⟨rfl, fun b hb => by fin_cases b <;> simp_all⟩
  · simp; omega

/-- `x` moved down `d` rows, with `v` in the `d` rows on top. -/
def moveDown (d n : ℕ) (hd : d ≤ 512) (v : F .f32) (x : FVec F ⟨2, ![512, n]⟩ .f32) : FVec F ⟨2, ![512, n]⟩ .f32 :=
  concatenate ⟨2, ![512, n]⟩ 0 [⟨⟨2, ![d, n]⟩, broadcast ⟨2, ![d, n]⟩ v⟩,
    ⟨⟨2, ![512 - d, n]⟩, extractStridedSlice ⟨2, ![512 - d, n]⟩ ![0, 0] x (slices_rows d n)⟩] (concatenates_rows d n hd)

/-- The decay column after a doubling by `d`. -/
def doubleDecay (d : ℕ) (hd : d ≤ 512) (a : FVec F S512x1 .f32) : FVec F S512x1 .f32 :=
  mulf a (moveDown d 1 hd (Scalar.ofBits .f32 0x3F800000#32) a)

/-- The drive array after a doubling by `d`. -/
def doubleDrive (d : ℕ) (hd : d ≤ 512) (a : FVec F S512x1 .f32) (b : FVec F S512x512 .f32) : FVec F S512x512 .f32 :=
  addf (mulf (broadcastTo S512x512 a broadcasts_S512x1_S512x512) (moveDown d 512 hd (Scalar.ofBits .f32 0x00000000#32) b)) b

/-- The decay of every row: one minus the row's first probability, kept between zero and one. -/
def decayColumn (p : FVec F S512x4 .f32) : FVec F S512x1 .f32 :=
  minimumf (broadcast S512x1 (Scalar.ofBits .f32 0x3F800000#32))
    (maximumf (broadcast S512x1 (Scalar.ofBits .f32 0x00000000#32))
      (subf (broadcast S512x1 (Scalar.ofBits .f32 0x3F800000#32)) (extractStridedSlice S512x1 ![0, 0] p slices_S512x4_o0_0_S512x1)))

/-- The decay of the first row, and zero for every other row. -/
def firstDecay (a : FVec F S512x1 .f32) : FVec F S512x1 .f32 :=
  select (cmpi .eq (iota .tc S512x1 32 [0] iota_S512x1_d0_w32) (broadcast S512x1 0#32)) a
    (broadcast S512x1 (Scalar.ofBits .f32 0x00000000#32))

/-- The drive of every row: `(1 - a) · x`, and for the first row also the decayed state. -/
def driveArray (a : FVec F S512x1 .f32) (s : FVec F S1x512 .f32) (x : Vec F S1x512x512 .f32) : FVec F S512x512 .f32 :=
  addf (mulf (broadcastTo S512x512 (subf (broadcast S512x1 (Scalar.ofBits .f32 0x3F800000#32)) a) broadcasts_S512x1_S512x512)
      (shapeCast S512x512 x shapeCasts_S1x512x512_S512x512))
    (mulf (broadcastTo S512x512 (firstDecay a) broadcasts_S512x1_S512x512) (broadcastTo S512x512 s broadcasts_S1x512_S512x512))

/-- The nine doublings, from the decays and the drives. -/
def doublings (a : FVec F S512x1 .f32) (b : FVec F S512x512 .f32) : FVec F S512x512 .f32 :=
  let b₁ := doubleDrive 1 (by decide) a b
  let a₁ := doubleDecay 1 (by decide) a
  let b₂ := doubleDrive 2 (by decide) a₁ b₁
  let a₂ := doubleDecay 2 (by decide) a₁
  let b₃ := doubleDrive 4 (by decide) a₂ b₂
  let a₃ := doubleDecay 4 (by decide) a₂
  let b₄ := doubleDrive 8 (by decide) a₃ b₃
  let a₄ := doubleDecay 8 (by decide) a₃
  let b₅ := doubleDrive 16 (by decide) a₄ b₄
  let a₅ := doubleDecay 16 (by decide) a₄
  let b₆ := doubleDrive 32 (by decide) a₅ b₅
  let a₆ := doubleDecay 32 (by decide) a₅
  let b₇ := doubleDrive 64 (by decide) a₆ b₆
  let a₇ := doubleDecay 64 (by decide) a₆
  let b₈ := doubleDrive 128 (by decide) a₇ b₇
  let a₈ := doubleDecay 128 (by decide) a₇
  doubleDrive 256 (by decide) a₈ b₈

/-- The scan of one piece: probabilities `p`, incoming state `s`, hidden states `x`. -/
def scanPiece (p : Vec F S1x512x4 .f32) (s : FVec F S1x512 .f32) (x : Vec F S1x512x512 .f32) : FVec F S512x512 .f32 :=
  doublings (decayColumn (shapeCast S512x4 p shapeCasts_S1x512x4_S512x4))
    (driveArray (decayColumn (shapeCast S512x4 p shapeCasts_S1x512x4_S512x4)) s x)

/-- Columns `o` to `o + 511` of a state row. -/
def stateCols (o : ℕ) (h : S1x2048.Slices ![0, o] S1x512) (s : Vec F S1x1x2048 .f32) : FVec F S1x512 .f32 :=
  extractStridedSlice S1x512 ![0, o] (shapeCast S1x2048 s shapeCasts_S1x1x2048_S1x2048) h

/-- The scanned piece as the scratch holds it. -/
def scanStored (p : Vec F S1x512x4 .f32) (s : FVec F S1x512 .f32) (x : Vec F S1x512x512 .f32) : FVec F S1x512x512 .f32 :=
  shapeCast S1x512x512 (scanPiece p s x) shapeCasts_S512x512_S1x512x512

/-- The last row of the scanned piece, as the new state holds it. -/
def lastStored (p : Vec F S1x512x4 .f32) (s : FVec F S1x512 .f32) (x : Vec F S1x512x512 .f32) : FVec F S1x1x512 .f32 :=
  shapeCast S1x1x512 (extractStridedSlice S1x512 ![511, 0] (scanPiece p s x) slices_S512x512_o511_0_S1x512) shapeCasts_S1x512_S1x1x512

/-- Column piece 0 of a later batch is the scan. -/
theorem later_piece0 (p : Vec F S1x512x4 .f32) (s : Vec F S1x1x2048 .f32) (x : Vec F S1x512x512 .f32) :
    k0_pay6 (k0_pay89 (k0_pay82 (k0_pay4 p) (k0_pay5 s) x) (k0_pay83 (k0_pay4 p)) (k0_pay84 (k0_pay4 p)))
      (k0_pay90 (k0_pay83 (k0_pay4 p)) (k0_pay84 (k0_pay4 p))) (k0_pay91 (k0_pay83 (k0_pay4 p)) (k0_pay84 (k0_pay4 p)))
      = scanPiece p (stateCols 0 slices_S1x2048_o0_0_S1x512 s) x := rfl

/-- Column piece 1 of a later batch is the scan. -/
theorem later_piece1 (p : Vec F S1x512x4 .f32) (s : Vec F S1x1x2048 .f32) (x : Vec F S1x512x512 .f32) :
    k0_pay9 (k0_pay101 (k0_pay94 (k0_pay4 p) (k0_pay5 s) x) (k0_pay95 (k0_pay4 p)) (k0_pay96 (k0_pay4 p)))
      (k0_pay102 (k0_pay95 (k0_pay4 p)) (k0_pay96 (k0_pay4 p))) (k0_pay103 (k0_pay95 (k0_pay4 p)) (k0_pay96 (k0_pay4 p)))
      = scanPiece p (stateCols 512 slices_S1x2048_o0_512_S1x512 s) x := rfl

/-- Column piece 2 of a later batch is the scan. -/
theorem later_piece2 (p : Vec F S1x512x4 .f32) (s : Vec F S1x1x2048 .f32) (x : Vec F S1x512x512 .f32) :
    k0_pay12 (k0_pay113 (k0_pay106 (k0_pay4 p) (k0_pay5 s) x) (k0_pay107 (k0_pay4 p)) (k0_pay108 (k0_pay4 p)))
      (k0_pay114 (k0_pay107 (k0_pay4 p)) (k0_pay108 (k0_pay4 p))) (k0_pay115 (k0_pay107 (k0_pay4 p)) (k0_pay108 (k0_pay4 p)))
      = scanPiece p (stateCols 1024 slices_S1x2048_o0_1024_S1x512 s) x := rfl

/-- Column piece 3 of a later batch is the scan. -/
theorem later_piece3 (p : Vec F S1x512x4 .f32) (s : Vec F S1x1x2048 .f32) (x : Vec F S1x512x512 .f32) :
    k0_pay15 (k0_pay125 (k0_pay118 (k0_pay4 p) (k0_pay5 s) x) (k0_pay119 (k0_pay4 p)) (k0_pay120 (k0_pay4 p)))
      (k0_pay126 (k0_pay119 (k0_pay4 p)) (k0_pay120 (k0_pay4 p))) (k0_pay127 (k0_pay119 (k0_pay4 p)) (k0_pay120 (k0_pay4 p)))
      = scanPiece p (stateCols 1536 slices_S1x2048_o0_1536_S1x512 s) x := rfl

/-- The first batch, column piece 0: what is stored is the scanned piece. -/
theorem first_scan0 (p : Vec F S1x512x4 .f32) (s : Vec F S1x1x2048 .f32) (x : Vec F S1x512x512 .f32) :
    k0_pay33 (k0_pay28 (k0_pay20 p s x) (k0_pay21 p) (k0_pay22 p) k0_pay23) (k0_pay29 (k0_pay21 p) (k0_pay22 p))
      (k0_pay30 (k0_pay21 p) (k0_pay22 p)) k0_pay31
      = scanStored p (stateCols 0 slices_S1x2048_o0_0_S1x512 s) x := rfl

/-- The first batch, column piece 0: what is stored is the piece's last row. -/
theorem first_last0 (p : Vec F S1x512x4 .f32) (s : Vec F S1x1x2048 .f32) (x : Vec F S1x512x512 .f32) :
    k0_pay34 (k0_pay28 (k0_pay20 p s x) (k0_pay21 p) (k0_pay22 p) k0_pay23) (k0_pay29 (k0_pay21 p) (k0_pay22 p))
      (k0_pay30 (k0_pay21 p) (k0_pay22 p)) k0_pay31
      = lastStored p (stateCols 0 slices_S1x2048_o0_0_S1x512 s) x := rfl

/-- The first batch, column piece 1: what is stored is the scanned piece. -/
theorem first_scan1 (p : Vec F S1x512x4 .f32) (s : Vec F S1x1x2048 .f32) (x : Vec F S1x512x512 .f32) :
    k0_pay52 (k0_pay47 (k0_pay39 (k0_pay35 s) (k0_pay36 p) (iota .tc S512x1 32 [0] iota_S512x1_d0_w32) x)
      (k0_pay40 (k0_pay36 p)) k0_pay41 (k0_pay42 (k0_pay36 p)))
      (k0_pay48 (k0_pay40 (k0_pay36 p)) k0_pay41 (k0_pay42 (k0_pay36 p))) k0_pay49
      (k0_pay50 (k0_pay39 (k0_pay35 s) (k0_pay36 p) (iota .tc S512x1 32 [0] iota_S512x1_d0_w32) x)
      (k0_pay40 (k0_pay36 p)) k0_pay41 (k0_pay42 (k0_pay36 p)))
      = scanStored p (stateCols 512 slices_S1x2048_o0_512_S1x512 s) x := rfl

/-- The first batch, column piece 1: what is stored is the piece's last row. -/
theorem first_last1 (p : Vec F S1x512x4 .f32) (s : Vec F S1x1x2048 .f32) (x : Vec F S1x512x512 .f32) :
    k0_pay53 (k0_pay47 (k0_pay39 (k0_pay35 s) (k0_pay36 p) (iota .tc S512x1 32 [0] iota_S512x1_d0_w32) x)
      (k0_pay40 (k0_pay36 p)) k0_pay41 (k0_pay42 (k0_pay36 p)))
      (k0_pay48 (k0_pay40 (k0_pay36 p)) k0_pay41 (k0_pay42 (k0_pay36 p))) k0_pay49
      (k0_pay50 (k0_pay39 (k0_pay35 s) (k0_pay36 p) (iota .tc S512x1 32 [0] iota_S512x1_d0_w32) x)
      (k0_pay40 (k0_pay36 p)) k0_pay41 (k0_pay42 (k0_pay36 p)))
      = lastStored p (stateCols 512 slices_S1x2048_o0_512_S1x512 s) x := rfl

/-- The first batch, column piece 2: what is stored is the scanned piece. -/
theorem first_scan2 (p : Vec F S1x512x4 .f32) (s : Vec F S1x1x2048 .f32) (x : Vec F S1x512x512 .f32) :
    k0_pay63 (k0_pay60 (k0_pay54 p) (k0_pay55 p s x)) (k0_pay61 (k0_pay54 p))
      = scanStored p (stateCols 1024 slices_S1x2048_o0_1024_S1x512 s) x := rfl

/-- The first batch, column piece 2: what is stored is the piece's last row. -/
theorem first_last2 (p : Vec F S1x512x4 .f32) (s : Vec F S1x1x2048 .f32) (x : Vec F S1x512x512 .f32) :
    k0_pay64 (k0_pay60 (k0_pay54 p) (k0_pay55 p s x)) (k0_pay61 (k0_pay54 p))
      = lastStored p (stateCols 1024 slices_S1x2048_o0_1024_S1x512 s) x := rfl

/-- The first batch, column piece 3: what is stored is the scanned piece. -/
theorem first_scan3 (p : Vec F S1x512x4 .f32) (s : Vec F S1x1x2048 .f32) (x : Vec F S1x512x512 .f32) :
    k0_pay2 (k0_pay75 (k0_pay66 p s x) (k0_pay67 p) (k0_pay68 p) (k0_pay69 p s x) (k0_pay70 p)) (k0_pay76 (k0_pay67 p) (k0_pay68 p))
      (k0_pay77 (k0_pay67 p) (k0_pay68 p)) (k0_pay78 (k0_pay66 p s x) (k0_pay67 p) (k0_pay68 p) (k0_pay69 p s x) (k0_pay70 p))
      (k0_pay79 (k0_pay67 p) (k0_pay68 p))
      = scanStored p (stateCols 1536 slices_S1x2048_o0_1536_S1x512 s) x := rfl

/-- The first batch, column piece 3: what is stored is the piece's last row. -/
theorem first_last3 (p : Vec F S1x512x4 .f32) (s : Vec F S1x1x2048 .f32) (x : Vec F S1x512x512 .f32) :
    k0_pay3 (k0_pay75 (k0_pay66 p s x) (k0_pay67 p) (k0_pay68 p) (k0_pay69 p s x) (k0_pay70 p)) (k0_pay76 (k0_pay67 p) (k0_pay68 p))
      (k0_pay77 (k0_pay67 p) (k0_pay68 p)) (k0_pay78 (k0_pay66 p s x) (k0_pay67 p) (k0_pay68 p) (k0_pay69 p s x) (k0_pay70 p))
      (k0_pay79 (k0_pay67 p) (k0_pay68 p))
      = lastStored p (stateCols 1536 slices_S1x2048_o0_1536_S1x512 s) x := rfl

end Cert.Proof
-- ==== Proof.Pieces.lean ====
module

public import proofs.«01_k».proof.Proof.ScanDef
public import Idealize.ShloMosaic.Lib.VecWindow

/-!
What one grid point of the kernel stores, in terms of the arrays its windows hold.

A point that scans a column piece of batch `n` reads row `n` of the probabilities and of the states and 512 columns of
a hidden-state block.
It stores the scanned piece in the scratch and the piece's last row in the new state.
-/

@[expose] public section
noncomputable section

namespace Cert.Proof

open Cert.KernelIdeal Cert.KernelIdeal.Gen
open Idealize.ShloMosaic

variable {F : FTy → Type} [FloatOps F]

/-- Row `n` lies in the probabilities. -/
theorem prob_inb {n : ℕ} (hn : n < 8) : ∀ a, (![n, 0, 0] : Fin 3 → ℕ) a + S1x512x4.size a ≤ S8x512x4.size a := by
  intro a; fin_cases a <;> simp; omega

/-- Row `n` lies in the states. -/
theorem state_inb {n : ℕ} (hn : n < 8) : ∀ a, (![n, 0, 0] : Fin 3 → ℕ) a + S1x1x2048.size a ≤ S8x1x2048.size a := by
  intro a; fin_cases a <;> simp; omega

/-- Columns `o` to `o + 511` lie in a hidden-state block. -/
theorem cols_inb {o : ℕ} (ho : o + 512 ≤ 2048) :
    ∀ a, (![0, 0, o] : Fin 3 → ℕ) a + S1x512x512.size a ≤ S1x512x2048.size a := by
  intro a; fin_cases a <;> simp; omega

/-- Columns `o` to `o + 511` of slot `q` lie in the scratch. -/
theorem slot_inb {q o : ℕ} (hq : q < 2) (ho : o + 512 ≤ 2048) :
    ∀ a, (![q, 0, o] : Fin 3 → ℕ) a + S1x512x512.size a ≤ S2x512x2048.size a := by
  intro a; fin_cases a <;> simp <;> omega

/-- Columns `o` to `o + 511` of row `n` lie in the new state. -/
theorem newState_inb {n o : ℕ} (hn : n < 8) (ho : o + 512 ≤ 2048) :
    ∀ a, (![n, 0, o] : Fin 3 → ℕ) a + S1x1x512.size a ≤ S8x1x2048.size a := by
  intro a; fin_cases a <;> simp <;> omega

/-- Rows `r` to `r + 127` of slot `p` lie in the scratch. -/
theorem rows_inb {p r : ℕ} (hp : p < 2) (hr : r + 128 ≤ 512) :
    ∀ a, (![p, r, 0] : Fin 3 → ℕ) a + S1x128x2048.size a ≤ S2x512x2048.size a := by
  intro a; fin_cases a <;> simp <;> omega

/-- Columns `o` to `o + 511` lie in a state row. -/
theorem stateCols_slices {o : ℕ} (ho : o + 512 ≤ 2048) : S1x2048.Slices ![0, o] S1x512 :=
  ⟨rfl, fun a => by fin_cases a <;> simp; omega⟩

/-- Row `n` of the probabilities. -/
def probRow (P : Vec F S8x512x4 .f32) {n : ℕ} (hn : n < 8) : Vec F S1x512x4 .f32 :=
  VecWindow.window P ![n, 0, 0] S1x512x4.size (prob_inb hn)

/-- Row `n` of the states. -/
def stateRow (S : Vec F S8x1x2048 .f32) {n : ℕ} (hn : n < 8) : Vec F S1x1x2048 .f32 :=
  VecWindow.window S ![n, 0, 0] S1x1x2048.size (state_inb hn)

/-- Columns `o` to `o + 511` of a hidden-state block. -/
def hiddenCols (x : Vec F S1x512x2048 .f32) {o : ℕ} (ho : o + 512 ≤ 2048) : Vec F S1x512x512 .f32 :=
  VecWindow.window x ![0, 0, o] S1x512x512.size (cols_inb ho)

/-- What is stored in the scratch for columns `o` to `o + 511` of batch `n`, whose hidden states are `x`. -/
def scanOf (P : Vec F S8x512x4 .f32) (S : Vec F S8x1x2048 .f32) (x : Vec F S1x512x2048 .f32) {n o : ℕ} (hn : n < 8)
    (ho : o + 512 ≤ 2048) : FVec F S1x512x512 .f32 :=
  scanStored (probRow P hn) (stateCols o (stateCols_slices ho) (stateRow S hn)) (hiddenCols x ho)

/-- What is stored in the new state for columns `o` to `o + 511` of batch `n`, whose hidden states are `x`. -/
def lastOf (P : Vec F S8x512x4 .f32) (S : Vec F S8x1x2048 .f32) (x : Vec F S1x512x2048 .f32) {n o : ℕ} (hn : n < 8)
    (ho : o + 512 ≤ 2048) : FVec F S1x1x512 .f32 :=
  lastStored (probRow P hn) (stateCols o (stateCols_slices ho) (stateRow S hn)) (hiddenCols x ho)

/-- The scratch with the scan of columns `o` to `o + 511` of batch `n` put in slot `q`. -/
def putScan (P : Vec F S8x512x4 .f32) (S : Vec F S8x1x2048 .f32) (x : Vec F S1x512x2048 .f32) {n o : ℕ} (hn : n < 8)
    (ho : o + 512 ≤ 2048) (q : ℕ) (d : Vec F S2x512x2048 .f32) : Vec F S2x512x2048 .f32 :=
  VecWindow.put d ![q, 0, o] S1x512x512.size (scanOf P S x hn ho)

/-- The new state with the last row of columns `o` to `o + 511` of batch `n` put in row `n`. -/
def putLast (P : Vec F S8x512x4 .f32) (S : Vec F S8x1x2048 .f32) (x : Vec F S1x512x2048 .f32) {n o : ℕ} (hn : n < 8)
    (ho : o + 512 ≤ 2048) (d : Vec F S8x1x2048 .f32) : Vec F S8x1x2048 .f32 :=
  VecWindow.put d ![n, 0, o] S1x1x512.size (lastOf P S x hn ho)

/-- The output block a point computes: the residual block plus rows `r` to `r + 127` of slot `p`, every row four times. -/
def outOf (d : Vec F S2x512x2048 .f32) (R : Vec F S1x512x2048 .f32) {p r : ℕ} (hp : p < 2) (hr : r + 128 ≤ 512) :
    FVec F S1x512x2048 .f32 :=
  k0_pay18 (VecWindow.window d ![p, r, 0] S1x128x2048.size (rows_inb hp hr)) R

end Cert.Proof
-- ==== Proof.Held.lean ====
module

public import proofs.«01_k».proof.Proof.Gen.KernelIdeal.Frame
public import proofs.«01_k».proof.Proof.Pieces

/-!
The ownership of the eight buffers the kernel body works on, as one assertion.
-/

@[expose] public section
noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A load of row `n` of the probabilities. -/
theorem load_probRow {m : Memref sig .tc .vmem S8x512x4 .f32} (h : m.IsWhole) (P : Vec F S8x512x4 .f32) {off : Fin 3 → ℕ} {n : ℕ}
    (hn : n < 8) (ho : off = ![n, 0, 0]) (inb : ∀ a, off a + S1x512x4.size a ≤ S8x512x4.size a) :
    m.view.readAt (Elt F) (Rect.unit (s := S8x512x4) off S1x512x4.size inb).toLoadRect (h.unread P) = probRow P hn := by
  rw [View.readAt_unit _ _ inb ho (prob_inb hn), h.read_unread]; rfl

/-- A load of row `n` of the states. -/
theorem load_stateRow {m : Memref sig .tc .vmem S8x1x2048 .f32} (h : m.IsWhole) (S : Vec F S8x1x2048 .f32) {off : Fin 3 → ℕ} {n : ℕ}
    (hn : n < 8) (ho : off = ![n, 0, 0]) (inb : ∀ a, off a + S1x1x2048.size a ≤ S8x1x2048.size a) :
    m.view.readAt (Elt F) (Rect.unit (s := S8x1x2048) off S1x1x2048.size inb).toLoadRect (h.unread S) = stateRow S hn := by
  rw [View.readAt_unit _ _ inb ho (state_inb hn), h.read_unread]; rfl

/-- A load of 512 columns of a hidden-state block. -/
theorem load_hiddenCols {m : Memref sig .tc .vmem S1x512x2048 .f32} (h : m.IsWhole) (x : Vec F S1x512x2048 .f32) {o : ℕ}
    (ho : o + 512 ≤ 2048) (inb : ∀ a, (![0, 0, o] : Fin 3 → ℕ) a + S1x512x512.size a ≤ S1x512x2048.size a) :
    m.view.readAt (Elt F) (Rect.unit (s := S1x512x2048) ![0, 0, o] S1x512x512.size inb).toLoadRect (h.unread x) = hiddenCols x ho := by
  rw [View.readAt_unit _ _ inb rfl (cols_inb ho), h.read_unread]; rfl

/-- The scan of the three loads is the scan of the batch's row. -/
theorem scanOf_loads {m2 : Memref sig .tc .vmem S8x512x4 .f32} (h2 : m2.IsWhole) {m3 : Memref sig .tc .vmem S8x1x2048 .f32}
    (h3 : m3.IsWhole) {m5 : Memref sig .tc .vmem S1x512x2048 .f32} (h5 : m5.IsWhole) (P : Vec F S8x512x4 .f32)
    (S : Vec F S8x1x2048 .f32) (x : Vec F S1x512x2048 .f32) {n o : ℕ} (hn : n < 8) (ho : o + 512 ≤ 2048)
    {off2 off3 : Fin 3 → ℕ} (o2 : off2 = ![n, 0, 0]) (o3 : off3 = ![n, 0, 0])
    (i2 : ∀ a, off2 a + S1x512x4.size a ≤ S8x512x4.size a) (i3 : ∀ a, off3 a + S1x1x2048.size a ≤ S8x1x2048.size a)
    (i5 : ∀ a, (![0, 0, o] : Fin 3 → ℕ) a + S1x512x512.size a ≤ S1x512x2048.size a) :
    scanStored (m2.view.readAt (Elt F) (Rect.unit (s := S8x512x4) off2 S1x512x4.size i2).toLoadRect (h2.unread P))
      (stateCols o (stateCols_slices ho)
        (m3.view.readAt (Elt F) (Rect.unit (s := S8x1x2048) off3 S1x1x2048.size i3).toLoadRect (h3.unread S)))
      (m5.view.readAt (Elt F) (Rect.unit (s := S1x512x2048) ![0, 0, o] S1x512x512.size i5).toLoadRect (h5.unread x))
      = scanOf P S x hn ho := by
  rw [load_probRow h2 P hn o2, load_stateRow h3 S hn o3, load_hiddenCols h5 x ho]; rfl

/-- The last row of the scan of the three loads is the last row of the scan of the batch's row. -/
theorem lastOf_loads {m2 : Memref sig .tc .vmem S8x512x4 .f32} (h2 : m2.IsWhole) {m3 : Memref sig .tc .vmem S8x1x2048 .f32}
    (h3 : m3.IsWhole) {m5 : Memref sig .tc .vmem S1x512x2048 .f32} (h5 : m5.IsWhole) (P : Vec F S8x512x4 .f32)
    (S : Vec F S8x1x2048 .f32) (x : Vec F S1x512x2048 .f32) {n o : ℕ} (hn : n < 8) (ho : o + 512 ≤ 2048)
    {off2 off3 : Fin 3 → ℕ} (o2 : off2 = ![n, 0, 0]) (o3 : off3 = ![n, 0, 0])
    (i2 : ∀ a, off2 a + S1x512x4.size a ≤ S8x512x4.size a) (i3 : ∀ a, off3 a + S1x1x2048.size a ≤ S8x1x2048.size a)
    (i5 : ∀ a, (![0, 0, o] : Fin 3 → ℕ) a + S1x512x512.size a ≤ S1x512x2048.size a) :
    lastStored (m2.view.readAt (Elt F) (Rect.unit (s := S8x512x4) off2 S1x512x4.size i2).toLoadRect (h2.unread P))
      (stateCols o (stateCols_slices ho)
        (m3.view.readAt (Elt F) (Rect.unit (s := S8x1x2048) off3 S1x1x2048.size i3).toLoadRect (h3.unread S)))
      (m5.view.readAt (Elt F) (Rect.unit (s := S1x512x2048) ![0, 0, o] S1x512x512.size i5).toLoadRect (h5.unread x))
      = lastOf P S x hn ho := by
  rw [load_probRow h2 P hn o2, load_stateRow h3 S hn o3, load_hiddenCols h5 x ho]; rfl

/-- What the scratch reads as after the store of a scanned piece over contents that read as `d`. -/
theorem read_putScan {m : Memref sig .tc .vmem S2x512x2048 .f32} {f : m.view.ty.Contents (Elt F)} {d : Vec F S2x512x2048 .f32}
    (P : Vec F S8x512x4 .f32) (S : Vec F S8x1x2048 .f32) (x : Vec F S1x512x2048 .f32) {n o q : ℕ} (hn : n < 8)
    (ho : o + 512 ≤ 2048) {off : Fin 3 → ℕ} (h : off = ![q, 0, o])
    (inb : ∀ a, off a + S1x512x512.size a ≤ S2x512x2048.size a) (w : Vec F S1x512x512 .f32) (hw : w = scanOf P S x hn ho)
    (L : List (View.Piece (Elt F) S2x512x2048 .f32)) (hd : m.view.read (Elt F) (m.view.writes (Elt F) f L) = d) :
    m.view.read (Elt F) (m.view.writes (Elt F) f (⟨Rect.unit (s := S2x512x2048) off S1x512x512.size inb, w⟩ :: L))
      = putScan P S x hn ho q d := by
  subst hw hd
  exact View.read_writes_cons_put _ _ inb _ L h

/-- What the new state reads as after the store of a piece's last row over contents that read as `N`. -/
theorem read_putLast {m : Memref sig .tc .vmem S8x1x2048 .f32} {f : m.view.ty.Contents (Elt F)} {N : Vec F S8x1x2048 .f32}
    (P : Vec F S8x512x4 .f32) (S : Vec F S8x1x2048 .f32) (x : Vec F S1x512x2048 .f32) {n o : ℕ} (hn : n < 8)
    (ho : o + 512 ≤ 2048) {off : Fin 3 → ℕ} (h : off = ![n, 0, o])
    (inb : ∀ a, off a + S1x1x512.size a ≤ S8x1x2048.size a) (w : Vec F S1x1x512 .f32) (hw : w = lastOf P S x hn ho)
    (L : List (View.Piece (Elt F) S8x1x2048 .f32)) (hd : m.view.read (Elt F) (m.view.writes (Elt F) f L) = N) :
    m.view.read (Elt F) (m.view.writes (Elt F) f (⟨Rect.unit (s := S8x1x2048) off S1x1x512.size inb, w⟩ :: L))
      = putLast P S x hn ho N := by
  subst hw hd
  exact View.read_writes_cons_put _ _ inb _ L h

/-- The output block stored from the loads of the scratch and of the residual block. -/
theorem outOf_loads {m6 : Memref sig .tc .vmem S1x512x2048 .f32} (h6 : m6.IsWhole) (R : Vec F S1x512x2048 .f32)
    {m9 : Memref sig .tc .vmem S2x512x2048 .f32} {f : m9.view.ty.Contents (Elt F)} {d : Vec F S2x512x2048 .f32}
    {off : Fin 3 → ℕ} {p r : ℕ} (ho : off = ![p, r, 0]) (hp : p < 2) (hr : r + 128 ≤ 512) (hd : m9.view.read (Elt F) f = d)
    (i9 : ∀ a, off a + S1x128x2048.size a ≤ S2x512x2048.size a)
    (i6 : ∀ a, (![0, 0, 0] : Fin 3 → ℕ) a + S1x512x2048.size a ≤ S1x512x2048.size a) :
    k0_pay18 (m9.view.readAt (Elt F) (Rect.unit (s := S2x512x2048) off S1x128x2048.size i9).toLoadRect f)
      (m6.view.readAt (Elt F) (Rect.unit (s := S1x512x2048) ![0, 0, 0] S1x512x2048.size i6).toLoadRect (h6.unread R))
      = outOf d R hp hr := by
  subst hd
  rw [View.readAt_unit _ _ i9 ho (rows_inb hp hr), View.readAt_full _ _ i6, h6.read_unread]; rfl

/-- The core owns the probabilities, the states, the two hidden-state blocks, the residual block, the output block, the
new state and the scratch, with the contents listed. -/
def held (c : Dev nD) (arg2 : Memref sig .tc .vmem S8x512x4 .f32) (arg3 : Memref sig .tc .vmem S8x1x2048 .f32)
    (arg4 arg5 arg6 arg7 : Memref sig .tc .vmem S1x512x2048 .f32) (arg8 : Memref sig .tc .vmem S8x1x2048 .f32)
    (arg9 : Memref sig .tc .vmem S2x512x2048 .f32) (P : Vec F S8x512x4 .f32) (S : Vec F S8x1x2048 .f32)
    (x₀ x₁ R O : Vec F S1x512x2048 .f32) (N : Vec F S8x1x2048 .f32) (d : Vec F S2x512x2048 .f32) : sProp 𝕄 :=
  iprop(owns (c : Thread nD τ) arg2 fullShare P ∗ owns (c : Thread nD τ) arg3 fullShare S
    ∗ owns (c : Thread nD τ) arg4 fullShare x₀ ∗ owns (c : Thread nD τ) arg5 fullShare x₁
    ∗ owns (c : Thread nD τ) arg6 fullShare R ∗ owns (c : Thread nD τ) arg7 fullShare O
    ∗ owns (c : Thread nD τ) arg8 fullShare N ∗ owns (c : Thread nD τ) arg9 fullShare d)

/-- A whole buffer owned with contents `X` points to those contents. -/
theorem owns_open (c : Dev nD) {s : Shape} {m : Memref sig .tc .vmem s .f32} (h : m.IsWhole) (X : Vec F s .f32) :
    owns (c : Thread nD τ) m fullShare X ⊢ (m.view.loc (c : Thread nD τ) ↦[m.view.set]{fullShare} h.unread X : sProp 𝕄) := by
  unfold owns
  iintro ⟨%f, %hf, H⟩
  obtain rfl := h.eq_unread hf
  iexact H

/-- and back. -/
theorem owns_close (c : Dev nD) {s : Shape} {m : Memref sig .tc .vmem s .f32} (h : m.IsWhole) (X : Vec F s .f32) :
    (m.view.loc (c : Thread nD τ) ↦[m.view.set]{fullShare} h.unread X : sProp 𝕄) ⊢ owns (c : Thread nD τ) m fullShare X := by
  unfold owns
  iintro H
  iexists _
  isplitr [H]
  · ipureintro; exact h.read_unread X
  iexact H

/-- A buffer whose contents read as `X` is owned with contents `X`. -/
theorem owns_of_read_eq (c : Dev nD) {s : Shape} (m : Memref sig .tc .vmem s .f32) {f : m.view.ty.Contents (Elt F)}
    {X : Vec F s .f32} :
    (m.view.loc (c : Thread nD τ) ↦[m.view.set]{fullShare} f : sProp 𝕄)
      ⊢ iprop(⌜m.view.read (Elt F) f = X⌝ -∗ owns (c : Thread nD τ) m fullShare X) := by
  iintro H %h
  unfold owns
  iexists f
  isplitr [H]
  · ipureintro; exact h
  iexact H

end Cert.Proof
-- ==== Proof.RunLater.lean ====
module

public import proofs.«01_k».proof.Proof.Gen.KernelIdeal.Frame
public import proofs.«01_k».proof.Proof.Held

/-!
A point of a batch but the last, other than the first point: what the kernel body does, one theorem for each column piece.
-/

@[expose] public section
set_option maxRecDepth 16384
noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- A point of a later batch that scans column piece 0: it stores the scanned piece of batch `n` in slot `q`, the piece's
last row in the new state, and the output block from slot `p`. -/
theorem run_later0 (c : Dev nD) (i : grid0.Coords)
    (arg2 : Memref sig .tc .vmem S8x512x4 .f32) (harg2 : arg2.IsWhole)
    (arg3 : Memref sig .tc .vmem S8x1x2048 .f32) (harg3 : arg3.IsWhole)
    (arg4 : Memref sig .tc .vmem S1x512x2048 .f32) (harg4 : arg4.IsWhole)
    (arg5 : Memref sig .tc .vmem S1x512x2048 .f32) (harg5 : arg5.IsWhole)
    (arg6 : Memref sig .tc .vmem S1x512x2048 .f32) (harg6 : arg6.IsWhole)
    (arg7 : Memref sig .tc .vmem S1x512x2048 .f32) (harg7 : arg7.IsWhole)
    (arg8 : Memref sig .tc .vmem S8x1x2048 .f32) (harg8 : arg8.IsWhole)
    (arg9 : Memref sig .tc .vmem S2x512x2048 .f32) (harg9 : arg9.IsWhole)
    (h1 : ¬ k0_cond1 i = 1#1) (h2 : k0_cond2 i = 1#1) (h3 : k0_cond3 i = 1#1) (h4 : ¬ k0_cond4 i = 1#1) (h5 : ¬ k0_cond5 i = 1#1) (h6 : ¬ k0_cond6 i = 1#1)
    {n p q r : ℕ} (hn : n < 8) (hp : p < 2) (hr : r + 128 ≤ 512)
    (o1 : k0_off1 i = ![n, 0, 0]) (o2 : k0_off2 i = ![n, 0, 0]) (oh : k0_off3 i = ![q, 0, 0])
    (on : k0_off4 i = ![n, 0, 0]) (o11 : k0_off11 i = ![p, r, 0])
    (P : Vec F S8x512x4 .f32) (S : Vec F S8x1x2048 .f32) (x₀ x₁ R O : Vec F S1x512x2048 .f32)
    (N : Vec F S8x1x2048 .f32) (d : Vec F S2x512x2048 .f32) (E : Set ℕ) (K : PUnit → sProp 𝕄) :
    iprop(held c arg2 arg3 arg4 arg5 arg6 arg7 arg8 arg9 P S x₀ x₁ R O N d
        ∗ (held c arg2 arg3 arg4 arg5 arg6 arg7 arg8 arg9 P S x₀ x₁ R
            (outOf (putScan P S x₁ hn (o := 0) (by decide) q d) R hp hr)
            (putLast P S x₁ hn (o := 0) (by decide) N) (putScan P S x₁ hn (o := 0) (by decide) q d) -∗ K ⟨⟩))
      ⊢ wp frame (wpE (defs₀ (F := F)) Variants.none c none) E
          (cc0__fwd_kernel i arg2 harg2 arg3 harg3 arg4 harg4 arg5 harg5 arg6 harg6 arg7 harg7 arg8 harg8 arg9 harg9) K := by
  simp only [cc0__fwd_kernel_eq_skeleton]; unfold cc0__fwd_kernel_skel
  simp only [k0_part11_eq_skeleton, k0_part12_eq_skeleton]
  iintro ⟨Hh, Hk⟩
  unfold held
  icases Hh with ⟨H2, H3, H4, H5, H6, H7, H8, H9⟩
  ihave H2 := (owns_open c harg2 _) $$ H2
  ihave H3 := (owns_open c harg3 _) $$ H3
  ihave H4 := (owns_open c harg4 _) $$ H4
  ihave H5 := (owns_open c harg5 _) $$ H5
  ihave H6 := (owns_open c harg6 _) $$ H6
  ihave H7 := (owns_open c harg7 _) $$ H7
  ihave H8 := (owns_open c harg8 _) $$ H8
  ihave H9 := (owns_open c harg9 _) $$ H9
  letI : ClosedOff (k0_off1 i) := ⟨![n, 0, 0], o1⟩
  letI : ClosedOff (k0_off2 i) := ⟨![n, 0, 0], o2⟩
  letI : ClosedOff (k0_off3 i) := ⟨![q, 0, 0], oh⟩
  letI : ClosedOff (k0_off4 i) := ⟨![n, 0, 0], on⟩
  letI : ClosedOff (k0_off11 i) := ⟨![p, r, 0], o11⟩
  sl_exec (disch := first | sl_exact h1 | sl_exact h2 | sl_exact h3 | sl_exact h4 | sl_exact h5 | sl_exact h6)
  sl_step
  iapply Hk
  isplitl [H2]; · iapply (owns_close c harg2 _); iexact H2
  isplitl [H3]; · iapply (owns_close c harg3 _); iexact H3
  isplitl [H4]; · iapply (owns_close c harg4 _); iexact H4
  isplitl [H5]; · iapply (owns_close c harg5 _); iexact H5
  isplitl [H6]; · iapply (owns_close c harg6 _); iexact H6
  have pay := scanOf_loads harg2 harg3 harg5 P S x₁ hn (o := 0) (by decide) o1 o2
  have payN := lastOf_loads harg2 harg3 harg5 P S x₁ hn (o := 0) (by decide) o1 o2
  isplitl [H7]
  · ihave H := (owns_of_read_eq c arg7 (X := outOf (putScan P S x₁ hn (o := 0) (by decide) q d) R hp hr)) $$ H7
    iapply H; ipureintro
    exact (View.read_writes_full _ _ _ _ _).trans (outOf_loads harg6 R o11 hp hr
      (read_putScan P S x₁ hn (by decide) oh _ _ (pay _ _ _) [] (harg9.read_unread d)) _ _)
  isplitl [H8]
  · ihave H := (owns_of_read_eq c arg8 (X := putLast P S x₁ hn (o := 0) (by decide) N)) $$ H8
    iapply H; ipureintro
    exact read_putLast P S x₁ hn (by decide) on _ _ (payN _ _ _) [] (harg8.read_unread N)
  ihave H := (owns_of_read_eq c arg9 (X := putScan P S x₁ hn (o := 0) (by decide) q d)) $$ H9
  iapply H; ipureintro
  exact read_putScan P S x₁ hn (by decide) oh _ _ (pay _ _ _) [] (harg9.read_unread d)

set_option maxHeartbeats 4000000 in
/-- A point of a later batch that scans column piece 1: it stores the scanned piece of batch `n` in slot `q`, the piece's
last row in the new state, and the output block from slot `p`. -/
theorem run_later1 (c : Dev nD) (i : grid0.Coords)
    (arg2 : Memref sig .tc .vmem S8x512x4 .f32) (harg2 : arg2.IsWhole)
    (arg3 : Memref sig .tc .vmem S8x1x2048 .f32) (harg3 : arg3.IsWhole)
    (arg4 : Memref sig .tc .vmem S1x512x2048 .f32) (harg4 : arg4.IsWhole)
    (arg5 : Memref sig .tc .vmem S1x512x2048 .f32) (harg5 : arg5.IsWhole)
    (arg6 : Memref sig .tc .vmem S1x512x2048 .f32) (harg6 : arg6.IsWhole)
    (arg7 : Memref sig .tc .vmem S1x512x2048 .f32) (harg7 : arg7.IsWhole)
    (arg8 : Memref sig .tc .vmem S8x1x2048 .f32) (harg8 : arg8.IsWhole)
    (arg9 : Memref sig .tc .vmem S2x512x2048 .f32) (harg9 : arg9.IsWhole)
    (h1 : ¬ k0_cond1 i = 1#1) (h2 : k0_cond2 i = 1#1) (h3 : ¬ k0_cond3 i = 1#1) (h4 : k0_cond4 i = 1#1) (h5 : ¬ k0_cond5 i = 1#1) (h6 : ¬ k0_cond6 i = 1#1)
    {n p q r : ℕ} (hn : n < 8) (hp : p < 2) (hr : r + 128 ≤ 512)
    (o1 : k0_off1 i = ![n, 0, 0]) (o2 : k0_off2 i = ![n, 0, 0]) (oh : k0_off5 i = ![q, 0, 512])
    (on : k0_off6 i = ![n, 0, 512]) (o11 : k0_off11 i = ![p, r, 0])
    (P : Vec F S8x512x4 .f32) (S : Vec F S8x1x2048 .f32) (x₀ x₁ R O : Vec F S1x512x2048 .f32)
    (N : Vec F S8x1x2048 .f32) (d : Vec F S2x512x2048 .f32) (E : Set ℕ) (K : PUnit → sProp 𝕄) :
    iprop(held c arg2 arg3 arg4 arg5 arg6 arg7 arg8 arg9 P S x₀ x₁ R O N d
        ∗ (held c arg2 arg3 arg4 arg5 arg6 arg7 arg8 arg9 P S x₀ x₁ R
            (outOf (putScan P S x₁ hn (o := 512) (by decide) q d) R hp hr)
            (putLast P S x₁ hn (o := 512) (by decide) N) (putScan P S x₁ hn (o := 512) (by decide) q d) -∗ K ⟨⟩))
      ⊢ wp frame (wpE (defs₀ (F := F)) Variants.none c none) E
          (cc0__fwd_kernel i arg2 harg2 arg3 harg3 arg4 harg4 arg5 harg5 arg6 harg6 arg7 harg7 arg8 harg8 arg9 harg9) K := by
  simp only [cc0__fwd_kernel_eq_skeleton]; unfold cc0__fwd_kernel_skel
  simp only [k0_part13_eq_skeleton, k0_part14_eq_skeleton]
  iintro ⟨Hh, Hk⟩
  unfold held
  icases Hh with ⟨H2, H3, H4, H5, H6, H7, H8, H9⟩
  ihave H2 := (owns_open c harg2 _) $$ H2
  ihave H3 := (owns_open c harg3 _) $$ H3
  ihave H4 := (owns_open c harg4 _) $$ H4
  ihave H5 := (owns_open c harg5 _) $$ H5
  ihave H6 := (owns_open c harg6 _) $$ H6
  ihave H7 := (owns_open c harg7 _) $$ H7
  ihave H8 := (owns_open c harg8 _) $$ H8
  ihave H9 := (owns_open c harg9 _) $$ H9
  letI : ClosedOff (k0_off1 i) := ⟨![n, 0, 0], o1⟩
  letI : ClosedOff (k0_off2 i) := ⟨![n, 0, 0], o2⟩
  letI : ClosedOff (k0_off5 i) := ⟨![q, 0, 512], oh⟩
  letI : ClosedOff (k0_off6 i) := ⟨![n, 0, 512], on⟩
  letI : ClosedOff (k0_off11 i) := ⟨![p, r, 0], o11⟩
  sl_exec (disch := first | sl_exact h1 | sl_exact h2 | sl_exact h3 | sl_exact h4 | sl_exact h5 | sl_exact h6)
  sl_step
  iapply Hk
  isplitl [H2]; · iapply (owns_close c harg2 _); iexact H2
  isplitl [H3]; · iapply (owns_close c harg3 _); iexact H3
  isplitl [H4]; · iapply (owns_close c harg4 _); iexact H4
  isplitl [H5]; · iapply (owns_close c harg5 _); iexact H5
  isplitl [H6]; · iapply (owns_close c harg6 _); iexact H6
  have pay := scanOf_loads harg2 harg3 harg5 P S x₁ hn (o := 512) (by decide) o1 o2
  have payN := lastOf_loads harg2 harg3 harg5 P S x₁ hn (o := 512) (by decide) o1 o2
  isplitl [H7]
  · ihave H := (owns_of_read_eq c arg7 (X := outOf (putScan P S x₁ hn (o := 512) (by decide) q d) R hp hr)) $$ H7
    iapply H; ipureintro
    exact (View.read_writes_full _ _ _ _ _).trans (outOf_loads harg6 R o11 hp hr
      (read_putScan P S x₁ hn (by decide) oh _ _ (pay _ _ _) [] (harg9.read_unread d)) _ _)
  isplitl [H8]
  · ihave H := (owns_of_read_eq c arg8 (X := putLast P S x₁ hn (o := 512) (by decide) N)) $$ H8
    iapply H; ipureintro
    exact read_putLast P S x₁ hn (by decide) on _ _ (payN _ _ _) [] (harg8.read_unread N)
  ihave H := (owns_of_read_eq c arg9 (X := putScan P S x₁ hn (o := 512) (by decide) q d)) $$ H9
  iapply H; ipureintro
  exact read_putScan P S x₁ hn (by decide) oh _ _ (pay _ _ _) [] (harg9.read_unread d)

set_option maxHeartbeats 4000000 in
/-- A point of a later batch that scans column piece 2: it stores the scanned piece of batch `n` in slot `q`, the piece's
last row in the new state, and the output block from slot `p`. -/
theorem run_later2 (c : Dev nD) (i : grid0.Coords)
    (arg2 : Memref sig .tc .vmem S8x512x4 .f32) (harg2 : arg2.IsWhole)
    (arg3 : Memref sig .tc .vmem S8x1x2048 .f32) (harg3 : arg3.IsWhole)
    (arg4 : Memref sig .tc .vmem S1x512x2048 .f32) (harg4 : arg4.IsWhole)
    (arg5 : Memref sig .tc .vmem S1x512x2048 .f32) (harg5 : arg5.IsWhole)
    (arg6 : Memref sig .tc .vmem S1x512x2048 .f32) (harg6 : arg6.IsWhole)
    (arg7 : Memref sig .tc .vmem S1x512x2048 .f32) (harg7 : arg7.IsWhole)
    (arg8 : Memref sig .tc .vmem S8x1x2048 .f32) (harg8 : arg8.IsWhole)
    (arg9 : Memref sig .tc .vmem S2x512x2048 .f32) (harg9 : arg9.IsWhole)
    (h1 : ¬ k0_cond1 i = 1#1) (h2 : k0_cond2 i = 1#1) (h3 : ¬ k0_cond3 i = 1#1) (h4 : ¬ k0_cond4 i = 1#1) (h5 : k0_cond5 i = 1#1) (h6 : ¬ k0_cond6 i = 1#1)
    {n p q r : ℕ} (hn : n < 8) (hp : p < 2) (hr : r + 128 ≤ 512)
    (o1 : k0_off1 i = ![n, 0, 0]) (o2 : k0_off2 i = ![n, 0, 0]) (oh : k0_off7 i = ![q, 0, 1024])
    (on : k0_off8 i = ![n, 0, 1024]) (o11 : k0_off11 i = ![p, r, 0])
    (P : Vec F S8x512x4 .f32) (S : Vec F S8x1x2048 .f32) (x₀ x₁ R O : Vec F S1x512x2048 .f32)
    (N : Vec F S8x1x2048 .f32) (d : Vec F S2x512x2048 .f32) (E : Set ℕ) (K : PUnit → sProp 𝕄) :
    iprop(held c arg2 arg3 arg4 arg5 arg6 arg7 arg8 arg9 P S x₀ x₁ R O N d
        ∗ (held c arg2 arg3 arg4 arg5 arg6 arg7 arg8 arg9 P S x₀ x₁ R
            (outOf (putScan P S x₁ hn (o := 1024) (by decide) q d) R hp hr)
            (putLast P S x₁ hn (o := 1024) (by decide) N) (putScan P S x₁ hn (o := 1024) (by decide) q d) -∗ K ⟨⟩))
      ⊢ wp frame (wpE (defs₀ (F := F)) Variants.none c none) E
          (cc0__fwd_kernel i arg2 harg2 arg3 harg3 arg4 harg4 arg5 harg5 arg6 harg6 arg7 harg7 arg8 harg8 arg9 harg9) K := by
  simp only [cc0__fwd_kernel_eq_skeleton]; unfold cc0__fwd_kernel_skel
  simp only [k0_part15_eq_skeleton, k0_part16_eq_skeleton]
  iintro ⟨Hh, Hk⟩
  unfold held
  icases Hh with ⟨H2, H3, H4, H5, H6, H7, H8, H9⟩
  ihave H2 := (owns_open c harg2 _) $$ H2
  ihave H3 := (owns_open c harg3 _) $$ H3
  ihave H4 := (owns_open c harg4 _) $$ H4
  ihave H5 := (owns_open c harg5 _) $$ H5
  ihave H6 := (owns_open c harg6 _) $$ H6
  ihave H7 := (owns_open c harg7 _) $$ H7
  ihave H8 := (owns_open c harg8 _) $$ H8
  ihave H9 := (owns_open c harg9 _) $$ H9
  letI : ClosedOff (k0_off1 i) := ⟨![n, 0, 0], o1⟩
  letI : ClosedOff (k0_off2 i) := ⟨![n, 0, 0], o2⟩
  letI : ClosedOff (k0_off7 i) := ⟨![q, 0, 1024], oh⟩
  letI : ClosedOff (k0_off8 i) := ⟨![n, 0, 1024], on⟩
  letI : ClosedOff (k0_off11 i) := ⟨![p, r, 0], o11⟩
  sl_exec (disch := first | sl_exact h1 | sl_exact h2 | sl_exact h3 | sl_exact h4 | sl_exact h5 | sl_exact h6)
  sl_step
  iapply Hk
  isplitl [H2]; · iapply (owns_close c harg2 _); iexact H2
  isplitl [H3]; · iapply (owns_close c harg3 _); iexact H3
  isplitl [H4]; · iapply (owns_close c harg4 _); iexact H4
  isplitl [H5]; · iapply (owns_close c harg5 _); iexact H5
  isplitl [H6]; · iapply (owns_close c harg6 _); iexact H6
  have pay := scanOf_loads harg2 harg3 harg5 P S x₁ hn (o := 1024) (by decide) o1 o2
  have payN := lastOf_loads harg2 harg3 harg5 P S x₁ hn (o := 1024) (by decide) o1 o2
  isplitl [H7]
  · ihave H := (owns_of_read_eq c arg7 (X := outOf (putScan P S x₁ hn (o := 1024) (by decide) q d) R hp hr)) $$ H7
    iapply H; ipureintro
    exact (View.read_writes_full _ _ _ _ _).trans (outOf_loads harg6 R o11 hp hr
      (read_putScan P S x₁ hn (by decide) oh _ _ (pay _ _ _) [] (harg9.read_unread d)) _ _)
  isplitl [H8]
  · ihave H := (owns_of_read_eq c arg8 (X := putLast P S x₁ hn (o := 1024) (by decide) N)) $$ H8
    iapply H; ipureintro
    exact read_putLast P S x₁ hn (by decide) on _ _ (payN _ _ _) [] (harg8.read_unread N)
  ihave H := (owns_of_read_eq c arg9 (X := putScan P S x₁ hn (o := 1024) (by decide) q d)) $$ H9
  iapply H; ipureintro
  exact read_putScan P S x₁ hn (by decide) oh _ _ (pay _ _ _) [] (harg9.read_unread d)

set_option maxHeartbeats 4000000 in
/-- A point of a later batch that scans column piece 3: it stores the scanned piece of batch `n` in slot `q`, the piece's
last row in the new state, and the output block from slot `p`. -/
theorem run_later3 (c : Dev nD) (i : grid0.Coords)
    (arg2 : Memref sig .tc .vmem S8x512x4 .f32) (harg2 : arg2.IsWhole)
    (arg3 : Memref sig .tc .vmem S8x1x2048 .f32) (harg3 : arg3.IsWhole)
    (arg4 : Memref sig .tc .vmem S1x512x2048 .f32) (harg4 : arg4.IsWhole)
    (arg5 : Memref sig .tc .vmem S1x512x2048 .f32) (harg5 : arg5.IsWhole)
    (arg6 : Memref sig .tc .vmem S1x512x2048 .f32) (harg6 : arg6.IsWhole)
    (arg7 : Memref sig .tc .vmem S1x512x2048 .f32) (harg7 : arg7.IsWhole)
    (arg8 : Memref sig .tc .vmem S8x1x2048 .f32) (harg8 : arg8.IsWhole)
    (arg9 : Memref sig .tc .vmem S2x512x2048 .f32) (harg9 : arg9.IsWhole)
    (h1 : ¬ k0_cond1 i = 1#1) (h2 : k0_cond2 i = 1#1) (h3 : ¬ k0_cond3 i = 1#1) (h4 : ¬ k0_cond4 i = 1#1) (h5 : ¬ k0_cond5 i = 1#1) (h6 : k0_cond6 i = 1#1)
    {n p q r : ℕ} (hn : n < 8) (hp : p < 2) (hr : r + 128 ≤ 512)
    (o1 : k0_off1 i = ![n, 0, 0]) (o2 : k0_off2 i = ![n, 0, 0]) (oh : k0_off9 i = ![q, 0, 1536])
    (on : k0_off10 i = ![n, 0, 1536]) (o11 : k0_off11 i = ![p, r, 0])
    (P : Vec F S8x512x4 .f32) (S : Vec F S8x1x2048 .f32) (x₀ x₁ R O : Vec F S1x512x2048 .f32)
    (N : Vec F S8x1x2048 .f32) (d : Vec F S2x512x2048 .f32) (E : Set ℕ) (K : PUnit → sProp 𝕄) :
    iprop(held c arg2 arg3 arg4 arg5 arg6 arg7 arg8 arg9 P S x₀ x₁ R O N d
        ∗ (held c arg2 arg3 arg4 arg5 arg6 arg7 arg8 arg9 P S x₀ x₁ R
            (outOf (putScan P S x₁ hn (o := 1536) (by decide) q d) R hp hr)
            (putLast P S x₁ hn (o := 1536) (by decide) N) (putScan P S x₁ hn (o := 1536) (by decide) q d) -∗ K ⟨⟩))
      ⊢ wp frame (wpE (defs₀ (F := F)) Variants.none c none) E
          (cc0__fwd_kernel i arg2 harg2 arg3 harg3 arg4 harg4 arg5 harg5 arg6 harg6 arg7 harg7 arg8 harg8 arg9 harg9) K := by
  simp only [cc0__fwd_kernel_eq_skeleton]; unfold cc0__fwd_kernel_skel
  simp only [k0_part17_eq_skeleton, k0_part18_eq_skeleton]
  iintro ⟨Hh, Hk⟩
  unfold held
  icases Hh with ⟨H2, H3, H4, H5, H6, H7, H8, H9⟩
  ihave H2 := (owns_open c harg2 _) $$ H2
  ihave H3 := (owns_open c harg3 _) $$ H3
  ihave H4 := (owns_open c harg4 _) $$ H4
  ihave H5 := (owns_open c harg5 _) $$ H5
  ihave H6 := (owns_open c harg6 _) $$ H6
  ihave H7 := (owns_open c harg7 _) $$ H7
  ihave H8 := (owns_open c harg8 _) $$ H8
  ihave H9 := (owns_open c harg9 _) $$ H9
  letI : ClosedOff (k0_off1 i) := ⟨![n, 0, 0], o1⟩
  letI : ClosedOff (k0_off2 i) := ⟨![n, 0, 0], o2⟩
  letI : ClosedOff (k0_off9 i) := ⟨![q, 0, 1536], oh⟩
  letI : ClosedOff (k0_off10 i) := ⟨![n, 0, 1536], on⟩
  letI : ClosedOff (k0_off11 i) := ⟨![p, r, 0], o11⟩
  sl_exec (disch := first | sl_exact h1 | sl_exact h2 | sl_exact h3 | sl_exact h4 | sl_exact h5 | sl_exact h6)
  sl_step
  iapply Hk
  isplitl [H2]; · iapply (owns_close c harg2 _); iexact H2
  isplitl [H3]; · iapply (owns_close c harg3 _); iexact H3
  isplitl [H4]; · iapply (owns_close c harg4 _); iexact H4
  isplitl [H5]; · iapply (owns_close c harg5 _); iexact H5
  isplitl [H6]; · iapply (owns_close c harg6 _); iexact H6
  have pay := scanOf_loads harg2 harg3 harg5 P S x₁ hn (o := 1536) (by decide) o1 o2
  have payN := lastOf_loads harg2 harg3 harg5 P S x₁ hn (o := 1536) (by decide) o1 o2
  isplitl [H7]
  · ihave H := (owns_of_read_eq c arg7 (X := outOf (putScan P S x₁ hn (o := 1536) (by decide) q d) R hp hr)) $$ H7
    iapply H; ipureintro
    exact (View.read_writes_full _ _ _ _ _).trans (outOf_loads harg6 R o11 hp hr
      (read_putScan P S x₁ hn (by decide) oh _ _ (pay _ _ _) [] (harg9.read_unread d)) _ _)
  isplitl [H8]
  · ihave H := (owns_of_read_eq c arg8 (X := putLast P S x₁ hn (o := 1536) (by decide) N)) $$ H8
    iapply H; ipureintro
    exact read_putLast P S x₁ hn (by decide) on _ _ (payN _ _ _) [] (harg8.read_unread N)
  ihave H := (owns_of_read_eq c arg9 (X := putScan P S x₁ hn (o := 1536) (by decide) q d)) $$ H9
  iapply H; ipureintro
  exact read_putScan P S x₁ hn (by decide) oh _ _ (pay _ _ _) [] (harg9.read_unread d)

end Cert.Proof
-- ==== Proof.RunEnds.lean ====
module

public import proofs.«01_k».proof.Proof.Gen.KernelIdeal.Frame
public import proofs.«01_k».proof.Proof.Held

/-!
The first point, and a point of the last batch: what the kernel body does.
-/

@[expose] public section
set_option maxRecDepth 16384
noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- A point of the last batch scans nothing: it stores the output block from slot `p`. -/
theorem run_last (c : Dev nD) (i : grid0.Coords)
    (arg2 : Memref sig .tc .vmem S8x512x4 .f32) (harg2 : arg2.IsWhole)
    (arg3 : Memref sig .tc .vmem S8x1x2048 .f32) (harg3 : arg3.IsWhole)
    (arg4 : Memref sig .tc .vmem S1x512x2048 .f32) (harg4 : arg4.IsWhole)
    (arg5 : Memref sig .tc .vmem S1x512x2048 .f32) (harg5 : arg5.IsWhole)
    (arg6 : Memref sig .tc .vmem S1x512x2048 .f32) (harg6 : arg6.IsWhole)
    (arg7 : Memref sig .tc .vmem S1x512x2048 .f32) (harg7 : arg7.IsWhole)
    (arg8 : Memref sig .tc .vmem S8x1x2048 .f32) (harg8 : arg8.IsWhole)
    (arg9 : Memref sig .tc .vmem S2x512x2048 .f32) (harg9 : arg9.IsWhole)
    (h1 : ¬ k0_cond1 i = 1#1) (h2 : ¬ k0_cond2 i = 1#1)
    {p r : ℕ} (hp : p < 2) (hr : r + 128 ≤ 512) (o11 : k0_off11 i = ![p, r, 0])
    (P : Vec F S8x512x4 .f32) (S : Vec F S8x1x2048 .f32) (x₀ x₁ R O : Vec F S1x512x2048 .f32)
    (N : Vec F S8x1x2048 .f32) (d : Vec F S2x512x2048 .f32) (E : Set ℕ) (K : PUnit → sProp 𝕄) :
    iprop(held c arg2 arg3 arg4 arg5 arg6 arg7 arg8 arg9 P S x₀ x₁ R O N d
        ∗ (held c arg2 arg3 arg4 arg5 arg6 arg7 arg8 arg9 P S x₀ x₁ R (outOf d R hp hr) N d -∗ K ⟨⟩))
      ⊢ wp frame (wpE (defs₀ (F := F)) Variants.none c none) E
          (cc0__fwd_kernel i arg2 harg2 arg3 harg3 arg4 harg4 arg5 harg5 arg6 harg6 arg7 harg7 arg8 harg8 arg9 harg9) K := by
  simp only [cc0__fwd_kernel_eq_skeleton]; unfold cc0__fwd_kernel_skel
  iintro ⟨Hh, Hk⟩
  unfold held
  icases Hh with ⟨H2, H3, H4, H5, H6, H7, H8, H9⟩
  ihave H2 := (owns_open c harg2 _) $$ H2
  ihave H3 := (owns_open c harg3 _) $$ H3
  ihave H4 := (owns_open c harg4 _) $$ H4
  ihave H5 := (owns_open c harg5 _) $$ H5
  ihave H6 := (owns_open c harg6 _) $$ H6
  ihave H7 := (owns_open c harg7 _) $$ H7
  ihave H8 := (owns_open c harg8 _) $$ H8
  ihave H9 := (owns_open c harg9 _) $$ H9
  letI : ClosedOff (k0_off11 i) := ⟨![p, r, 0], o11⟩
  sl_exec (disch := first | sl_exact h1 | sl_exact h2)
  sl_step
  iapply Hk
  isplitl [H2]; · iapply (owns_close c harg2 _); iexact H2
  isplitl [H3]; · iapply (owns_close c harg3 _); iexact H3
  isplitl [H4]; · iapply (owns_close c harg4 _); iexact H4
  isplitl [H5]; · iapply (owns_close c harg5 _); iexact H5
  isplitl [H6]; · iapply (owns_close c harg6 _); iexact H6
  isplitl [H7]
  · ihave H := (owns_of_read_eq c arg7 (X := outOf d R hp hr)) $$ H7
    iapply H; ipureintro
    exact (View.read_writes_full _ _ _ _ _).trans (outOf_loads harg6 R o11 hp hr (harg9.read_unread d) _ _)
  isplitl [H8]; · iapply (owns_close c harg8 _); iexact H8
  iapply (owns_close c harg9 _); iexact H9

/-- The scratch after the four scans of batch 0, whose hidden states are `x`. -/
def firstScans (P : Vec F S8x512x4 .f32) (S : Vec F S8x1x2048 .f32) (x : Vec F S1x512x2048 .f32) (d : Vec F S2x512x2048 .f32) :
    Vec F S2x512x2048 .f32 :=
  putScan P S x (n := 0) (o := 1536) (by decide) (by decide) 0 (putScan P S x (n := 0) (o := 1024) (by decide) (by decide) 0
    (putScan P S x (n := 0) (o := 512) (by decide) (by decide) 0 (putScan P S x (n := 0) (o := 0) (by decide) (by decide) 0 d)))

/-- The new state after the four scans of batch 0, whose hidden states are `x`. -/
def firstLasts (P : Vec F S8x512x4 .f32) (S : Vec F S8x1x2048 .f32) (x : Vec F S1x512x2048 .f32) (N : Vec F S8x1x2048 .f32) :
    Vec F S8x1x2048 .f32 :=
  putLast P S x (n := 0) (o := 1536) (by decide) (by decide) (putLast P S x (n := 0) (o := 1024) (by decide) (by decide)
    (putLast P S x (n := 0) (o := 512) (by decide) (by decide) (putLast P S x (n := 0) (o := 0) (by decide) (by decide) N)))

set_option maxHeartbeats 8000000 in
/-- The first point: it stores the four scanned pieces of batch 0 in slot 0 and then does what a later point does. -/
theorem run_first (c : Dev nD) (i : grid0.Coords)
    (arg2 : Memref sig .tc .vmem S8x512x4 .f32) (harg2 : arg2.IsWhole)
    (arg3 : Memref sig .tc .vmem S8x1x2048 .f32) (harg3 : arg3.IsWhole)
    (arg4 : Memref sig .tc .vmem S1x512x2048 .f32) (harg4 : arg4.IsWhole)
    (arg5 : Memref sig .tc .vmem S1x512x2048 .f32) (harg5 : arg5.IsWhole)
    (arg6 : Memref sig .tc .vmem S1x512x2048 .f32) (harg6 : arg6.IsWhole)
    (arg7 : Memref sig .tc .vmem S1x512x2048 .f32) (harg7 : arg7.IsWhole)
    (arg8 : Memref sig .tc .vmem S8x1x2048 .f32) (harg8 : arg8.IsWhole)
    (arg9 : Memref sig .tc .vmem S2x512x2048 .f32) (harg9 : arg9.IsWhole)
    (h1 : k0_cond1 i = 1#1) (h2 : k0_cond2 i = 1#1) (h3 : k0_cond3 i = 1#1) (h4 : ¬ k0_cond4 i = 1#1) (h5 : ¬ k0_cond5 i = 1#1) (h6 : ¬ k0_cond6 i = 1#1)
    {n p q r : ℕ} (hn : n < 8) (hp : p < 2) (hr : r + 128 ≤ 512)
    (o1 : k0_off1 i = ![n, 0, 0]) (o2 : k0_off2 i = ![n, 0, 0]) (oh : k0_off3 i = ![q, 0, 0])
    (on : k0_off4 i = ![n, 0, 0]) (o11 : k0_off11 i = ![p, r, 0])
    (P : Vec F S8x512x4 .f32) (S : Vec F S8x1x2048 .f32) (x₀ x₁ R O : Vec F S1x512x2048 .f32)
    (N : Vec F S8x1x2048 .f32) (d : Vec F S2x512x2048 .f32) (E : Set ℕ) (K : PUnit → sProp 𝕄) :
    iprop(held c arg2 arg3 arg4 arg5 arg6 arg7 arg8 arg9 P S x₀ x₁ R O N d
        ∗ (held c arg2 arg3 arg4 arg5 arg6 arg7 arg8 arg9 P S x₀ x₁ R
            (outOf (putScan P S x₁ hn (o := 0) (by decide) q (firstScans P S x₀ d)) R hp hr)
            (putLast P S x₁ hn (o := 0) (by decide) (firstLasts P S x₀ N))
            (putScan P S x₁ hn (o := 0) (by decide) q (firstScans P S x₀ d)) -∗ K ⟨⟩))
      ⊢ wp frame (wpE (defs₀ (F := F)) Variants.none c none) E
          (cc0__fwd_kernel i arg2 harg2 arg3 harg3 arg4 harg4 arg5 harg5 arg6 harg6 arg7 harg7 arg8 harg8 arg9 harg9) K := by
  simp only [cc0__fwd_kernel_eq_skeleton]; unfold cc0__fwd_kernel_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton]
  iintro ⟨Hh, Hk⟩
  unfold held
  icases Hh with ⟨H2, H3, H4, H5, H6, H7, H8, H9⟩
  ihave H2 := (owns_open c harg2 _) $$ H2
  ihave H3 := (owns_open c harg3 _) $$ H3
  ihave H4 := (owns_open c harg4 _) $$ H4
  ihave H5 := (owns_open c harg5 _) $$ H5
  ihave H6 := (owns_open c harg6 _) $$ H6
  ihave H7 := (owns_open c harg7 _) $$ H7
  ihave H8 := (owns_open c harg8 _) $$ H8
  ihave H9 := (owns_open c harg9 _) $$ H9
  letI : ClosedOff (k0_off1 i) := ⟨![n, 0, 0], o1⟩
  letI : ClosedOff (k0_off2 i) := ⟨![n, 0, 0], o2⟩
  letI : ClosedOff (k0_off3 i) := ⟨![q, 0, 0], oh⟩
  letI : ClosedOff (k0_off4 i) := ⟨![n, 0, 0], on⟩
  letI : ClosedOff (k0_off11 i) := ⟨![p, r, 0], o11⟩
  sl_exec (disch := first | sl_exact h1 | sl_exact h2 | sl_exact h3 | sl_exact h4 | sl_exact h5 | sl_exact h6)
  sl_step
  iapply Hk
  isplitl [H2]; · iapply (owns_close c harg2 _); iexact H2
  isplitl [H3]; · iapply (owns_close c harg3 _); iexact H3
  isplitl [H4]; · iapply (owns_close c harg4 _); iexact H4
  isplitl [H5]; · iapply (owns_close c harg5 _); iexact H5
  isplitl [H6]; · iapply (owns_close c harg6 _); iexact H6
  have pay := scanOf_loads harg2 harg3 harg5 P S x₁ hn (o := 0) (by decide) o1 o2
  have payN := lastOf_loads harg2 harg3 harg5 P S x₁ hn (o := 0) (by decide) o1 o2
  have pay₀ := fun (o : ℕ) (ho : o + 512 ≤ 2048) =>
    scanOf_loads harg2 harg3 harg4 P S x₀ (n := 0) (o := o) (by decide) ho rfl rfl
  have payN₀ := fun (o : ℕ) (ho : o + 512 ≤ 2048) =>
    lastOf_loads harg2 harg3 harg4 P S x₀ (n := 0) (o := o) (by decide) ho rfl rfl
  isplitl [H7]
  · ihave H := (owns_of_read_eq c arg7
      (X := outOf (putScan P S x₁ hn (o := 0) (by decide) q (firstScans P S x₀ d)) R hp hr)) $$ H7
    iapply H; ipureintro
    exact (View.read_writes_full _ _ _ _ _).trans (outOf_loads harg6 R o11 hp hr
      (read_putScan P S x₁ hn (by decide) oh _ _ (pay _ _ _) _
        (read_putScan P S x₀ _ _ rfl _ _ ((first_scan3 _ _ _).trans (pay₀ 1536 (by decide) _ _ _)) _
          (read_putScan P S x₀ _ _ rfl _ _ ((first_scan2 _ _ _).trans (pay₀ 1024 (by decide) _ _ _)) _
            (read_putScan P S x₀ _ _ rfl _ _ ((first_scan1 _ _ _).trans (pay₀ 512 (by decide) _ _ _)) _
              (read_putScan P S x₀ _ _ rfl _ _ ((first_scan0 _ _ _).trans (pay₀ 0 (by decide) _ _ _)) [] (harg9.read_unread d)))))) _ _)
  isplitl [H8]
  · ihave H := (owns_of_read_eq c arg8 (X := putLast P S x₁ hn (o := 0) (by decide) (firstLasts P S x₀ N))) $$ H8
    iapply H; ipureintro
    exact read_putLast P S x₁ hn (by decide) on _ _ (payN _ _ _) _
        (read_putLast P S x₀ _ _ rfl _ _ ((first_last3 _ _ _).trans (payN₀ 1536 (by decide) _ _ _)) _
          (read_putLast P S x₀ _ _ rfl _ _ ((first_last2 _ _ _).trans (payN₀ 1024 (by decide) _ _ _)) _
            (read_putLast P S x₀ _ _ rfl _ _ ((first_last1 _ _ _).trans (payN₀ 512 (by decide) _ _ _)) _
              (read_putLast P S x₀ _ _ rfl _ _ ((first_last0 _ _ _).trans (payN₀ 0 (by decide) _ _ _)) [] (harg8.read_unread N)))))
  ihave H := (owns_of_read_eq c arg9 (X := putScan P S x₁ hn (o := 0) (by decide) q (firstScans P S x₀ d))) $$ H9
  iapply H; ipureintro
  exact read_putScan P S x₁ hn (by decide) oh _ _ (pay _ _ _) _
        (read_putScan P S x₀ _ _ rfl _ _ ((first_scan3 _ _ _).trans (pay₀ 1536 (by decide) _ _ _)) _
          (read_putScan P S x₀ _ _ rfl _ _ ((first_scan2 _ _ _).trans (pay₀ 1024 (by decide) _ _ _)) _
            (read_putScan P S x₀ _ _ rfl _ _ ((first_scan1 _ _ _).trans (pay₀ 512 (by decide) _ _ _)) _
              (read_putScan P S x₀ _ _ rfl _ _ ((first_scan0 _ _ _).trans (pay₀ 0 (by decide) _ _ _)) [] (harg9.read_unread d)))))

end Cert.Proof
-- ==== Proof.Inv.lean ====
module

public import proofs.«01_k».proof.Proof.RunEnds

/-!
What the scratch and the new state hold between points. Column piece `c` of batch `n` has been scanned before point
`t` when `done t n c`; the scratch still holds it until batch `n + 2` takes its slot.
-/

@[expose] public section
noncomputable section

namespace Cert.Proof

open Cert.KernelIdeal Cert.KernelIdeal.Gen
open Idealize.ShloMosaic

variable {F : FTy → Type} [FloatOps F]

/-- Piece `c` of batch `n` has been scanned before point `t`: batch 0 at the first point, batch `n + 1` at the points of batch `n`. -/
def done (t n c : ℕ) : Prop := (n = 0 ∧ 0 < t) ∨ (1 ≤ n ∧ 4 * n + c < t + 4)

/-- It has been, and its place in the scratch has not been taken by batch `n + 2`. -/
def live (t n c : ℕ) : Prop := done t n c ∧ ¬ done t (n + 2) c

/-- The scratch holds the scan of every piece in `K`. -/
def ScanHolds (P : Vec F S8x512x4 .f32) (S : Vec F S8x1x2048 .f32) (hid : ℕ → Vec F S1x512x2048 .f32) (K : ℕ → ℕ → Prop)
    (d : Vec F S2x512x2048 .f32) : Prop :=
  ∀ n c (hn : n < 8) (hc : c < 4), K n c →
    VecWindow.window d ![n % 2, 0, 512 * c] S1x512x512.size (slot_inb (Nat.mod_lt _ Nat.two_pos) (by omega))
      = scanOf P S (hid n) hn (o := 512 * c) (by omega)

/-- The new state holds the last row of every piece in `K`. -/
def LastHolds (P : Vec F S8x512x4 .f32) (S : Vec F S8x1x2048 .f32) (hid : ℕ → Vec F S1x512x2048 .f32) (K : ℕ → ℕ → Prop)
    (N : Vec F S8x1x2048 .f32) : Prop :=
  ∀ n c (hn : n < 8) (hc : c < 4), K n c →
    VecWindow.window N ![n, 0, 512 * c] S1x1x512.size (newState_inb hn (by omega))
      = lastOf P S (hid n) hn (o := 512 * c) (by omega)

variable {P : Vec F S8x512x4 .f32} {S : Vec F S8x1x2048 .f32} {hid : ℕ → Vec F S1x512x2048 .f32} {K K' : ℕ → ℕ → Prop}

/-- Fewer pieces are held too. -/
theorem ScanHolds.mono {d : Vec F S2x512x2048 .f32} (h : ScanHolds P S hid K d) (hK : ∀ n c, n < 8 → c < 4 → K' n c → K n c) :
    ScanHolds P S hid K' d := fun n c hn hc hk => h n c hn hc (hK n c hn hc hk)

/-- Fewer last rows are held too. -/
theorem LastHolds.mono {N : Vec F S8x1x2048 .f32} (h : LastHolds P S hid K N) (hK : ∀ n c, n < 8 → c < 4 → K' n c → K n c) :
    LastHolds P S hid K' N := fun n c hn hc hk => h n c hn hc (hK n c hn hc hk)

/-- Storing piece `c` of batch `n` keeps the pieces stored elsewhere and adds this one. -/
theorem ScanHolds.put {d : Vec F S2x512x2048 .f32} (h : ScanHolds P S hid K d) {n c o q : ℕ} {x : Vec F S1x512x2048 .f32}
    (hn : n < 8) (ho : o + 512 ≤ 2048) (eo : o = 512 * c) (eq : q = n % 2) (ex : x = hid n)
    (hK : ∀ n' c', n' < 8 → c' < 4 → K' n' c' → (n' = n ∧ c' = c) ∨ (K n' c' ∧ (n' % 2 ≠ n % 2 ∨ c' ≠ c))) :
    ScanHolds P S hid K' (putScan P S x hn ho q d) := by
  subst eo eq ex
  intro n' c' hn' hc' hk
  rcases hK n' c' hn' hc' hk with ⟨rfl, rfl⟩ | ⟨hk, hne | hne⟩
  · exact VecWindow.window_put_same _ _ _ _ _
  · exact (VecWindow.window_put_of_disjoint _ _ _ _ _ _ _ 0
      (by show n' % 2 + 1 ≤ n % 2 ∨ n % 2 + 1 ≤ n' % 2; omega)).trans (h n' c' hn' hc' hk)
  · exact (VecWindow.window_put_of_disjoint _ _ _ _ _ _ _ 2
      (by show 512 * c' + 512 ≤ 512 * c ∨ 512 * c + 512 ≤ 512 * c'; omega)).trans (h n' c' hn' hc' hk)

/-- Storing the last row of piece `c` of batch `n` keeps the others and adds this one. -/
theorem LastHolds.put {N : Vec F S8x1x2048 .f32} (h : LastHolds P S hid K N) {n c o : ℕ} {x : Vec F S1x512x2048 .f32}
    (hn : n < 8) (ho : o + 512 ≤ 2048) (eo : o = 512 * c) (ex : x = hid n)
    (hK : ∀ n' c', n' < 8 → c' < 4 → K' n' c' → (n' = n ∧ c' = c) ∨ K n' c') :
    LastHolds P S hid K' (putLast P S x hn ho N) := by
  subst eo ex
  intro n' c' hn' hc' hk
  by_cases he : n' = n ∧ c' = c
  · obtain ⟨rfl, rfl⟩ := he
    exact VecWindow.window_put_same _ _ _ _ _
  · have hk' := (hK n' c' hn' hc' hk).resolve_left he
    by_cases hne : n' = n
    · exact (VecWindow.window_put_of_disjoint _ _ _ _ _ _ _ 2
        (by show 512 * c' + 512 ≤ 512 * c ∨ 512 * c + 512 ≤ 512 * c'; omega)).trans (h n' c' hn' hc' hk')
    · exact (VecWindow.window_put_of_disjoint _ _ _ _ _ _ _ 0
        (by show n' + 1 ≤ n ∨ n + 1 ≤ n'; omega)).trans (h n' c' hn' hc' hk')

/-- Nothing is held before the first point, whatever the scratch holds, -/
theorem scanHolds_zero (d : Vec F S2x512x2048 .f32) : ScanHolds P S hid (live 0) d :=
  fun n c hn hc hk => absurd hk (by unfold live done; omega)

/-- or the new state. -/
theorem lastHolds_zero (N : Vec F S8x1x2048 .f32) : LastHolds P S hid (done 0) N :=
  fun n c hn hc hk => absurd hk (by unfold done; omega)

/-- The four stores of batch 0 at the first point. -/
theorem scanHolds_firstScans (d : Vec F S2x512x2048 .f32) {x : Vec F S1x512x2048 .f32} (ex : x = hid 0) :
    ScanHolds P S hid (fun n _ => n = 0) (firstScans P S x d) := by
  have h0 : ScanHolds P S hid (fun _ _ => False) d := fun _ _ _ _ hk => hk.elim
  have h1 := h0.put (K' := fun n c => n = 0 ∧ c = 0) (n := 0) (c := 0) (o := 0) (q := 0) (x := x) (by decide) (by decide) rfl rfl ex
    (by omega)
  have h2 := h1.put (K' := fun n c => n = 0 ∧ c < 2) (n := 0) (c := 1) (o := 512) (q := 0) (x := x) (by decide) (by decide) rfl rfl ex
    (by omega)
  have h3 := h2.put (K' := fun n c => n = 0 ∧ c < 3) (n := 0) (c := 2) (o := 1024) (q := 0) (x := x) (by decide) (by decide) rfl rfl ex
    (by omega)
  exact h3.put (K' := fun n c => n = 0) (n := 0) (c := 3) (o := 1536) (q := 0) (x := x) (by decide) (by decide) rfl rfl ex
    (by omega)

/-- The four last rows of batch 0 at the first point. -/
theorem lastHolds_firstLasts (N : Vec F S8x1x2048 .f32) {x : Vec F S1x512x2048 .f32} (ex : x = hid 0) :
    LastHolds P S hid (fun n _ => n = 0) (firstLasts P S x N) := by
  have h0 : LastHolds P S hid (fun _ _ => False) N := fun _ _ _ _ hk => hk.elim
  have h1 := h0.put (K' := fun n c => n = 0 ∧ c = 0) (n := 0) (c := 0) (o := 0) (x := x) (by decide) (by decide) rfl ex
    (by omega)
  have h2 := h1.put (K' := fun n c => n = 0 ∧ c < 2) (n := 0) (c := 1) (o := 512) (x := x) (by decide) (by decide) rfl ex
    (by omega)
  have h3 := h2.put (K' := fun n c => n = 0 ∧ c < 3) (n := 0) (c := 2) (o := 1024) (x := x) (by decide) (by decide) rfl ex
    (by omega)
  exact h3.put (K' := fun n c => n = 0) (n := 0) (c := 3) (o := 1536) (x := x) (by decide) (by decide) rfl ex
    (by omega)

/-- The first point: batch 0 and piece 0 of batch 1. -/
theorem scanHolds_first (d : Vec F S2x512x2048 .f32) {x₀ x₁ : Vec F S1x512x2048 .f32} (e₀ : x₀ = hid 0) (e₁ : x₁ = hid 1) :
    ScanHolds P S hid (live 1) (putScan P S x₁ (n := 1) (by decide) (o := 0) (by decide) 1 (firstScans P S x₀ d)) :=
  (scanHolds_firstScans d e₀).put (c := 0) _ _ rfl rfl e₁ (by unfold live done; omega)

/-- The first point's last rows. -/
theorem lastHolds_first (N : Vec F S8x1x2048 .f32) {x₀ x₁ : Vec F S1x512x2048 .f32} (e₀ : x₀ = hid 0) (e₁ : x₁ = hid 1) :
    LastHolds P S hid (done 1) (putLast P S x₁ (n := 1) (by decide) (o := 0) (by decide) (firstLasts P S x₀ N)) :=
  (lastHolds_firstLasts N e₀).put (c := 0) _ _ rfl e₁ (by unfold done; omega)

/-- A later point of batch `t / 4 < 7`: piece `t % 4` of the next batch. -/
theorem scanHolds_later {t c o : ℕ} {d : Vec F S2x512x2048 .f32} (h : ScanHolds P S hid (live t) d) (ht : 0 < t) (h7 : t < 28)
    (hc : t % 4 = c) (eo : o = 512 * c) (ho : o + 512 ≤ 2048) {x : Vec F S1x512x2048 .f32} (ex : x = hid (t / 4 + 1))
    (hn : t / 4 + 1 < 8) :
    ScanHolds P S hid (live (t + 1)) (putScan P S x hn ho ((t / 4 + 1) % 2) d) :=
  h.put hn ho eo rfl ex (by unfold live done; omega)

/-- Its last row. -/
theorem lastHolds_later {t c o : ℕ} {N : Vec F S8x1x2048 .f32} (h : LastHolds P S hid (done t) N) (ht : 0 < t) (h7 : t < 28)
    (hc : t % 4 = c) (eo : o = 512 * c) (ho : o + 512 ≤ 2048) {x : Vec F S1x512x2048 .f32} (ex : x = hid (t / 4 + 1))
    (hn : t / 4 + 1 < 8) :
    LastHolds P S hid (done (t + 1)) (putLast P S x hn ho N) :=
  h.put hn ho eo ex (by unfold done; omega)

/-- The points of the last batch store nothing in the scratch, -/
theorem scanHolds_last {t : ℕ} {d : Vec F S2x512x2048 .f32} (h : ScanHolds P S hid (live t) d) (h7 : 28 ≤ t) :
    ScanHolds P S hid (live (t + 1)) d :=
  h.mono (by unfold live done; omega)

/-- nor in the new state. -/
theorem lastHolds_last {t : ℕ} {N : Vec F S8x1x2048 .f32} (h : LastHolds P S hid (done t) N) (h7 : 28 ≤ t) :
    LastHolds P S hid (done (t + 1)) N :=
  h.mono (by unfold done; omega)

/-- After point `t` the scratch holds the whole scan of batch `t / 4`. -/
theorem live_current {t c : ℕ} (hc : c < 4) : live (t + 1) (t / 4) c := by unfold live done; omega

/-- After the last point every piece of every batch has been scanned. -/
theorem done_all {n c : ℕ} (hn : n < 8) (hc : c < 4) : done 32 n c := by unfold done; omega

end Cert.Proof
-- ==== Proof.Points.lean ====
module

public import proofs.«01_k».proof.Proof.Gen.KernelIdeal.Frame

/-!
What the kernel's conditions and offsets come to at a grid point, whose coordinates are a batch `b` and a part `j`.
-/

@[expose] public section
noncomputable section

namespace Cert.Proof

open Cert.KernelIdeal Cert.KernelIdeal.Gen
open Idealize.ShloMosaic

/-- The batch of a point is the quotient of its number by four. -/
theorem batch_of (t : Fin cfg0.N) : (grid0.coords t 0).val = t.val / 4 :=
  (by decide +kernel : ∀ t : Fin grid0.N, (grid0.coords t 0).val = t.val / 4) t

/-- The part of a point is the remainder. -/
theorem part_of (t : Fin cfg0.N) : (grid0.coords t 1).val = t.val % 4 :=
  (by decide +kernel : ∀ t : Fin grid0.N, (grid0.coords t 1).val = t.val % 4) t

/-- Batch 0 is scanned at the first point. -/
theorem cond_first (t : Fin cfg0.N) : k0_cond1 (grid0.coords t) = 1#1 ↔ t.val = 0 :=
  (by decide +kernel : ∀ t : Fin grid0.N, k0_cond1 (grid0.coords t) = 1#1 ↔ t.val = 0) t

/-- The next batch is scanned at every point but the last batch's. -/
theorem cond_next (t : Fin cfg0.N) : k0_cond2 (grid0.coords t) = 1#1 ↔ t.val < 28 :=
  (by decide +kernel : ∀ t : Fin grid0.N, k0_cond2 (grid0.coords t) = 1#1 ↔ t.val < 28) t

/-- Column piece 0 is scanned at part 0, -/
theorem cond_part0 (t : Fin cfg0.N) : k0_cond3 (grid0.coords t) = 1#1 ↔ t.val % 4 = 0 :=
  (by decide +kernel : ∀ t : Fin grid0.N, k0_cond3 (grid0.coords t) = 1#1 ↔ t.val % 4 = 0) t
/-- piece 1 at part 1, -/
theorem cond_part1 (t : Fin cfg0.N) : k0_cond4 (grid0.coords t) = 1#1 ↔ t.val % 4 = 1 :=
  (by decide +kernel : ∀ t : Fin grid0.N, k0_cond4 (grid0.coords t) = 1#1 ↔ t.val % 4 = 1) t
/-- piece 2 at part 2, -/
theorem cond_part2 (t : Fin cfg0.N) : k0_cond5 (grid0.coords t) = 1#1 ↔ t.val % 4 = 2 :=
  (by decide +kernel : ∀ t : Fin grid0.N, k0_cond5 (grid0.coords t) = 1#1 ↔ t.val % 4 = 2) t
/-- piece 3 at part 3. -/
theorem cond_part3 (t : Fin cfg0.N) : k0_cond6 (grid0.coords t) = 1#1 ↔ t.val % 4 = 3 :=
  (by decide +kernel : ∀ t : Fin grid0.N, k0_cond6 (grid0.coords t) = 1#1 ↔ t.val % 4 = 3) t

/-- The probabilities read are the next batch's row, -/
theorem off_prob (t : Fin cfg0.N) : k0_off1 (grid0.coords t) = ![t.val / 4 + 1, 0, 0] :=
  (by decide +kernel : ∀ t : Fin grid0.N, k0_off1 (grid0.coords t) = ![t.val / 4 + 1, 0, 0]) t
/-- and so are the states. -/
theorem off_state (t : Fin cfg0.N) : k0_off2 (grid0.coords t) = ![t.val / 4 + 1, 0, 0] :=
  (by decide +kernel : ∀ t : Fin grid0.N, k0_off2 (grid0.coords t) = ![t.val / 4 + 1, 0, 0]) t

/-- The scan is stored in the slot of the next batch's parity, at the piece's columns: piece 0, -/
theorem off_scan0 (t : Fin cfg0.N) : k0_off3 (grid0.coords t) = ![(t.val / 4 + 1) % 2, 0, 0] :=
  (by decide +kernel : ∀ t : Fin grid0.N, k0_off3 (grid0.coords t) = ![(t.val / 4 + 1) % 2, 0, 0]) t
/-- piece 1, -/
theorem off_scan1 (t : Fin cfg0.N) : k0_off5 (grid0.coords t) = ![(t.val / 4 + 1) % 2, 0, 512] :=
  (by decide +kernel : ∀ t : Fin grid0.N, k0_off5 (grid0.coords t) = ![(t.val / 4 + 1) % 2, 0, 512]) t
/-- piece 2, -/
theorem off_scan2 (t : Fin cfg0.N) : k0_off7 (grid0.coords t) = ![(t.val / 4 + 1) % 2, 0, 1024] :=
  (by decide +kernel : ∀ t : Fin grid0.N, k0_off7 (grid0.coords t) = ![(t.val / 4 + 1) % 2, 0, 1024]) t
/-- piece 3. -/
theorem off_scan3 (t : Fin cfg0.N) : k0_off9 (grid0.coords t) = ![(t.val / 4 + 1) % 2, 0, 1536] :=
  (by decide +kernel : ∀ t : Fin grid0.N, k0_off9 (grid0.coords t) = ![(t.val / 4 + 1) % 2, 0, 1536]) t

/-- The last row is stored in the next batch's row of the new state, at the piece's columns: piece 0, -/
theorem off_last0 (t : Fin cfg0.N) : k0_off4 (grid0.coords t) = ![t.val / 4 + 1, 0, 0] :=
  (by decide +kernel : ∀ t : Fin grid0.N, k0_off4 (grid0.coords t) = ![t.val / 4 + 1, 0, 0]) t
/-- piece 1, -/
theorem off_last1 (t : Fin cfg0.N) : k0_off6 (grid0.coords t) = ![t.val / 4 + 1, 0, 512] :=
  (by decide +kernel : ∀ t : Fin grid0.N, k0_off6 (grid0.coords t) = ![t.val / 4 + 1, 0, 512]) t
/-- piece 2, -/
theorem off_last2 (t : Fin cfg0.N) : k0_off8 (grid0.coords t) = ![t.val / 4 + 1, 0, 1024] :=
  (by decide +kernel : ∀ t : Fin grid0.N, k0_off8 (grid0.coords t) = ![t.val / 4 + 1, 0, 1024]) t
/-- piece 3. -/
theorem off_last3 (t : Fin cfg0.N) : k0_off10 (grid0.coords t) = ![t.val / 4 + 1, 0, 1536] :=
  (by decide +kernel : ∀ t : Fin grid0.N, k0_off10 (grid0.coords t) = ![t.val / 4 + 1, 0, 1536]) t

/-- The output block is computed from 128 rows of the slot of the batch's parity. -/
theorem off_out (t : Fin cfg0.N) : k0_off11 (grid0.coords t) = ![t.val / 4 % 2, 128 * (t.val % 4), 0] :=
  (by decide +kernel : ∀ t : Fin grid0.N, k0_off11 (grid0.coords t) = ![t.val / 4 % 2, 128 * (t.val % 4), 0]) t

end Cert.Proof
-- ==== Proof.BodyAt.lean ====
module

public import proofs.«01_k».proof.Proof.RunLater
public import proofs.«01_k».proof.Proof.Inv
public import proofs.«01_k».proof.Proof.Points

/-!
The kernel body at any point keeps what the scratch and the new state hold, and leaves the output block of the point.
-/

@[expose] public section
set_option maxRecDepth 16384
noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's eight buffers at point `t`: the seven staging buffers and the scratch. -/
abbrev heldAt (c : Dev nD) (t : Fin cfg0.N) (P : Vec F S8x512x4 .f32) (S : Vec F S8x1x2048 .f32)
    (x₀ x₁ R O : Vec F S1x512x2048 .f32) (N : Vec F S8x1x2048 .f32) (d : Vec F S2x512x2048 .f32) : sProp 𝕄 :=
  held c (st0_0 t) (st0_1 t) (st0_2 t) (st0_3 t) (st0_4 t) (st0_5 t) (st0_6 t) (Memref.whole cc0_scratch0) P S x₀ x₁ R O N d

/-- The slot the output block is read from. -/
theorem slot_lt (t : ℕ) : t / 4 % 2 < 2 := Nat.mod_lt _ Nat.two_pos

/-- The rows it is read from. -/
theorem rows_le (t : ℕ) : 128 * (t % 4) + 128 ≤ 512 := by omega

set_option maxHeartbeats 4000000 in
/-- What the body does at point `t`, by cases: the first point, a point of a batch before the last, a point of the last batch. -/
theorem body_at (c : Dev nD) (t : Fin cfg0.N) (hid : ℕ → Vec F S1x512x2048 .f32) (P : Vec F S8x512x4 .f32)
    (S : Vec F S8x1x2048 .f32) (x₁ R O : Vec F S1x512x2048 .f32) (N : Vec F S8x1x2048 .f32) (d : Vec F S2x512x2048 .f32)
    (hd : ScanHolds P S hid (live t.val) d) (hN : LastHolds P S hid (done t.val) N)
    (e₁ : t.val < 28 → x₁ = hid (t.val / 4 + 1)) (G : sProp 𝕄) (K : PUnit → sProp 𝕄)
    (hK : ∀ (N' : Vec F S8x1x2048 .f32) (d' : Vec F S2x512x2048 .f32), ScanHolds P S hid (live (t.val + 1)) d' →
      LastHolds P S hid (done (t.val + 1)) N' →
      iprop(heldAt c t P S (hid 0) x₁ R (outOf d' R (slot_lt t.val) (rows_le t.val)) N' d' ∗ G) ⊢ K ⟨⟩) :
    iprop(heldAt c t P S (hid 0) x₁ R O N d ∗ G)
      ⊢ wp frame (wpE (defs₀ (F := F)) Variants.none c none) Set.univ (bodyAt0 t) K := by
  have hN32 : t.val < 32 := lt_of_lt_of_eq t.isLt (show cfg0.N = 32 from N_0)
  unfold bodyAt0
  by_cases h0 : t.val = 0
  · have e28 : t.val < 28 := by omega
    have d4 : t.val / 4 = 0 := by omega
    have m4 : t.val % 4 = 0 := by omega
    iintro ⟨H, Hg⟩
    iapply (run_first c (grid0.coords t) _ _ _ _ _ _ _ _ _ _ _ _ _ _ _ _ ((cond_first t).mpr h0) ((cond_next t).mpr e28)
      ((cond_part0 t).mpr m4) (fun h => by have := (cond_part1 t).mp h; omega) (fun h => by have := (cond_part2 t).mp h; omega)
      (fun h => by have := (cond_part3 t).mp h; omega) (n := 1) (q := 1) (p := t.val / 4 % 2) (r := 128 * (t.val % 4)) (by decide) (slot_lt _)
      (rows_le _) ((off_prob t).trans (by rw [d4])) ((off_state t).trans (by rw [d4])) ((off_scan0 t).trans (by rw [d4]))
      ((off_last0 t).trans (by rw [d4])) (off_out t) P S (hid 0) x₁ R O N d Set.univ K)
    isplitl [H]; · iexact H
    iintro H
    iapply (hK _ _ (by rw [h0]; exact scanHolds_first d rfl ((e₁ e28).trans (by rw [d4]))) (by rw [h0]; exact lastHolds_first N rfl ((e₁ e28).trans (by rw [d4]))))
    isplitl [H]; · iexact H
    iexact Hg
  by_cases h7 : t.val < 28
  · have hn : t.val / 4 + 1 < 8 := by omega
    have hp : 0 < t.val := by omega
    have hf : ¬ k0_cond1 (grid0.coords t) = 1#1 := fun h => h0 ((cond_first t).mp h)
    have hx := (cond_next t).mpr h7
    have hc : t.val % 4 = 0 ∨ t.val % 4 = 1 ∨ t.val % 4 = 2 ∨ t.val % 4 = 3 := by omega
    rcases hc with m4 | m4 | m4 | m4
    · iintro ⟨H, Hg⟩
      iapply (run_later0 c (grid0.coords t) _ _ _ _ _ _ _ _ _ _ _ _ _ _ _ _ hf hx ((cond_part0 t).mpr m4)
        (fun h => by have := (cond_part1 t).mp h; omega) (fun h => by have := (cond_part2 t).mp h; omega)
        (fun h => by have := (cond_part3 t).mp h; omega) hn (slot_lt t.val) (rows_le t.val) (off_prob t) (off_state t) (off_scan0 t)
        (off_last0 t) (off_out t) P S (hid 0) x₁ R O N d Set.univ K)
      isplitl [H]; · iexact H
      iintro H
      iapply (hK _ _ (scanHolds_later hd hp h7 m4 rfl _ (e₁ h7) hn) (lastHolds_later hN hp h7 m4 rfl _ (e₁ h7) hn))
      isplitl [H]; · iexact H
      iexact Hg
    · iintro ⟨H, Hg⟩
      iapply (run_later1 c (grid0.coords t) _ _ _ _ _ _ _ _ _ _ _ _ _ _ _ _ hf hx
        (fun h => by have := (cond_part0 t).mp h; omega) ((cond_part1 t).mpr m4) (fun h => by have := (cond_part2 t).mp h; omega)
        (fun h => by have := (cond_part3 t).mp h; omega) hn (slot_lt t.val) (rows_le t.val) (off_prob t) (off_state t) (off_scan1 t)
        (off_last1 t) (off_out t) P S (hid 0) x₁ R O N d Set.univ K)
      isplitl [H]; · iexact H
      iintro H
      iapply (hK _ _ (scanHolds_later hd hp h7 m4 rfl _ (e₁ h7) hn) (lastHolds_later hN hp h7 m4 rfl _ (e₁ h7) hn))
      isplitl [H]; · iexact H
      iexact Hg
    · iintro ⟨H, Hg⟩
      iapply (run_later2 c (grid0.coords t) _ _ _ _ _ _ _ _ _ _ _ _ _ _ _ _ hf hx
        (fun h => by have := (cond_part0 t).mp h; omega) (fun h => by have := (cond_part1 t).mp h; omega) ((cond_part2 t).mpr m4)
        (fun h => by have := (cond_part3 t).mp h; omega) hn (slot_lt t.val) (rows_le t.val) (off_prob t) (off_state t) (off_scan2 t)
        (off_last2 t) (off_out t) P S (hid 0) x₁ R O N d Set.univ K)
      isplitl [H]; · iexact H
      iintro H
      iapply (hK _ _ (scanHolds_later hd hp h7 m4 rfl _ (e₁ h7) hn) (lastHolds_later hN hp h7 m4 rfl _ (e₁ h7) hn))
      isplitl [H]; · iexact H
      iexact Hg
    · iintro ⟨H, Hg⟩
      iapply (run_later3 c (grid0.coords t) _ _ _ _ _ _ _ _ _ _ _ _ _ _ _ _ hf hx
        (fun h => by have := (cond_part0 t).mp h; omega) (fun h => by have := (cond_part1 t).mp h; omega)
        (fun h => by have := (cond_part2 t).mp h; omega) ((cond_part3 t).mpr m4) hn (slot_lt t.val) (rows_le t.val) (off_prob t)
        (off_state t) (off_scan3 t) (off_last3 t) (off_out t) P S (hid 0) x₁ R O N d Set.univ K)
      isplitl [H]; · iexact H
      iintro H
      iapply (hK _ _ (scanHolds_later hd hp h7 m4 rfl _ (e₁ h7) hn) (lastHolds_later hN hp h7 m4 rfl _ (e₁ h7) hn))
      isplitl [H]; · iexact H
      iexact Hg
  · iintro ⟨H, Hg⟩
    iapply (run_last c (grid0.coords t) _ _ _ _ _ _ _ _ _ _ _ _ _ _ _ _ (fun h => h0 ((cond_first t).mp h))
      (fun h => h7 ((cond_next t).mp h)) (slot_lt t.val) (rows_le t.val) (off_out t) P S (hid 0) x₁ R O N d Set.univ K)
    isplitl [H]; · iexact H
    iintro H
    iapply (hK _ _ (scanHolds_last hd (by omega)) (lastHolds_last hN (by omega)))
    isplitl [H]; · iexact H
    iexact Hg

end Cert.Proof
-- ==== Proof.Data.lean ====
module

public import proofs.«01_k».proof.Proof.BodyAt
public import Idealize.ShloMosaic.Lib.Pipeline.ArrRel
public import Idealize.ShloMosaic.Lib.Pipeline.ValueKit.Point

/-!
The blocks the windows read, what every window's buffer may hold after a point, and the kernel body's obligation.
-/

@[expose] public section
set_option maxRecDepth 16384
noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Idealize.ShloMosaic.Pointwise

variable {F : FTy → Type} [FloatOps F]

local notation "𝕄" => MT nD τ sig Unit (Elt F) ℕ (UR sig nD τ) ℕ

variable (m : (ℓ : Loc nD τ sig) → Buf (Elt F) ℓ)

/-- The probabilities, as the region finds them, -/
def probs (c : Dev nD) : Vec F S8x512x4 .f32 := V m c main_v0

/-- the states, -/
def states (c : Dev nD) : Vec F S8x1x2048 .f32 := V m c main_v1

/-- the hidden states of batch `n`, -/
def hiddens (c : Dev nD) (n : ℕ) : Vec F S1x512x2048 .f32 := fun y =>
  V m c main_arg0 (ix3 (n0 := 8) (n1 := 512) (n2 := 2048) ⟨n % 8, Nat.mod_lt _ (by decide)⟩ (y 1) (y 2))

/-- and the residual rows of a point. -/
def residuals (c : Dev nD) (t : ℕ) : Vec F S1x512x2048 .f32 := fun y =>
  V m c main_arg1 (ix3 (n0 := 8) (n1 := 2048) (n2 := 2048) ⟨t / 4 % 8, Nat.mod_lt _ (by decide)⟩
    ⟨t % 4 * 512 + (y 1).val, by have : (y 1).val < 512 := (y 1).isLt; omega⟩ (y 2))

/-- The block index of each window at a point. -/
theorem idx : ∀ t : Fin cfg0.N, win0_0.index t = ![0, 0, 0] ∧ win0_1.index t = ![0, 0, 0] ∧ win0_2.index t = ![0, 0, 0]
    ∧ win0_3.index t = ![min (t.val / 4 + 1) 7, 0, 0] ∧ win0_4.index t = ![t.val / 4, t.val % 4, 0]
    ∧ win0_5.index t = ![t.val / 4, t.val % 4, 0] ∧ win0_6.index t = ![0, 0, 0] :=
  (by decide +kernel : ∀ t : Fin grid0.N, _)

/-- Window 0 reads the probabilities at every point, -/
theorem block0 (c : Dev nD) (t : Fin cfg0.N) : iblk m c 0 t = probs m c := by
  funext y
  have := idx t
  blk_ext [iblk, V, idx t, probs]

/-- At every point window 1 holds all the start states. -/
theorem block1 (c : Dev nD) (t : Fin cfg0.N) : iblk m c 1 t = states m c := by
  funext y
  blk_ext [iblk, V, idx t, states]

/-- At every point window 2 holds the first batch's inputs. -/
theorem block2 (c : Dev nD) (t : Fin cfg0.N) : iblk m c 2 t = hiddens m c 0 := by
  funext y
  blk_ext [iblk, V, idx t, hiddens]

/-- Before the last batch window 3 holds the inputs of the batch after the one at work. -/
theorem block3 (c : Dev nD) (t : Fin cfg0.N) (ht : t.val < 28) : iblk m c 3 t = hiddens m c (t.val / 4 + 1) := by
  funext y
  blk_ext [iblk, V, idx t, hiddens]

/-- At point `t` window 4 holds the residual rows of the block that the point writes. -/
theorem block4 (c : Dev nD) (t : Fin cfg0.N) : iblk m c 4 t = residuals m c t.val := by
  funext y
  have h32 : t.val < 32 := lt_of_lt_of_eq t.isLt (show cfg0.N = 32 from N_0)
  blk_ext [iblk, V, idx t, residuals]

end Cert.Proof
-- ==== Proof.Run.lean ====
module

public import proofs.«01_k».proof.Proof.Data

/-!
What every window's buffer may hold after a point, the kernel body's obligation, and the run of the whole kernel.
-/

@[expose] public section
set_option maxRecDepth 16384
noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the scratch holds before point `t`. -/
abbrev ScratchAt (c : Dev nD) (t : ℕ) (d : Vec F S2x512x2048 .f32) : Prop :=
  ScanHolds (probs m c) (states m c) (hiddens m c) (live t) d

/-- What the new state's buffer holds before point `t`. -/
abbrev NewStateAt (c : Dev nD) (t : ℕ) (N : Vec F S8x1x2048 .f32) : Prop :=
  LastHolds (probs m c) (states m c) (hiddens m c) (done t) N

/-- What the output block of point `t` is computed from: a scratch that holds the scan of the point's batch. -/
def OutAt (c : Dev nD) (t : ℕ) (X : Vec F S1x512x2048 .f32) : Prop :=
  ∃ d : Vec F S2x512x2048 .f32, ScratchAt m c (t + 1) d ∧ X = outOf d (residuals m c t) (slot_lt t) (rows_le t)

/-- The proof data: the inputs stay, the output block and the new state are as above; the scratch is the body's own. -/
def rdat (c : Dev nD) : RDat τ (Elt F) Unit ℕ (UR sig nD τ) ℕ cfg0 c where
  A w := V m c (Pipeline.arrRef spec0 w)
  after := fun
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun t _ X => OutAt m c t.val X
    | ⟨6, _⟩ => fun t _ X => NewStateAt m c (t.val + 1) X
  Φ t := iprop((∃ d, ⌜ScratchAt m c t.val d⌝ ∗ owns (c : Thread nD τ) (Memref.whole cc0_scratch0) fullShare d) ∗ ∃ r, prngReg c r)
  q w := Pipeline.shareOf spec0 w
  owed _ := 0

/-- The arrays are what the region finds. -/
theorem rdat_A (c : Dev nD) (w : Fin cfg0.W) : (rdat m c).A w = V m c (Pipeline.arrRef spec0 w) := by
  dsimp only [rdat]

/-- The invariant names the scratch. -/
theorem rdat_Φ (c : Dev nD) (t : Fin (cfg0.N + 1)) : (rdat m c).Φ t
    = iprop((∃ d, ⌜ScratchAt m c t.val d⌝ ∗ owns (c : Thread nD τ) (Memref.whole cc0_scratch0) fullShare d) ∗ ∃ r, prngReg c r) := by
  dsimp only [rdat]

/-- An input buffer holds its block whenever the body is called. -/
theorem finds0 (c : Dev nD) (t : Fin cfg0.N) (Y) (h : (rdat m c).Finds 0 t Y) : Y = probs m c := by
  obtain ⟨d, rfl⟩ := RDat.finds_in_eq_fetched (rdat m c) 0 rfl (fun _ _ _ => rfl) (fun _ _ _ h => by dsimp only [rdat] at h; exact h) t Y h
  rw [← block0 m c t]; unfold RDat.fetched RDat.blockOf iblk; rw [rdat_A]; try rfl

/-- The body finds all the start states in window 1. -/
theorem finds1 (c : Dev nD) (t : Fin cfg0.N) (Y) (h : (rdat m c).Finds 1 t Y) : Y = states m c := by
  obtain ⟨d, rfl⟩ := RDat.finds_in_eq_fetched (rdat m c) 1 rfl (fun _ _ _ => rfl) (fun _ _ _ h => by dsimp only [rdat] at h; exact h) t Y h
  rw [← block1 m c t]; unfold RDat.fetched RDat.blockOf iblk; rw [rdat_A]; try rfl

/-- The body finds the first batch's inputs in window 2. -/
theorem finds2 (c : Dev nD) (t : Fin cfg0.N) (Y) (h : (rdat m c).Finds 2 t Y) : Y = hiddens m c 0 := by
  obtain ⟨d, rfl⟩ := RDat.finds_in_eq_fetched (rdat m c) 2 rfl (fun _ _ _ => rfl) (fun _ _ _ h => by dsimp only [rdat] at h; exact h) t Y h
  rw [← block2 m c t]; unfold RDat.fetched RDat.blockOf iblk; rw [rdat_A]; try rfl

/-- Before the last batch the body finds the inputs of the next batch in window 3. -/
theorem finds3 (c : Dev nD) (t : Fin cfg0.N) (Y) (h : (rdat m c).Finds 3 t Y) (ht : t.val < 28) : Y = hiddens m c (t.val / 4 + 1) := by
  obtain ⟨d, rfl⟩ := RDat.finds_in_eq_fetched (rdat m c) 3 rfl (fun _ _ _ => rfl) (fun _ _ _ h => by dsimp only [rdat] at h; exact h) t Y h
  rw [← block3 m c t ht]; unfold RDat.fetched RDat.blockOf iblk; rw [rdat_A]; try rfl

/-- The body finds the residual rows of its own block in window 4. -/
theorem finds4 (c : Dev nD) (t : Fin cfg0.N) (Y) (h : (rdat m c).Finds 4 t Y) : Y = residuals m c t.val := by
  obtain ⟨d, rfl⟩ := RDat.finds_in_eq_fetched (rdat m c) 4 rfl (fun _ _ _ => rfl) (fun _ _ _ h => by dsimp only [rdat] at h; exact h) t Y h
  rw [← block4 m c t]; unfold RDat.fetched RDat.blockOf iblk; rw [rdat_A]; try rfl

/-- The new state's buffer holds what the points before left there. -/
theorem finds6 (c : Dev nD) (t : Fin cfg0.N) (Y) (h : (rdat m c).Finds 6 t Y) : NewStateAt m c t.val Y := by
  have h32 : t.val < 32 := lt_of_lt_of_eq t.isLt (show cfg0.N = 32 from N_0)
  by_cases h0 : t.val = 0
  · rw [h0]; exact lastHolds_zero Y
  · rcases ((rdat m c).finds_of_pos ((cfg0.win 6).fetch_out rfl t) h0 Y).mp h with hf | ⟨Y', -, hA⟩
    · have := (flush0_6 _).mp hf
      simp only at this
      omega
    · dsimp only [rdat] at hA
      rwa [show t.val - 1 + 1 = t.val by omega] at hA

/-- The body table's row is the body. -/
theorem defs₀_row (t : Fin cfg0.N) : defs₀ (F := F) .tc cfg0.body (cfg0.bodyArgs t (cfg0.slots t)) = bodyAt0 t := by
  unfold defs₀; rw [Defs.onTc_tc]

/-- The core owes the same throughout. -/
theorem owes_same (c : Dev nD) (t : Fin cfg0.N) : (rdat m c).owesAt () t.castSucc = (rdat m c).owesAt () t.succ := rfl

set_option maxHeartbeats 1600000 in
/-- At every point the body leaves what the proof data say. -/
theorem body_obligation (c : Dev nD) : (rdat m c).BodyObligation (defs₀ (F := F)) Variants.none () Set.univ := fun t Y hY => by
  rw [bigSep_W0, bigSep_W0, defs₀_row, owes_same, rdat_Φ, rdat_Φ, finds0 m c t _ (hY 0), finds1 m c t _ (hY 1), finds2 m c t _ (hY 2),
    finds4 m c t _ (hY 4)]
  have e₁ := finds3 m c t _ (hY 3)
  have hN := finds6 m c t _ (hY 6)
  iintro ⟨⟨⟨%d, %hd, HS⟩, Hg⟩, Ho, H0, H1, H2, H3, H4, H5, H6⟩
  iapply (body_at c t (hiddens m c) (probs m c) (states m c) (Y 3) (residuals m c t.val) (Y 5) (Y 6) d hd hN e₁
    iprop((∃ r, prngReg c r) ∗ (rdat m c).owesAt () t.succ) _ (fun N' d' hd' hN' => ?_))
  · unfold heldAt held
    iintro ⟨⟨H0, H1, H2, H3, H4, H5, H6, HS⟩, Hg, Ho⟩
    isplitl [HS Hg]
    · isplitl [HS]
      · iexists d'; isplitr [HS]; · ipureintro; exact hd'
        iexact HS
      iexact Hg
    isplitl [Ho]; · iexact Ho
    isplitl [H0]; · iexists _; isplitr [H0]; · ipureintro; exact rfl
                    iexact H0
    isplitl [H1]; · iexists _; isplitr [H1]; · ipureintro; exact rfl
                    iexact H1
    isplitl [H2]; · iexists _; isplitr [H2]; · ipureintro; exact rfl
                    iexact H2
    isplitl [H3]; · iexists _; isplitr [H3]; · ipureintro; exact rfl
                    iexact H3
    isplitl [H4]; · iexists _; isplitr [H4]; · ipureintro; exact rfl
                    iexact H4
    isplitl [H5]; · iexists _; isplitr [H5]; · ipureintro; exact ⟨d', hd', rfl⟩
                    iexact H5
    iexists N'; isplitr [H6]; · ipureintro; exact hN'
    iexact H6
  · isplitl [H0 H1 H2 H3 H4 H5 H6 HS]
    · unfold heldAt held
      isplitl [H0]; · iexact H0
      isplitl [H1]; · iexact H1
      isplitl [H2]; · iexact H2
      isplitl [H3]; · iexact H3
      isplitl [H4]; · iexact H4
      isplitl [H5]; · iexact H5
      isplitl [H6]; · iexact H6
      iexact HS
    isplitl [Hg]; · iexact Hg
    iexact Ho

/-- The region starts with the scratch at any contents, -/
theorem entry (c : Dev nD) : Pipeline.ΦA (U := UR sig nD τ) (Val := Elt F) spec0 c ⊢ (rdat m c).Φ 0 := by
  rw [rdat_Φ]; unfold Pipeline.ΦA; rw [scopedRest0_eq]
  iintro ⟨⟨%f, H⟩, Hg⟩
  isplitl [H]
  · iexists f; isplitr [H]; · ipureintro; exact scanHolds_zero f
    rw [owns_whole]; iexact H
  iexact Hg

/-- and gives it back. -/
theorem leave (c : Dev nD) : (rdat m c).Φ (Fin.last cfg0.N) ⊢ Pipeline.ΦA (U := UR sig nD τ) (Val := Elt F) spec0 c := by
  rw [rdat_Φ]; unfold Pipeline.ΦA; rw [scopedRest0_eq]; simp only [owns_whole]
  iintro ⟨⟨%d, -, H⟩, Hg⟩
  isplitl [H]
  · iexists d; iexact H
  iexact Hg

set_option backward.isDefEq.respectTransparency.types false in
set_option maxHeartbeats 1600000 in
/-- The run of the kernel: every weakly fair execution terminates, the arrays hold what the proof data say, and the counters are zero. -/
theorem run_main : θ_run defs (onTc (τ := τ) (main (F := F))) ⟨m, fun _ => 0, ρ⟩
    (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (hbody := body_obligation m) (hq := fun _ _ _ => rfl) (howed := fun _ _ => rfl) (V := V m)
    (hmain := hmain m Variants.none) (hA := rdat_A m) (hin := entry m) (hout := leave m)

end Cert.Proof
-- ==== Proof.Same.lean ====
module

public import proofs.«01_k».proof.Defs
public import proofs.«01_k».proof.Proof.Gen.Kernel
public import proofs.«01_k».proof.Proof.Gen.KernelIdeal

/-!
The kernel and its idealized form are one program over any float operations; here at the machine words.
-/

@[expose] public section
noncomputable section
namespace Cert.Proof
open Idealize.ShloMosaic Idealize.SL.Sem
set_option maxRecDepth 16384
set_option maxHeartbeats 4000000

/-- The kernel function's table at the machine words is the one of the idealized program: no operation was rewritten. -/
theorem defs₀_same : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- So is the table with the pipeline's functions. -/
theorem defs_same : @Cert.Kernel.defs Bits _ Cert.Kernel.Gen.facts = @Cert.KernelIdeal.defs Bits _ Cert.KernelIdeal.Gen.facts := by
  unfold Cert.Kernel.defs Cert.KernelIdeal.defs
  exact congrArg (Pipeline.defs _) defs₀_same

/-- The two programs' main functions are one. -/
theorem main_same : Cert.Kernel.main (F := Bits) = Cert.KernelIdeal.main (F := Bits) := rfl

end Cert.Proof
end
-- ==== Proof.Frames.lean ====
module

public import proofs.«01_k».proof.Proof.Run
public import proofs.«01_k».proof.Proof.Same
public import proofs.«01_k».proof.Pre_regular_chunks

/-!
The kernel's frame: it runs to its end, leaves its arguments as they were and leaves every semaphore at zero. Also the
side conditions of the precondition's own operations.
-/

@[expose] public section
set_option maxRecDepth 16384
noncomputable section

namespace Cert.Proof

open Cert.KernelIdeal Cert.KernelIdeal.Gen
open Idealize.ShloMosaic Idealize.ShloMosaic.TcCoe
open Idealize.SL Idealize.SL.Sem

/-- The shape relations the precondition's operations take. -/
theorem chunksFacts : Cert.Pre_regular_chunks.Facts where
  bcast_S_S2048 := by decide
  bcast_S2048_S1x2048_1 := by decide
  bcast_S1x2048_S8x2048_0_1 := by decide
  bcast_S_S8 := by decide
  bcast_S_S8x2048 := by decide

section Kernel

variable {F : FTy → Type} [FloatOps F]
variable (m : (ℓ : Loc nD τ sig) → Buf (Elt F) ℓ) (ρ : Dev nD → PrngReg)

/-- The kernel program's six arguments hold on core `c` what they held at the start. -/
def ArgsKept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

/-- A final state of the pipeline's run keeps the arguments: two are read by windows, the other four by nobody. -/
theorem args_kept {r : PUnit × MemSt nD τ sig (Elt F)} (h : Pipeline.RDat.FramePost (cfgs 0) (rdat m) (V m) r) (c : Dev nD) :
    ArgsKept m r c :=
  ⟨(Pipeline.RDat.FramePost.arr_in h c 3 rfl).trans (V_main_arg0 m c),
    (Pipeline.RDat.FramePost.arr_in h c 4 rfl).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The kernel's frame over any float carrier. -/
theorem kernel_frame : θ_run defs (onTc (τ := τ) (main (F := F))) ⟨m, fun _ => 0, ρ⟩
    (fun r => (∀ c, ArgsKept m r c) ∧ r.2.sem = fun _ => 0) :=
  (θ_run defs _ _).mono (fun _ h => ⟨args_kept m h.1, h.2⟩) (run_main m ρ)

end Kernel

/-- The frame of the kernel at the machine's words. -/
theorem kernel_frame_bits (m : (ℓ : Loc Cert.Kernel.nD Cert.Kernel.τ Cert.Kernel.sig) → Buf (Elt Bits) ℓ)
    (ρ : Dev Cert.Kernel.nD → PrngReg) :
    θ_run (@Cert.Kernel.defs Bits _ Cert.Kernel.Gen.facts) (onTc (τ := Cert.Kernel.τ) (Cert.Kernel.main (F := Bits))) ⟨m, fun _ => 0, ρ⟩
      (fun r => (∀ c, ArgsKept (F := Bits) m r c) ∧ r.2.sem = fun _ => 0) := by
  rw [defs_same, main_same]
  exact kernel_frame (F := Bits) m ρ

end Cert.Proof
end
-- ==== Proof.Chunks.lean ====
module

public import proofs.«01_k».proof.Proof.Gen.ReferenceIdeal.Step
public import proofs.«01_k».proof.Proof.Frames
public import Idealize.ShloMosaic.Lib.Routing.Ops
public import Idealize.ShloMosaic.Lib.IdealHost
public import Idealize.ShloMosaic.Lib.StableHlo.Predicate

/-!
What the precondition says of the arguments, element by element, and the chunk in which a position lies.
-/

@[expose] public section
set_option maxRecDepth 16384
noncomputable section

namespace Cert.Proof.Ref

open Cert.ReferenceIdeal Cert.ReferenceIdeal.Gen
open Idealize.ShloMosaic hiding ix2 ix3
open Idealize.ShloMosaic.ValueIdx

/-- Every fourth token is selected, every batch has 512 chunks, and the probabilities are finite. -/
structure Regular (mask : IVec S8x2048 1) (p : FVec Ideal S8x2048 .f32) (counts : IVec S8 32) : Prop where
  mask : ∀ b l, mask (ix2 b l) = if l.val % 4 = 0 then 1#1 else 0#1
  counts : ∀ b, counts b = 512#32
  finite : ∀ b l, (⊥ : EReal) < p (ix2 b l) ∧ p (ix2 b l) < (⊤ : EReal)

/-- A position's two low bits are zero when it is a multiple of four. -/
theorem low_bits : ∀ l : Fin 2048, IntOp.cmpi .eq (IntOp.andi (BitVec.ofNat 32 l.val) 3#32) 0#32 = if l.val % 4 = 0 then 1#1 else 0#1 := by
  decide +kernel

/-- A conjunction of two bits that is set has both set. -/
theorem both_set : ∀ a b : BitVec 1, IntOp.andi a b = 1#1 → a = 1#1 ∧ b = 1#1 := by decide

/-- The pattern of minus infinity, -/
theorem ofBits_bot : Ideal.ofBits .f32 0xFF800000#32 = (⊥ : EReal) := by simp [Ideal.ofBits, Ideal.ieee]

/-- and of infinity. -/
theorem ofBits_top : Ideal.ofBits .f32 0x7F800000#32 = (⊤ : EReal) := by simp [Ideal.ofBits, Ideal.ieee]

/-- The precondition, read at every element. -/
theorem regular_of_pre (x : FVec Ideal S8x512x2048 .f32) (R : FVec Ideal S8x2048x2048 .f32) (mask : IVec S8x2048 1)
    (p : FVec Ideal S8x2048 .f32) (counts : IVec S8 32) (st : FVec Ideal S8x2048 .f32)
    (h : (@Cert.Pre_regular_chunks.fn chunksFacts Ideal _ x R mask p counts st).1 = (fun _ => 1#1)
      ∧ (@Cert.Pre_regular_chunks.fn chunksFacts Ideal _ x R mask p counts st).2.1 = (fun _ => 1#1)
      ∧ (@Cert.Pre_regular_chunks.fn chunksFacts Ideal _ x R mask p counts st).2.2 = (fun _ => 1#1)) :
    Regular mask p counts := by
  obtain ⟨h1, h2, h3⟩ := h
  refine ⟨fun b l => ?_, fun b => ?_, fun b l => ?_⟩
  · have e : IntOp.cmpi .eq (mask (ix2 b l)) (IntOp.cmpi .eq (IntOp.andi (BitVec.ofNat 32 l.val) 3#32) 0#32) = 1#1 :=
      congrFun h1 (ix2 b l)
    rw [StableHlo.Predicate.cmpi_eq_iff.mp e, low_bits]
  · have e : IntOp.cmpi .eq (counts b) 512#32 = 1#1 := congrFun h2 b
    exact StableHlo.Predicate.cmpi_eq_iff.mp e
  · have e : IntOp.andi (Ideal.cmp .ogt (p (ix2 b l)) (Ideal.ofBits .f32 0xFF800000#32))
        (Ideal.cmp .olt (p (ix2 b l)) (Ideal.ofBits .f32 0x7F800000#32)) = 1#1 := congrFun h3 (ix2 b l)
    rw [ofBits_bot, ofBits_top] at e
    obtain ⟨e1, e2⟩ := both_set _ _ e
    simp only [Ideal.cmp, StableHlo.Predicate.ofBool_eq_one_iff, decide_eq_true_eq] at e1 e2
    exact ⟨e1, e2⟩

/-- A running sum along the second axis: where row `b` holds the words of `f`, the result holds the words of `f`'s partial sums. -/
theorem runningSum (x : IVec S8x2048 32) (f : ℕ → ℕ) (b : Fin 8) (hx : ∀ i : Fin 2048, x (ix2 b i) = BitVec.ofNat 32 (f i.val))
    (init : IVec S_ 32) (hinit : ∀ i, init i = 0#32)
    (h : S8x2048.ReduceWindows (![1, 2048] : Fin 2 → Nat) ![1, 1] ![0, 2047] ![0, 0] S8x2048) (hu : 0 < S_.numel) (j : Fin 2048) :
    Host.reduceWindow IntOp.addi ![1, 2048] ![1, 1] ![0, 2047] ![0, 0] x init h hu (ix2 b j)
      = BitVec.ofNat 32 ((List.range (j.val + 1)).map f).sum := by
  unfold Host.reduceWindow
  refine (Routing.foldl_addi_ofNat _ _ (fun n => if 2047 ≤ j.val + n.val then f (j.val + n.val - 2047) else 0) (fun n _ => ?_) _ 0
    (hinit _)).trans ?_
  · have e0 : ((Routing.shape2 1 2048).rowMajor.symm n 0).val = 0 := by rw [Routing.symm2]; rfl
    have e1 : ((Routing.shape2 1 2048).rowMajor.symm n 1).val = n.val := by rw [Routing.symm2]; rfl
    have hn : n.val < 2048 := (n.cast (Routing.numel2 2048)).isLt
    by_cases hle : 2047 ≤ j.val + n.val
    · have hin : ∀ a : Fin 2, (![0, 2047] : Fin 2 → ℕ) a ≤ ((ix2 b j) a).val * (![1, 1] : Fin 2 → ℕ) a + ((Routing.shape2 1 2048).rowMajor.symm n a).val
          ∧ ((ix2 b j) a).val * (![1, 1] : Fin 2 → ℕ) a + ((Routing.shape2 1 2048).rowMajor.symm n a).val - (![0, 2047] : Fin 2 → ℕ) a < S8x2048.size a := by
        intro a
        match a with
        | ⟨0, _⟩ =>
          show 0 ≤ b.val * 1 + ((Routing.shape2 1 2048).rowMajor.symm n 0).val ∧ b.val * 1 + ((Routing.shape2 1 2048).rowMajor.symm n 0).val - 0 < 8
          omega
        | ⟨1, _⟩ =>
          show 2047 ≤ j.val * 1 + ((Routing.shape2 1 2048).rowMajor.symm n 1).val
            ∧ j.val * 1 + ((Routing.shape2 1 2048).rowMajor.symm n 1).val - 2047 < 2048
          omega
      refine (dif_pos hin).trans ?_
      rw [if_pos hle]
      refine (congrArg x (funext fun a => Fin.ext ?_)).trans (hx ⟨j.val + n.val - 2047, by omega⟩)
      match a with
      | ⟨0, _⟩ =>
        show b.val * 1 + ((Routing.shape2 1 2048).rowMajor.symm n 0).val - 0 = b.val
        omega
      | ⟨1, _⟩ =>
        show j.val * 1 + ((Routing.shape2 1 2048).rowMajor.symm n 1).val - 2047 = j.val + n.val - 2047
        omega
    · rw [if_neg hle]
      refine (dif_neg fun hin => hle ?_).trans (hinit _)
      have h1 : 2047 ≤ j.val * 1 + ((Routing.shape2 1 2048).rowMajor.symm n 1).val := (hin 1).1
      omega
  · rw [Nat.zero_add, Routing.map_finRange_val _ (fun w => if 2047 ≤ j.val + w then f (j.val + w - 2047) else 0), Routing.numel2]
    exact congrArg (BitVec.ofNat 32) (Routing.sum_window f 2047 j.val (by omega))

/-- The multiples of four up to `n`. -/
theorem sum_fourths (n : ℕ) : ((List.range (n + 1)).map fun i => if i % 4 = 0 then 1 else 0).sum = n / 4 + 1 := by
  induction n with
  | zero => rfl
  | succ n ih =>
    rw [List.range_succ, List.map_append, List.sum_append, ih]
    simp only [List.map_cons, List.map_nil, List.sum_cons, List.sum_nil]
    split <;> omega

/-- The chunk of every position, as the word the reference computes. -/
theorem chunk_word {mask : IVec S8x2048 1} {p : FVec Ideal S8x2048 .f32} {counts : IVec S8 32} (H : Regular mask p counts)
    (init : IVec S_ 32) (hinit : ∀ i, init i = 0#32)
    (h : S8x2048.ReduceWindows (![1, 2048] : Fin 2 → Nat) ![1, 1] ![0, 2047] ![0, 0] S8x2048) (hu : 0 < S_.numel)
    (one : IVec S8x2048 32) (hone : ∀ i, one i = 1#32) (b : Fin 8) (l : Fin 2048) :
    subi (Host.reduceWindow IntOp.addi ![1, 2048] ![1, 1] ![0, 2047] ![0, 0] (extui 32 mask natLt_1_32) init h hu) one (ix2 b l)
      = BitVec.ofNat 32 (l.val / 4) := by
  have e := runningSum (extui 32 mask natLt_1_32) (fun i => if i % 4 = 0 then 1 else 0) b (fun i => by
    show (mask (ix2 b i)).setWidth 32 = _
    rw [H.mask]
    split <;> rfl) init hinit h hu l
  show IntOp.subi (Host.reduceWindow IntOp.addi _ _ _ _ _ init h hu (ix2 b l)) (one (ix2 b l)) = _
  rw [e, hone, sum_fourths]
  exact StableHlo.Predicate.sub_one_ofNat _ (by omega) (by omega)

end Cert.Proof.Ref
end
-- ==== Proof.ScanMath.lean ====
module

public import Idealize.ShloMosaic.PureOps.Ideal

/-!
The exponential moving average as mathematics: a recurrence over the rows, the same recurrence cut to the last `w` rows, and
how two cuts make a longer one. Nothing here is about programs.
-/

@[expose] public section
noncomputable section

namespace Cert.Proof

/-- The moving average: row `n` is the decayed row before it, or the decayed state, plus the rest of the row's own value. -/
def ema (a x : ℕ → EReal) (s : EReal) : ℕ → EReal
  | 0 => a 0 * s + (1 - a 0) * x 0
  | n + 1 => a (n + 1) * ema a x s n + (1 - a (n + 1)) * x (n + 1)

/-- The decay collected over the last `w` rows up to row `m`. -/
def decayOver (a : ℕ → EReal) : ℕ → ℕ → EReal
  | 0, _ => 1
  | _ + 1, 0 => a 0
  | w + 1, m + 1 => a (m + 1) * decayOver a w m

/-- The drive collected over the last `w` rows up to row `m`. -/
def driveOver (a b : ℕ → EReal) : ℕ → ℕ → EReal
  | 0, _ => 0
  | _ + 1, 0 => b 0
  | w + 1, m + 1 => a (m + 1) * driveOver a b w m + b (m + 1)

/-- Over one row the decay is the row's. -/
theorem decayOver_one (a : ℕ → EReal) (m : ℕ) : decayOver a 1 m = a m := by
  cases m <;> simp [decayOver]

/-- Over one row the drive is the row's. -/
theorem driveOver_one (a b : ℕ → EReal) (m : ℕ) : driveOver a b 1 m = b m := by
  cases m <;> simp [driveOver]

/-- The decay over `w + v` rows is that over the last `w`, times that over the `v` before them. -/
theorem decayOver_add (a : ℕ → EReal) (w v m : ℕ) :
    decayOver a (w + v) m = decayOver a w m * (if w ≤ m then decayOver a v (m - w) else 1) := by
  induction w generalizing m with
  | zero => simp [decayOver]
  | succ w ih =>
    rw [Nat.add_right_comm]
    cases m with
    | zero => simp [decayOver]
    | succ m => simp [decayOver, ih, mul_assoc]

/-- The drive over `w + v` rows is that over the last `w`, plus the decayed drive over the `v` before them. The decays are
real and not negative, so multiplying by them distributes. -/
theorem driveOver_add (a b : ℕ → EReal) (h0 : ∀ m, 0 ≤ a m) (h1 : ∀ m, a m ≠ ⊤) (w v m : ℕ) :
    driveOver a b (w + v) m = decayOver a w m * (if w ≤ m then driveOver a b v (m - w) else 0) + driveOver a b w m := by
  induction w generalizing m with
  | zero => simp [decayOver, driveOver]
  | succ w ih =>
    rw [Nat.add_right_comm]
    cases m with
    | zero => simp [decayOver, driveOver]
    | succ m =>
      simp only [decayOver, driveOver, ih, Nat.add_le_add_iff_right, Nat.add_sub_add_right]
      rw [EReal.left_distrib_of_nonneg_of_ne_top (h0 _) (h1 _), mul_assoc, add_assoc]

/-- A cut at least as long as the rows before it is the whole recurrence: with the state folded into the first row's drive and
nothing folded into the others', it is the moving average. -/
theorem driveOver_eq_ema (a b x : ℕ → EReal) (s : EReal) (hb0 : b 0 = (1 - a 0) * x 0 + a 0 * s)
    (hb : ∀ n, b (n + 1) = (1 - a (n + 1)) * x (n + 1)) (w m : ℕ) (h : m < w) : driveOver a b w m = ema a x s m := by
  induction m generalizing w with
  | zero =>
    obtain ⟨w, rfl⟩ : ∃ v, w = v + 1 := ⟨w - 1, by omega⟩
    simp [driveOver, ema, hb0, add_comm]
  | succ m ih =>
    obtain ⟨w, rfl⟩ : ∃ v, w = v + 1 := ⟨w - 1, by omega⟩
    simp [driveOver, ema, hb, ih w (by omega)]

/-- One minus a probability, kept between zero and one. -/
def clip01 (p : EReal) : EReal := min 1 (max 0 (1 - p))

/-- A kept decay is not negative. -/
theorem clip01_nonneg (p : EReal) : 0 ≤ clip01 p := le_min zero_le_one (le_max_left _ _)

/-- A kept decay is not infinite. -/
theorem clip01_ne_top (p : EReal) : clip01 p ≠ ⊤ :=
  ne_of_lt (lt_of_le_of_lt (min_le_left _ _) (EReal.coe_lt_top 1))

end Cert.Proof
end
-- ==== Proof.ScanValue.lean ====
module

public import proofs.«01_k».proof.Proof.Pieces
public import proofs.«01_k».proof.Proof.ScanMath
public import Idealize.ShloMosaic.Lib.ValueLayout
public import Idealize.ShloMosaic.Lib.Pointwise
public import Idealize.ShloMosaic.Lib.IdealHost

/-!
What the kernel's scan of one column piece holds over the extended reals: at every row and column the moving average.
-/

@[expose] public section
set_option maxRecDepth 16384
noncomputable section

namespace Cert.Proof

open Cert.KernelIdeal Cert.KernelIdeal.Gen
open Idealize.ShloMosaic hiding ix2 ix3
open Idealize.ShloMosaic.Tactic Idealize.ShloMosaic.ValueIdx

/-- An array moved down reads the row `d` above, or the filler in the top `d` rows. -/
theorem moveDown_apply (d n : ℕ) (hd : d ≤ 512) (v : Ideal .f32) (x : FVec Ideal ⟨2, ![512, n]⟩ .f32) (i : Fin 512) (j : Fin n) :
    moveDown d n hd v x (ix2 i j) = if h : d ≤ i.val then x (ix2 ⟨i.val - d, by omega⟩ j) else v := by
  unfold moveDown
  by_cases h : d ≤ i.val
  · rw [dif_pos h]
    refine (concatenate_pair_apply_right 0 _ _ (concatenates_rows d n hd) (ix2 i j) rfl rfl
      (ix2 ⟨i.val - d, by omega⟩ j) ?_ ?_).trans ?_
    · intro b hb
      match b with
      | ⟨0, _⟩ => exact absurd rfl hb
      | ⟨1, _⟩ => rfl
    · exact Nat.sub_add_cancel h
    · exact slice2_axis0_apply 0 x _ _ _ _ (Nat.zero_add _).symm
  · rw [dif_neg h]
    refine concatenate_pair_apply_left 0 _ _ (concatenates_rows d n hd) (ix2 i j) rfl
      (ix2 ⟨i.val, by omega⟩ j) ?_
    intro b
    match b with
    | ⟨0, _⟩ => rfl
    | ⟨1, _⟩ => rfl

/-- A column broadcast over the columns reads its row's one entry. -/
theorem column_apply (a : FVec Ideal S512x1 .f32) (i j : Fin 512) :
    broadcastTo S512x512 a broadcasts_S512x1_S512x512 (ix2 i j) = a (ix2 i 0) := by
  refine broadcastTo_apply a _ (ix2 i j) (ix2 i 0) fun ax => ?_
  match ax with
  | ⟨0, _⟩ => rfl
  | ⟨1, _⟩ => rfl

/-- A doubling of the decays over `d` rows gives those over `2 d`. -/
theorem doubleDecay_apply {α : ℕ → EReal} {d : ℕ} (hd : d ≤ 512) {a : FVec Ideal S512x1 .f32}
    (ha : ∀ i : Fin 512, a (ix2 i 0) = decayOver α d i.val) (i : Fin 512) :
    doubleDecay d hd a (ix2 i 0) = decayOver α (d + d) i.val := by
  rw [decayOver_add]
  show a (ix2 i 0) * moveDown d 1 hd (Ideal.ofBits .f32 0x3F800000#32) a (ix2 i 0) = _
  rw [moveDown_apply, ha, Ideal.ofBits_one_f32]
  by_cases h : d ≤ i.val
  · rw [dif_pos h, if_pos h, ha]
  · rw [dif_neg h, if_neg h]

/-- A doubling of the drives over `d` rows gives those over `2 d`. -/
theorem doubleDrive_apply {α β : ℕ → EReal} (h0 : ∀ m, 0 ≤ α m) (h1 : ∀ m, α m ≠ ⊤) {d : ℕ} (hd : d ≤ 512)
    {a : FVec Ideal S512x1 .f32} {b : FVec Ideal S512x512 .f32} {j : Fin 512}
    (ha : ∀ i : Fin 512, a (ix2 i 0) = decayOver α d i.val) (hb : ∀ i : Fin 512, b (ix2 i j) = driveOver α β d i.val) (i : Fin 512) :
    doubleDrive d hd a b (ix2 i j) = driveOver α β (d + d) i.val := by
  rw [driveOver_add α β h0 h1]
  show broadcastTo S512x512 a broadcasts_S512x1_S512x512 (ix2 i j) * moveDown d 512 hd (Ideal.ofBits .f32 0x00000000#32) b (ix2 i j)
    + b (ix2 i j) = _
  rw [column_apply, moveDown_apply, ha, hb, Ideal.ofBits_zero_f32]
  by_cases h : d ≤ i.val
  · rw [dif_pos h, if_pos h, hb]
  · rw [dif_neg h, if_neg h]

/-- The nine doublings give the drive over all 512 rows. -/
theorem doublings_apply {α β : ℕ → EReal} (h0 : ∀ m, 0 ≤ α m) (h1 : ∀ m, α m ≠ ⊤)
    {a : FVec Ideal S512x1 .f32} {b : FVec Ideal S512x512 .f32} {j : Fin 512}
    (ha : ∀ i : Fin 512, a (ix2 i 0) = α i.val) (hb : ∀ i : Fin 512, b (ix2 i j) = β i.val) (i : Fin 512) :
    doublings a b (ix2 i j) = driveOver α β 512 i.val := by
  have a0 : ∀ i : Fin 512, a (ix2 i 0) = decayOver α 1 i.val := fun i => (ha i).trans (decayOver_one α _).symm
  have b0 : ∀ i : Fin 512, b (ix2 i j) = driveOver α β 1 i.val := fun i => (hb i).trans (driveOver_one α β _).symm
  have b1 := doubleDrive_apply h0 h1 (by decide) a0 b0
  have a1 := doubleDecay_apply (by decide) a0
  have b2 := doubleDrive_apply h0 h1 (by decide) a1 b1
  have a2 := doubleDecay_apply (by decide) a1
  have b3 := doubleDrive_apply h0 h1 (by decide) a2 b2
  have a3 := doubleDecay_apply (by decide) a2
  have b4 := doubleDrive_apply h0 h1 (by decide) a3 b3
  have a4 := doubleDecay_apply (by decide) a3
  have b5 := doubleDrive_apply h0 h1 (by decide) a4 b4
  have a5 := doubleDecay_apply (by decide) a4
  have b6 := doubleDrive_apply h0 h1 (by decide) a5 b5
  have a6 := doubleDecay_apply (by decide) a5
  have b7 := doubleDrive_apply h0 h1 (by decide) a6 b6
  have a7 := doubleDecay_apply (by decide) a6
  have b8 := doubleDrive_apply h0 h1 (by decide) a7 b7
  have a8 := doubleDecay_apply (by decide) a7
  exact doubleDrive_apply h0 h1 (by decide) a8 b8 i

/-- The decay of a row is its first probability's. -/
theorem decayColumn_apply (p : FVec Ideal S512x4 .f32) (i : Fin 512) : decayColumn p (ix2 i 0) = clip01 (p (ix2 i 0)) := by
  show min (Ideal.ofBits .f32 0x3F800000#32) (max (Ideal.ofBits .f32 0x00000000#32) (Ideal.ofBits .f32 0x3F800000#32
    - extractStridedSlice S512x1 ![0, 0] p slices_S512x4_o0_0_S512x1 (ix2 i 0))) = _
  rw [Ideal.ofBits_one_f32, Ideal.ofBits_zero_f32, slice2_axis1_apply 0 p _ i 0 0 rfl]
  rfl

/-- The first row's decay, and zero below. -/
theorem firstDecay_apply (a : FVec Ideal S512x1 .f32) (i : Fin 512) :
    firstDecay a (ix2 i 0) = if i.val = 0 then a (ix2 i 0) else 0 := by
  have h : ∀ i : Fin 512, (cmpi .eq (iota .tc S512x1 32 [0] iota_S512x1_d0_w32) (broadcast S512x1 0#32) (ix2 i 0) = 1#1) = (i.val = 0) := by
    intro i
    refine propext ?_
    revert i
    decide +kernel
  show (if cmpi .eq (iota .tc S512x1 32 [0] iota_S512x1_d0_w32) (broadcast S512x1 0#32) (ix2 i 0) = 1#1 then a (ix2 i 0)
    else Ideal.ofBits .f32 0x00000000#32) = _
  simp only [h, Ideal.ofBits_zero_f32]

/-- The drive of a row. -/
theorem driveArray_apply (a : FVec Ideal S512x1 .f32) (s : FVec Ideal S1x512 .f32) (x : Vec Ideal S1x512x512 .f32) (i j : Fin 512) :
    driveArray a s x (ix2 i j) = (1 - a (ix2 i 0)) * x (ix3 0 i j) + (if i.val = 0 then a (ix2 i 0) else 0) * s (ix2 0 j) := by
  unfold driveArray
  show broadcastTo S512x512 (subf (broadcast S512x1 (Scalar.ofBits (F := Ideal) .f32 0x3F800000#32)) a) broadcasts_S512x1_S512x512 (ix2 i j)
      * shapeCast S512x512 x shapeCasts_S1x512x512_S512x512 (ix2 i j)
    + broadcastTo S512x512 (firstDecay a) broadcasts_S512x1_S512x512 (ix2 i j)
      * broadcastTo S512x512 s broadcasts_S1x512_S512x512 (ix2 i j) = _
  rw [column_apply, column_apply, firstDecay_apply, broadcastTo_1b_ab_apply, shapeCast_1ab_ab_apply]
  show (Ideal.ofBits .f32 0x3F800000#32 - a (ix2 i 0)) * _ + _ = _
  rw [Ideal.ofBits_one_f32]

/-- The decays of a piece, row by row. -/
def pieceDecay (p : Vec Ideal S1x512x4 .f32) (n : ℕ) : EReal := clip01 (p (ix3 0 (Fin.ofNat 512 n) 0))

/-- A column of a piece's hidden states, row by row. -/
def pieceHidden (x : Vec Ideal S1x512x512 .f32) (j : Fin 512) (n : ℕ) : EReal := x (ix3 0 (Fin.ofNat 512 n) j)

/-- The scan of a piece is the moving average of each of its columns. -/
theorem scanPiece_apply (p : Vec Ideal S1x512x4 .f32) (s : FVec Ideal S1x512 .f32) (x : Vec Ideal S1x512x512 .f32) (i j : Fin 512) :
    scanPiece p s x (ix2 i j) = ema (pieceDecay p) (pieceHidden x j) (s (ix2 0 j)) i.val := by
  have own : ∀ i : Fin 512, Fin.ofNat 512 i.val = i := fun i => Fin.ext (Nat.mod_eq_of_lt i.isLt)
  have ha : ∀ i : Fin 512, decayColumn (F := Ideal) (shapeCast S512x4 p shapeCasts_S1x512x4_S512x4) (ix2 i 0) = pieceDecay p i.val := fun i => by
    rw [decayColumn_apply, shapeCast_1ab_ab_apply]
    unfold pieceDecay
    rw [own]
  refine (doublings_apply (α := pieceDecay p)
    (β := fun n => (1 - pieceDecay p n) * pieceHidden x j n + (if n = 0 then pieceDecay p n else 0) * s (ix2 0 j))
    (fun _ => clip01_nonneg _) (fun _ => clip01_ne_top _) ha (fun i => ?_) i).trans
    (driveOver_eq_ema _ _ _ _ ?_ ?_ 512 i.val i.isLt)
  · rw [driveArray_apply, ha]
    show _ = (1 - pieceDecay p i.val) * x (ix3 0 (Fin.ofNat 512 i.val) j) + _
    rw [own]
  · simp
  · intro n; simp

end Cert.Proof
end
-- ==== Proof.KernelRead.lean ====
module

public import proofs.«01_k».proof.Proof.ScanValue
public import proofs.«01_k».proof.Proof.Run

/-!
What the kernel's two results are, index by index: the moving average of each batch and column, read from what the run
leaves in the two output arrays.
-/

@[expose] public section
set_option maxRecDepth 16384
noncomputable section

namespace Cert.Proof

open Cert.KernelIdeal Cert.KernelIdeal.Gen
open Idealize.ShloMosaic hiding ix2 ix3
open Idealize.ShloMosaic.TcCoe Idealize.ShloMosaic.Tactic Idealize.ShloMosaic.ValueIdx
open Idealize.SL Idealize.SL.Sem
open Idealize.ShloMosaic.Pipeline (RDat)

/-- The moving average of batch `b` and column `d` at row `i`: decays from the probabilities of every fourth position. -/
def emaAt (h : FVec Ideal S8x512x2048 .f32) (p : FVec Ideal S8x2048 .f32) (s : FVec Ideal S8x2048 .f32) (b : Fin 8) (d : Fin 2048) :
    ℕ → EReal :=
  ema (fun n => clip01 (p (ix2 b (Fin.ofNat 2048 (4 * n))))) (fun n => h (ix3 b (Fin.ofNat 512 n) d)) (s (ix2 b d))

/-- The moving average needs its decays and its inputs only up to the row read. -/
theorem ema_congr {a a' x x' : ℕ → EReal} {s s' : EReal} (n : ℕ) (ha : ∀ k ≤ n, a k = a' k) (hx : ∀ k ≤ n, x k = x' k)
    (hs : s = s') : ema a x s n = ema a' x' s' n := by
  subst hs
  induction n with
  | zero => simp [ema, ha 0 (Nat.le_refl 0), hx 0 (Nat.le_refl 0)]
  | succ n ih =>
    simp only [ema]
    rw [ih (fun k hk => ha k (by omega)) (fun k hk => hx k (by omega)), ha _ (Nat.le_refl _), hx _ (Nat.le_refl _)]

variable (m : (ℓ : Loc nD τ sig) → Buf (Elt Ideal) ℓ)

/-- The probabilities the region finds, element by element. -/
theorem probs_apply (c : Dev nD) (b : Fin 8) (k : Fin 512) :
    probs m c (ix3 b k 0) = m ((c : Thread nD τ).loc main_arg3) (ix2 b (Fin.ofNat 2048 (4 * k.val))) := by
  have hV : V m c main_v0 = shapeCast S8x512x4 (m ((c : Thread nD τ).loc main_arg3)) shapeCasts_S8x2048_S8x512x4 := by
    entry_read
    rfl
  unfold probs
  rw [hV]
  refine shapeCast_apply (s := S8x2048) _ _ _ _ ?_
  rw [Shape.rowMajor_val_three, Shape.rowMajor_val_two]
  show b.val * 2048 + 4 * k.val % 2048 = (b.val * 512 + k.val) * 4 + 0
  omega

/-- The states the region finds, element by element. -/
theorem states_apply (c : Dev nD) (b : Fin 8) (d : Fin 2048) :
    states m c (ix3 b 0 d) = m ((c : Thread nD τ).loc main_arg5) (ix2 b d) := by
  have hV : V m c main_v1 = shapeCast S8x1x2048 (m ((c : Thread nD τ).loc main_arg5)) shapeCasts_S8x2048_S8x1x2048 := by
    entry_read
    rfl
  unfold states
  rw [hV]
  refine shapeCast_apply (s := S8x2048) _ _ _ _ ?_
  rw [Shape.rowMajor_val_three, Shape.rowMajor_val_two]
  show b.val * 2048 + d.val = (b.val * 1 + 0) * 2048 + d.val
  omega

/-- The scan of a piece, read from whole arrays. -/
theorem scan_apply (c : Dev nD) {n o : ℕ} (hn : n < 8) (ho : o + 512 ≤ 2048) (i j : Fin 512) :
    scanPiece (probRow (probs m c) hn) (stateCols o (stateCols_slices ho) (stateRow (states m c) hn)) (hiddenCols (hiddens m c n) ho) (ix2 i j)
      = emaAt (m ((c : Thread nD τ).loc main_arg0)) (m ((c : Thread nD τ).loc main_arg3)) (m ((c : Thread nD τ).loc main_arg5))
          ⟨n, hn⟩ ⟨o + j.val, by omega⟩ i.val := by
  rw [scanPiece_apply]
  refine ema_congr _ (fun k hk => ?_) (fun k hk => ?_) ?_
  · show clip01 (probs m c _) = clip01 _
    have e : (Rect.unit (s := S8x512x4) ![n, 0, 0] S1x512x4.size (prob_inb hn)).emb (ix3 0 (Fin.ofNat 512 k) 0)
        = ix3 (⟨n, hn⟩ : Fin 8) (Fin.ofNat 512 k) (0 : Fin 4) := by
      funext a
      apply Fin.ext
      rw [Rect.emb_apply]
      fin_cases a <;> simp [Rect.unit]
    have hk2 : (Fin.ofNat 512 k).val = k := Nat.mod_eq_of_lt (by omega)
    rw [e, probs_apply, hk2]
  · show V m c main_arg0 _ = _
    rw [V_main_arg0]
    congr 1
    funext a
    apply Fin.ext
    fin_cases a
    · exact Nat.mod_eq_of_lt hn
    · show 0 + 1 * (k % 512) = k % 512; omega
    · show o + 1 * j.val = o + j.val; omega
  · have e : stateCols o (stateCols_slices ho) (stateRow (states m c) hn) (ix2 0 j) = states m c (ix3 ⟨n, hn⟩ 0 ⟨o + j.val, by omega⟩) := by
      unfold stateCols
      rw [slice2_axis1_apply o _ _ 0 j ⟨o + j.val, by omega⟩ rfl, shapeCast_1ab_ab_apply]
      unfold stateRow VecWindow.window
      congr 1
      funext a
      apply Fin.ext
      rw [Rect.emb_apply]
      fin_cases a <;> simp [Rect.unit]
    rw [e, states_apply]

/-- The output block at a row: the residual's row, and every fourth of the rows beside it. -/
theorem repeat_apply (v : Vec Ideal S1x128x2048 .f32) (R : Vec Ideal S1x512x2048 .f32) (r : Fin 512) (d : Fin 2048) :
    k0_pay18 v R (ix3 0 r d) = R (ix3 0 r d) + v (ix3 0 ⟨r.val / 4, by omega⟩ d) := by
  unfold k0_pay18
  rw [shapeCast_ab_1ab_apply]
  refine congrArg₂ (· + ·) (shapeCast_1ab_ab_apply R _ r d) ?_
  refine (shapeCast_apply (s := S128x4x2048) (t := S512x2048) _ _ (ix2 r d)
    (ix3 (⟨r.val / 4, by omega⟩ : Fin 128) (⟨r.val % 4, Nat.mod_lt _ (by decide)⟩ : Fin 4) d) ?_).trans ?_
  · rw [Shape.rowMajor_val_three, Shape.rowMajor_val_two]
    show (r.val / 4 * 4 + r.val % 4) * 2048 + d.val = r.val * 2048 + d.val
    omega
  refine (broadcastTo_apply (s := S128x1x2048) (t := S128x4x2048) _ _ _ (ix3 (⟨r.val / 4, by omega⟩ : Fin 128) (0 : Fin 1) d) ?_).trans ?_
  · intro ax
    match ax with
    | ⟨0, _⟩ => rfl
    | ⟨1, _⟩ => rfl
    | ⟨2, _⟩ => rfl
  refine (shapeCast_apply (s := S128x2048) (t := S128x1x2048) _ _ _ (ix2 (⟨r.val / 4, by omega⟩ : Fin 128) d) ?_).trans ?_
  · rw [Shape.rowMajor_val_three, Shape.rowMajor_val_two]
    show r.val / 4 * 2048 + d.val = (r.val / 4 * 1 + 0) * 2048 + d.val
    omega
  exact shapeCast_1ab_ab_apply v _ _ d

/-- A scratch that holds the scan of batch `n`'s pieces holds the moving average. -/
theorem scratch_apply (c : Dev nD) {t n : ℕ} {d : Vec Ideal S2x512x2048 .f32} (hd : ScratchAt m c t d) (hn : n < 8)
    (hK : ∀ q < 4, live t n q) (i : Fin 512) (j : Fin 2048) :
    d (ix3 (⟨n % 2, Nat.mod_lt _ (by decide)⟩ : Fin 2) i j)
      = emaAt (m ((c : Thread nD τ).loc main_arg0)) (m ((c : Thread nD τ).loc main_arg3)) (m ((c : Thread nD τ).loc main_arg5))
          ⟨n, hn⟩ j i.val := by
  have hq : j.val / 512 < 4 := by omega
  have h := congrFun (hd n (j.val / 512) hn hq (hK _ hq)) (ix3 (0 : Fin 1) i (⟨j.val % 512, Nat.mod_lt _ (by decide)⟩ : Fin 512))
  have e : VecWindow.window d ![n % 2, 0, 512 * (j.val / 512)] S1x512x512.size
      (slot_inb (Nat.mod_lt _ Nat.two_pos) (by omega)) (ix3 (0 : Fin 1) i (⟨j.val % 512, Nat.mod_lt _ (by decide)⟩ : Fin 512))
      = d (ix3 (⟨n % 2, Nat.mod_lt _ (by decide)⟩ : Fin 2) i j) := by
    unfold VecWindow.window
    congr 1
    funext a
    apply Fin.ext
    fin_cases a
    · show n % 2 + 1 * 0 = n % 2; omega
    · show 0 + 1 * i.val = i.val; omega
    · show 512 * (j.val / 512) + 1 * (j.val % 512) = j.val; omega
  rw [← e, h]
  unfold scanOf scanStored
  rw [shapeCast_ab_1ab_apply, scan_apply]
  congr 1
  apply Fin.ext
  show 512 * (j.val / 512) + j.val % 512 = j.val
  omega

/-- A new state that holds the last rows of batch `n`'s pieces holds the moving average's last row. -/
theorem newState_apply (c : Dev nD) {t n : ℕ} {N : Vec Ideal S8x1x2048 .f32} (hN : NewStateAt m c t N) (hn : n < 8)
    (hK : ∀ q < 4, done t n q) (j : Fin 2048) :
    N (ix3 (⟨n, hn⟩ : Fin 8) (0 : Fin 1) j)
      = emaAt (m ((c : Thread nD τ).loc main_arg0)) (m ((c : Thread nD τ).loc main_arg3)) (m ((c : Thread nD τ).loc main_arg5))
          ⟨n, hn⟩ j 511 := by
  have hq : j.val / 512 < 4 := by omega
  have h := congrFun (hN n (j.val / 512) hn hq (hK _ hq)) (ix3 (0 : Fin 1) (0 : Fin 1) (⟨j.val % 512, Nat.mod_lt _ (by decide)⟩ : Fin 512))
  have e : VecWindow.window N ![n, 0, 512 * (j.val / 512)] S1x1x512.size
      (newState_inb hn (by omega)) (ix3 (0 : Fin 1) (0 : Fin 1) (⟨j.val % 512, Nat.mod_lt _ (by decide)⟩ : Fin 512))
      = N (ix3 (⟨n, hn⟩ : Fin 8) (0 : Fin 1) j) := by
    unfold VecWindow.window
    congr 1
    funext a
    apply Fin.ext
    fin_cases a
    · show n + 1 * 0 = n; omega
    · rfl
    · show 512 * (j.val / 512) + 1 * (j.val % 512) = j.val; omega
  rw [← e, h]
  unfold lastOf lastStored
  rw [shapeCast_ab_1ab_apply, slice2_axis0_apply 511 _ _ 0 _ 511 rfl, scan_apply]
  congr 1
  apply Fin.ext
  show 512 * (j.val / 512) + j.val % 512 = j.val
  omega

end Cert.Proof
end
-- ==== Proof.Decay.lean ====
module

public import proofs.«01_k».proof.Proof.Chunks
public import proofs.«01_k».proof.Proof.KernelRead

/-!
The reference's decay: the probability of a batch's `k`-th selected token is that of position `4 k`.
-/

@[expose] public section
set_option maxRecDepth 16384
noncomputable section

namespace Cert.Proof.Ref

open Cert.ReferenceIdeal Cert.ReferenceIdeal.Gen Cert.ReferenceIdeal.Step
open Idealize.ShloMosaic hiding ix1 ix2 ix3
open Idealize.ShloMosaic.ValueIdx

variable {mask : IVec S8x2048 1} {p : FVec Ideal S8x2048 .f32} {counts : IVec S8 32} (st : FVec Ideal S8x2048 .f32)

/-- The chunk of every position. -/
theorem chunk_apply (H : Regular mask p counts) (b : Fin 8) (l : Fin 2048) :
    A_main_v3 (F := Ideal) mask p counts st (ix2 b l) = BitVec.ofNat 32 (l.val / 4) :=
  chunk_word H _ (fun _ => rfl) _ _ _ (fun _ => rfl) b l

/-- The word of a small number tells it. -/
theorem word_eq_iff {a b : ℕ} (ha : a < 2 ^ 32) (hb : b < 2 ^ 32) : BitVec.ofNat 32 a = BitVec.ofNat 32 b ↔ a = b := by
  constructor
  · intro h
    have e := congrArg BitVec.toNat h
    simpa only [BitVec.toNat_ofNat, Nat.mod_eq_of_lt ha, Nat.mod_eq_of_lt hb] using e
  · rintro rfl; rfl

/-- What the selection keeps of row `b` for chunk `k`: the one position `4 k`. -/
theorem selected_apply (H : Regular mask p counts) (b : Fin 8) (k : Fin 512) (l : Fin 2048) :
    A_main_v14 (F := Ideal) mask p counts st (ix3 b k l) = if l.val = 4 * k.val then p (ix2 b l) else 0 := by
  have e1 : A_main_v11 (F := Ideal) mask p counts st (ix3 b k l) = mask (ix2 b l) := by
    unfold A_main_v11 A_main_v4
    rw [broadcastInDim_apply _ _ _ _ (ix3 b (0 : Fin 1) l) (by intro a; fin_cases a <;> rfl),
      broadcastInDim_apply _ _ _ _ (ix2 b l) (by intro a; fin_cases a <;> rfl)]
  have e2 : A_main_v8 (F := Ideal) mask p counts st (ix3 b k l) = BitVec.ofNat 32 (l.val / 4) := by
    unfold A_main_v8 A_main_v5
    rw [broadcastInDim_apply _ _ _ _ (ix3 b (0 : Fin 1) l) (by intro a; fin_cases a <;> rfl),
      broadcastInDim_apply _ _ _ _ (ix2 b l) (by intro a; fin_cases a <;> rfl), chunk_apply st H]
  have e3 : K_main_v9 (F := Ideal) (ix3 b k l) = BitVec.ofNat 32 k.val := by
    unfold K_main_v9 K_main_v7
    rw [broadcastInDim_apply _ _ _ _ (ix3 (0 : Fin 1) k (0 : Fin 1)) (by intro a; fin_cases a <;> rfl),
      broadcastInDim_apply _ _ _ _ (ix1 k) (by intro a; fin_cases a; rfl)]
    rfl
  have e4 : A_main_call1_v1 (F := Ideal) mask p counts st (ix3 b k l) = p (ix2 b l) := by
    unfold A_main_call1_v1 A_main_v13
    rw [broadcastInDim_apply _ _ _ _ (ix3 b (0 : Fin 1) l) (by intro a; fin_cases a <;> rfl),
      broadcastInDim_apply _ _ _ _ (ix2 b l) (by intro a; fin_cases a <;> rfl)]
  have e5 : K_main_call1_v2 (F := Ideal) (ix3 b k l) = 0 := Ideal.ofBits_zero_f32
  show Scalar.select (IntOp.andi (A_main_v11 (F := Ideal) mask p counts st (ix3 b k l))
    (IntOp.cmpi .eq (A_main_v8 (F := Ideal) mask p counts st (ix3 b k l)) (K_main_v9 (F := Ideal) (ix3 b k l))))
    (A_main_call1_v1 (F := Ideal) mask p counts st (ix3 b k l)) (K_main_call1_v2 (F := Ideal) (ix3 b k l)) = _
  rw [e1, e2, e3, e4, e5, H.mask]
  by_cases h : l.val = 4 * k.val
  · rw [if_pos h, if_pos (by omega), StableHlo.Predicate.cmpi_eq_iff.mpr ((word_eq_iff (by omega) (by omega)).mpr (by omega))]
    rfl
  · rw [if_neg h]
    have hbit : IntOp.andi (if l.val % 4 = 0 then 1#1 else 0#1) (IntOp.cmpi .eq (BitVec.ofNat 32 (l.val / 4)) (BitVec.ofNat 32 k.val)) ≠ 1#1 := by
      intro hb
      obtain ⟨h1, h2⟩ := both_set _ _ hb
      have h3 := (word_eq_iff (by omega) (by omega)).mp (StableHlo.Predicate.cmpi_eq_iff.mp h2)
      have h4 : l.val % 4 = 0 := by
        by_contra hne
        rw [if_neg hne] at h1
        exact absurd h1 (by decide)
      omega
    exact if_neg hbit

/-- Every chunk is valid, -/
theorem validBit_apply (H : Regular mask p counts) (b : Fin 8) (k : Fin 512) :
    A_main_v21 (F := Ideal) mask p counts st (ix2 b k) = 1#1 := by
  have e1 : K_main_v19 (F := Ideal) (ix2 b k) = BitVec.ofNat 32 k.val := by
    unfold K_main_v19 K_main_v17
    rw [broadcastInDim_apply _ _ _ _ (ix2 (0 : Fin 1) k) (by intro a; fin_cases a <;> rfl),
      broadcastInDim_apply _ _ _ _ (ix1 k) (by intro a; fin_cases a; rfl)]
    rfl
  have e2 : A_main_v20 (F := Ideal) mask p counts st (ix2 b k) = 512#32 := by
    unfold A_main_v20 A_main_v18
    rw [broadcastInDim_apply _ _ _ _ (ix2 b (0 : Fin 1)) (by intro a; fin_cases a <;> rfl),
      broadcastInDim_apply _ _ _ _ (ix1 b) (by intro a; fin_cases a; rfl)]
    exact H.counts _
  show IntOp.cmpi .slt (K_main_v19 (F := Ideal) (ix2 b k)) (A_main_v20 (F := Ideal) mask p counts st (ix2 b k)) = 1#1
  rw [e1, e2]
  exact (StableHlo.Predicate.slt_iff_toNat (by simp; omega) (by decide)).mpr (by simp; omega)

/-- A set bit is the number one. -/
theorem uitofp_of_set {s : Shape} {v : IVec s 1} {i : s.Idx} (h : v i = 1#1) : uitofp (F := Ideal) .f32 v i = (1 : EReal) := by
  show (((v i).toNat : ℝ) : EReal) = 1
  rw [h]
  norm_num

/-- so the factor that keeps the valid chunks is one. -/
theorem valid_apply (H : Regular mask p counts) (b : Fin 8) (k : Fin 512) :
    A_main_v22 (F := Ideal) mask p counts st (ix2 b k) = 1 :=
  uitofp_of_set (validBit_apply st H b k)

/-- The decay of chunk `k`. -/
theorem decay_apply (H : Regular mask p counts) (b : Fin 8) (k : Fin 512) :
    A_main_v26 (F := Ideal) mask p counts st (ix2 b k) = clip01 (p (ix2 b (Fin.ofNat 2048 (4 * k.val)))) := by
  have e : A_main_v15 (F := Ideal) mask p counts st (ix2 b k) = p (ix2 b (Fin.ofNat 2048 (4 * k.val))) := by
    unfold A_main_v15
    rw [hostReduceAdd_apply, Ideal.hostReduceAdd_r3_a2]
    have e0 : K_main_cst_0 (F := Ideal) (Shape.Idx.first h_S_) = 0 := Ideal.ofBits_zero_f32
    rw [e0, zero_add]
    refine (Finset.sum_congr rfl fun l _ => selected_apply st H b k l).trans ?_
    rw [Finset.sum_eq_single (Fin.ofNat 2048 (4 * k.val))]
    · rw [if_pos]
      show 4 * k.val % 2048 = 4 * k.val
      omega
    · intro l _ hl
      refine if_neg fun h => hl (Fin.ext ?_)
      show l.val = 4 * k.val % 2048
      omega
    · intro h
      exact absurd (Finset.mem_univ _) h
  show min (Ideal.ofBits .f32 0x3F800000#32) (max (Ideal.ofBits .f32 0x00000000#32) (Ideal.ofBits .f32 0x3F800000#32
    - A_main_v15 (F := Ideal) mask p counts st (ix2 b k) * A_main_v22 (F := Ideal) mask p counts st (ix2 b k))) = _
  rw [e, valid_apply st H, Ideal.ofBits_one_f32, Ideal.ofBits_zero_f32, mul_one]
  rfl

end Cert.Proof.Ref
end
-- ==== Proof.RefLoop.lean ====
module

public import proofs.«01_k».proof.Proof.Gen.ReferenceIdeal.Step
public import proofs.«01_k».proof.Proof.ScanMath
public import Idealize.ShloMosaic.Lib.DynamicIndex
public import proofs.«01_k».proof.Proof.KernelRead
public import Idealize.ShloMosaic.Lib.IdealHost

/-!
The reference's loop: after `n` trips the carried state is row `n - 1` of the moving average, and the first `n` rows of the
result array hold its rows.
-/

@[expose] public section
set_option maxRecDepth 16384
noncomputable section

namespace Cert.Proof.Ref

open Cert.ReferenceIdeal Cert.ReferenceIdeal.Gen Cert.ReferenceIdeal.Step
open Idealize.ShloMosaic hiding ix2 ix3
open Idealize.ShloMosaic.ValueIdx

variable (s : State Ideal)

/-- The decay a trip reads is column `j`, -/
theorem tripDecay_apply {j : ℕ} (hj : j < 512) (b : Fin 8) : b9 j s (ix2 b 0) = s.main_v29_0 (ix2 b ⟨j, hj⟩) := by
  have h : S8x512.Slices ![0, j] S8x1 := ⟨rfl, fun a => by fin_cases a <;> simp <;> omega⟩
  have hw : ∀ a : Fin 2, ((![b8 j s, b7 j s] : Fin 2 → IVec S_ 32) a (Shape.Idx.first h_S_)).toInt = ((![0, j] : Fin 2 → ℕ) a : ℤ) := by
    intro a
    fin_cases a
    · rfl
    · exact toInt_wrap_ofNat j (by omega)
  have e : b9 j s = extractStridedSlice S8x1 ![0, j] s.main_v29_0 h := by
    unfold b9
    exact Host.dynamicSlice_eq_extractStridedSlice (s := S8x512) S8x1 s.main_v29_0 _ ![0, j] _ h hw
  rw [e]
  exact slice2_axis1_apply j _ h b 0 ⟨j, hj⟩ rfl

/-- and the input it reads is row `j`. -/
theorem tripInput_apply {j : ℕ} (hj : j < 512) (b : Fin 8) (d : Fin 2048) :
    b19 j s (ix3 b 0 d) = s.main_v29_1 (ix3 b ⟨j, hj⟩ d) := by
  have h : S8x512x2048.Slices ![0, j, 0] S8x1x2048 := ⟨rfl, fun a => by fin_cases a <;> simp <;> omega⟩
  have hw : ∀ a : Fin 3, ((![b17 j s, b16 j s, b18 j s] : Fin 3 → IVec S_ 32) a (Shape.Idx.first h_S_)).toInt = ((![0, j, 0] : Fin 3 → ℕ) a : ℤ) := by
    intro a
    fin_cases a
    · rfl
    · exact toInt_wrap_ofNat j (by omega)
    · rfl
  have e : b19 j s = extractStridedSlice S8x1x2048 ![0, j, 0] s.main_v29_1 h := by
    unfold b19
    exact Host.dynamicSlice_eq_extractStridedSlice (s := S8x512x2048) S8x1x2048 s.main_v29_1 _ ![0, j, 0] _ h hw
  rw [e]
  refine extractStridedSlice_apply _ _ h _ (ix3 b ⟨j, hj⟩ d) fun a => ?_
  fin_cases a
  · show b.val = 0 + b.val; omega
  · rfl
  · show d.val = 0 + d.val; omega

/-- The state a trip computes. -/
theorem tripState_apply {j : ℕ} (hj : j < 512) (b : Fin 8) (d : Fin 2048) :
    b27 j s (ix3 b 0 d) = s.main_v29_0 (ix2 b ⟨j, hj⟩) * s.main_v29_4 (ix3 b 0 d)
      + (1 - s.main_v29_0 (ix2 b ⟨j, hj⟩)) * s.main_v29_1 (ix3 b ⟨j, hj⟩ d) := by
  have e10 : b10 j s (ix3 b 0 0) = s.main_v29_0 (ix2 b ⟨j, hj⟩) := by
    unfold b10
    rw [broadcastInDim_apply _ _ _ _ (ix2 b (0 : Fin 1)) (by intro a; fin_cases a <;> rfl), tripDecay_apply s hj]
  have e20 : b20 j s (ix3 b 0 d) = s.main_v29_0 (ix2 b ⟨j, hj⟩) := by
    unfold b20
    rw [broadcastInDim_apply _ _ _ _ (ix3 b (0 : Fin 1) (0 : Fin 1)) (by intro a; fin_cases a <;> rfl), e10]
  have e25 : b25 j s (ix3 b 0 d) = 1 - s.main_v29_0 (ix2 b ⟨j, hj⟩) := by
    unfold b25
    rw [broadcastInDim_apply _ _ _ _ (ix3 b (0 : Fin 1) (0 : Fin 1)) (by intro a; fin_cases a <;> rfl)]
    show Ideal.ofBits .f32 0x3F800000#32 - b10 j s (ix3 b 0 0) = _
    rw [Ideal.ofBits_one_f32, e10]
  show b20 j s (ix3 b 0 d) * s.main_v29_4 (ix3 b 0 d) + b25 j s (ix3 b 0 d) * b19 j s (ix3 b 0 d) = _
  rw [e20, e25, tripInput_apply s hj]

/-- The result array a trip leaves: its row `j` is the trip's state, the others stay. -/
theorem tripRows_apply {j : ℕ} (hj : j < 512) (b : Fin 8) (k : Fin 512) (d : Fin 2048) :
    b36 j s (ix3 b k d) = if k.val = j then b27 j s (ix3 b 0 d) else s.main_v29_5 (ix3 b k d) := by
  have h : S8x512x2048.Slices ![0, j, 0] S8x1x2048 := ⟨rfl, fun a => by fin_cases a <;> simp <;> omega⟩
  have hw : ∀ a : Fin 3, ((![b34 j s, b33 j s, b35 j s] : Fin 3 → IVec S_ 32) a (Shape.Idx.first h_S_)).toInt = ((![0, j, 0] : Fin 3 → ℕ) a : ℤ) := by
    intro a
    fin_cases a
    · rfl
    · exact toInt_wrap_ofNat j (by omega)
    · rfl
  have hadj : ∀ a : Fin 3, (min (max ((![b34 j s, b33 j s, b35 j s] : Fin 3 → IVec S_ 32) a (Shape.Idx.first h_S_)).toInt 0)
      ((S8x512x2048.size a - S8x1x2048.size a : ℕ) : ℤ)).toNat = (![0, j, 0] : Fin 3 → ℕ) a := by
    intro a
    have := h.2 a
    change (![0, j, 0] : Fin 3 → ℕ) a + S8x1x2048.size a ≤ S8x512x2048.size a at this
    rw [hw a]
    omega
  have e : b36 j s = updateSlice s.main_v29_5 (b27 j s) ![0, j, 0] h := by
    unfold b36
    exact Host.dynamicUpdateSlice_eq_updateSlice (s := S8x512x2048) (u := S8x1x2048) s.main_v29_5 (b27 j s) _ _ ![0, j, 0] hadj h
  rw [e]
  unfold updateSlice
  by_cases hk : k.val = j
  · rw [if_pos hk, dif_pos]
    · refine congrArg (b27 j s) (funext fun a => Fin.ext ?_)
      fin_cases a
      · rfl
      · show k.val - j = 0; omega
      · rfl
    · intro a
      fin_cases a
      · show 0 ≤ b.val ∧ b.val < 0 + 8; omega
      · show j ≤ k.val ∧ k.val < j + 1; omega
      · show 0 ≤ d.val ∧ d.val < 0 + 2048; omega
  · rw [if_neg hk, dif_neg]
    intro hin
    have h1 : j ≤ k.val ∧ k.val < j + 1 := hin 1
    omega

variable (x : FVec Ideal S8x512x2048 .f32) (mask : IVec S8x2048 1) (p : FVec Ideal S8x2048 .f32) (counts : IVec S8 32)
  (st : FVec Ideal S8x2048 .f32)

/-- The states of the loop. -/
def refIter : ℕ → State Ideal
  | 0 => init x mask p counts st
  | n + 1 => step n (refIter n)

/-- The decay and the input stay. -/
theorem refIter_const (n : ℕ) : (refIter x mask p counts st n).main_v29_0 = A_main_v26 mask p counts st
    ∧ (refIter x mask p counts st n).main_v29_1 = x := by
  induction n with
  | zero => exact ⟨rfl, rfl⟩
  | succ n ih => exact ih

/-- Row `n` of the moving average of batch `b` and column `d`, by the decays that the reference computes. -/
abbrev refEma (b : Fin 8) (d : Fin 2048) : ℕ → EReal :=
  ema (fun n => A_main_v26 (F := Ideal) mask p counts st (ix2 b (Fin.ofNat 512 n))) (fun n => x (ix3 b (Fin.ofNat 512 n) d)) (st (ix2 b d))

/-- The carried state before trip `n + 1` is row `n`. -/
theorem refIter_state (b : Fin 8) (d : Fin 2048) {n : ℕ} (hn : n < 512) :
    (refIter x mask p counts st (n + 1)).main_v29_4 (ix3 b 0 d) = refEma x mask p counts st b d n := by
  have hof : ∀ {k : ℕ} (hk : k < 512), (⟨k, hk⟩ : Fin 512) = Fin.ofNat 512 k := fun hk => Fin.ext (Nat.mod_eq_of_lt hk).symm
  induction n with
  | zero =>
    show b27 0 (refIter x mask p counts st 0) (ix3 b 0 d) = _
    rw [tripState_apply _ hn, (refIter_const x mask p counts st 0).1, (refIter_const x mask p counts st 0).2, hof hn]
    have e : (refIter x mask p counts st 0).main_v29_4 (ix3 b 0 d) = st (ix2 b d) := by
      show A_main_v27 (F := Ideal) mask p counts st (ix3 b 0 d) = _
      unfold A_main_v27
      rw [broadcastInDim_apply _ _ _ _ (ix2 b d) (by intro a; fin_cases a <;> rfl)]
    rw [e]
    rfl
  | succ n ih =>
    show b27 (n + 1) (refIter x mask p counts st (n + 1)) (ix3 b 0 d) = _
    rw [tripState_apply _ hn, (refIter_const x mask p counts st (n + 1)).1, (refIter_const x mask p counts st (n + 1)).2, hof hn,
      ih (by omega)]
    rfl

/-- The rows written so far. -/
theorem refIter_rows (b : Fin 8) (d : Fin 2048) (k : Fin 512) {n : ℕ} (hn : n ≤ 512) (hk : k.val < n) :
    (refIter x mask p counts st n).main_v29_5 (ix3 b k d) = refEma x mask p counts st b d k.val := by
  induction n with
  | zero => omega
  | succ n ih =>
    show b36 n (refIter x mask p counts st n) (ix3 b k d) = _
    rw [tripRows_apply _ (by omega)]
    by_cases h : k.val = n
    · rw [if_pos h, h]
      exact refIter_state x mask p counts st b d (by omega)
    · rw [if_neg h, ih (by omega) (by omega)]

end Cert.Proof.Ref
end
-- ==== Proof.Rows.lean ====
module

public import Idealize.ShloMosaic.Lib.ValueIdxCore

/-!
A gather that takes, for every batch and position, a whole row of that batch.
-/

@[expose] public section
noncomputable section

namespace Cert.Proof.Ref

open Idealize.ShloMosaic
open Idealize.ShloMosaic.ValueIdx

/-- The dimension numbers of such a gather: batches `B`, rows `N` of `C` columns, `n` positions a batch. -/
abbrev rowsOf (B N C n : ℕ)
    (wf : GatherDims.WF ⟨3, ![B, N, C]⟩ ⟨3, ![B, n, 1]⟩ ⟨3, ![B, n, C]⟩ [2] [1] [0] [1] [0] 2 ![1, 1, C]) :
    GatherDims ⟨3, ![B, N, C]⟩ ⟨3, ![B, n, 1]⟩ ⟨3, ![B, n, C]⟩ where
  offsetDims := [2]
  collapsedSliceDims := [1]
  operandBatchingDims := [0]
  startIndicesBatchingDims := [0]
  startIndexMap := [1]
  indexVectorDim := 2
  sliceSizes := ![1, 1, C]
  wf := wf

/-- Where the index at batch `b` and position `l` is the word of a row's number, the gather reads that row. -/
theorem gather_row {α : Type} {B N C n : ℕ}
    (wf : GatherDims.WF ⟨3, ![B, N, C]⟩ ⟨3, ![B, n, 1]⟩ ⟨3, ![B, n, C]⟩ [2] [1] [0] [1] [0] 2 ![1, 1, C])
    (x : (⟨3, ![B, N, C]⟩ : Shape).Idx → α) (idx : IVec ⟨3, ![B, n, 1]⟩ 32) (b : Fin B) (l : Fin n) (d : Fin C) (k : Fin N)
    (hk : (idx (ix3 b l 0)).toInt = (k.val : ℤ)) :
    Host.gather (rowsOf B N C n wf) x idx (ix3 b l d) = x (ix3 b k d) := by
  unfold Host.gather
  congr 1
  funext a
  refine Fin.ext ?_
  show (rowsOf B N C n wf).start (ix3 b l d) idx a + (rowsOf B N C n wf).batchCoord (ix3 b l d) a
      + (rowsOf B N C n wf).offCoord (ix3 b l d) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 3) ∈ (rowsOf B N C n wf).operandBatchingDims from List.mem_singleton.mpr rfl)]
    simp only [Nat.zero_add, Nat.add_zero]
    rfl
  · rw [GatherDims.batchCoord_eq_zero _ _ _ (fun h => absurd (List.mem_singleton.mp h) (by simp)),
      GatherDims.offCoord_eq_zero _ _ _ (fun h => ((GatherDims.mem_sKept _ _).mp h).1 (List.mem_singleton.mpr rfl))]
    unfold GatherDims.start
    rw [dif_pos (show (1 : Fin 3) ∈ (rowsOf B N C n wf).startIndexMap from List.mem_singleton.mpr rfl)]
    have hsi : (rowsOf B N C n wf).siIdx (ix3 b l d) ⟨List.idxOf (1 : Fin 3) (rowsOf B N C n wf).startIndexMap,
        List.idxOf_lt_length_iff.2 (List.mem_singleton.mpr rfl)⟩ = ix3 b l 0 := by
      funext e; refine Fin.ext ?_
      match e with
      | ⟨0, _⟩ => rfl
      | ⟨1, _⟩ => rfl
      | ⟨2, _⟩ => rfl
    refine (congrArg (fun j => min (idx j).toInt.toNat (N - 1)) hsi).trans ?_
    show min (idx (ix3 b l 0)).toInt.toNat (N - 1) = k.val
    rw [hk]
    have := k.isLt
    omega
  · rw [GatherDims.batchCoord_eq_zero _ _ _ (fun h => absurd (List.mem_singleton.mp h) (by simp))]
    unfold GatherDims.start
    rw [dif_neg (fun h => absurd (List.mem_singleton.mp h) (by simp))]
    unfold GatherDims.offCoord
    rw [dif_pos ((GatherDims.mem_sKept _ _).mpr ⟨fun h => absurd (List.mem_singleton.mp h) (by simp), fun h => absurd (List.mem_singleton.mp h) (by simp)⟩)]
    simp only [Nat.zero_add, Nat.add_zero]
    rfl

end Cert.Proof.Ref
end
-- ==== Proof.KernelValue.lean ====
module

public import proofs.«01_k».proof.Proof.KernelRead
public import proofs.«01_k».proof.Proof.Frames

/-!
What the kernel's two result arrays hold after the run.
-/

@[expose] public section
set_option maxRecDepth 16384
noncomputable section

namespace Cert.Proof

open Cert.KernelIdeal Cert.KernelIdeal.Gen
open Idealize.ShloMosaic hiding ix2 ix3
open Idealize.ShloMosaic.TcCoe Idealize.ShloMosaic.Tactic Idealize.ShloMosaic.ValueIdx
open Idealize.SL Idealize.SL.Sem
open Idealize.ShloMosaic.Pipeline (RDat Dat)

/-- The first result: every residual row plus the moving average of its chunk of four rows. -/
def outSpec (h : FVec Ideal S8x512x2048 .f32) (R : FVec Ideal S8x2048x2048 .f32) (p s : FVec Ideal S8x2048 .f32) :
    FVec Ideal S8x2048x2048 .f32 :=
  fun i => R i + emaAt h p s (i 0) (i 2) ((i 1).val / 4)

/-- The second result: the last row of the moving average. -/
def newStateSpec (h : FVec Ideal S8x512x2048 .f32) (p s : FVec Ideal S8x2048 .f32) : FVec Ideal S8x1x2048 .f32 :=
  fun i => emaAt h p s (i 0) (i 2) 511

variable (m : (ℓ : Loc nD τ sig) → Buf (Elt Ideal) ℓ) (ρ : Dev nD → PrngReg)

/-- The first result on core `c`, from the arguments' contents. -/
abbrev outAtEnd (c : Dev nD) : FVec Ideal S8x2048x2048 .f32 :=
  outSpec (m ((c : Thread nD τ).loc main_arg0)) (m ((c : Thread nD τ).loc main_arg1)) (m ((c : Thread nD τ).loc main_arg3))
    (m ((c : Thread nD τ).loc main_arg5))

/-- The second result on core `c`, from the arguments' contents. -/
abbrev newStateAtEnd (c : Dev nD) : FVec Ideal S8x1x2048 .f32 :=
  newStateSpec (m ((c : Thread nD τ).loc main_arg0)) (m ((c : Thread nD τ).loc main_arg3)) (m ((c : Thread nD τ).loc main_arg5))

/-- A block that a point leaves in the output's buffer holds that block of the first result. -/
theorem outAt_apply (c : Dev nD) {t : ℕ} (ht : t < 32) {X : Vec Ideal S1x512x2048 .f32} (h : OutAt m c t X)
    (y : S1x512x2048.Idx) : X y = outAtEnd m c (ix3 (⟨t / 4, by omega⟩ : Fin 8)
      (⟨t % 4 * 512 + (y 1).val, by have : (y 1).val < 512 := (y 1).isLt; omega⟩ : Fin 2048) (y 2)) := by
  obtain ⟨r, d, rfl⟩ : ∃ (r : Fin 512) (d : Fin 2048), y = ix3 (0 : Fin 1) r d := by
    refine ⟨y 1, y 2, funext fun a => ?_⟩
    fin_cases a
    · exact Subsingleton.elim (α := Fin 1) _ _
    · rfl
    · rfl
  show X (ix3 0 r d) = outAtEnd m c (ix3 (⟨t / 4, by omega⟩ : Fin 8) (⟨t % 4 * 512 + r.val, by omega⟩ : Fin 2048) d)
  obtain ⟨D, hD, rfl⟩ := h
  unfold outOf
  rw [repeat_apply]
  refine congrArg₂ (· + ·) ?_ ?_
  · show V m c main_arg1 _ = m ((c : Thread nD τ).loc main_arg1) _
    rw [V_main_arg1]
    congr 1
    funext a
    apply Fin.ext
    fin_cases a
    · exact Nat.mod_eq_of_lt (by omega)
    · rfl
    · rfl
  · show _ = emaAt _ _ _ _ _ ((t % 4 * 512 + r.val) / 4)
    rw [show (t % 4 * 512 + r.val) / 4 = t % 4 * 128 + r.val / 4 by omega]
    refine Eq.trans ?_ (scratch_apply m c hD (by omega) (fun q hq => live_current hq) (⟨t % 4 * 128 + r.val / 4, by omega⟩ : Fin 512) d)
    unfold VecWindow.window
    congr 1
    funext a
    apply Fin.ext
    fin_cases a
    · show t / 4 % 2 + 1 * 0 = t / 4 % 2; omega
    · show 128 * (t % 4) + 1 * (r.val / 4) = t % 4 * 128 + r.val / 4; omega
    · show 0 + 1 * d.val = d.val; omega

/-- Contents that the last point leaves in the new state's buffer are the second result. -/
theorem newStateAt_eq (c : Dev nD) {N : Vec Ideal S8x1x2048 .f32} (h : NewStateAt m c 32 N) : N = newStateAtEnd m c := by
  funext i
  have e : i = ix3 (i 0) (0 : Fin 1) (i 2) := by
    funext a
    fin_cases a
    · rfl
    · exact Subsingleton.elim (α := Fin 1) _ _
    · rfl
  rw [e]
  exact newState_apply m c h (i 0).isLt (fun q hq => done_all (i 0).isLt hq) (i 2)

set_option maxHeartbeats 1600000 in
/-- After the run, the two result arrays. -/
theorem results_of_post {r : PUnit × MemSt nD τ sig (Elt Ideal)} (h : Pipeline.RDat.FramePost (cfgs 0) (rdat m) (V m) r) (c : Dev nD) :
    r.2.mem ((c : Thread nD τ).loc main_v2_0) = outAtEnd m c ∧ r.2.mem ((c : Thread nD τ).loc main_v2_1) = newStateAtEnd m c := by
  obtain ⟨after, hL, hA⟩ := Pipeline.RDat.FramePost.exists_exact h c
  constructor
  · refine (hA 5).trans (((rdat m c).withAfter after).arrAt_eq_of_covers 5 _ (by decide +kernel) fun t hf y => ?_)
    obtain ⟨Y, -, hX⟩ := hL 5 t hf
    have h32 : t.val < 32 := lt_of_lt_of_eq t.isLt (show cfg0.N = 32 from N_0)
    dsimp only [rdat] at hX
    blk_simp
    refine (outAt_apply m c h32 hX y).trans ?_
    blk_ext [idx t]
  · refine (hA 6).trans (((rdat m c).withAfter after).arrAt_eq_of_covers 6 _ (by decide +kernel) fun t hf y => ?_)
    obtain ⟨Y, -, hX⟩ := hL 6 t hf
    have h31 : t.val % 32 = 31 := (flush0_6 t).mp hf
    have h32 : t.val < 32 := lt_of_lt_of_eq t.isLt (show cfg0.N = 32 from N_0)
    dsimp only [rdat] at hX
    rw [show t.val + 1 = 32 by omega] at hX
    blk_simp
    rw [RDat.withAfter_after, newStateAt_eq m c hX]
    blk_ext [idx t]

/-- The kernel's run with its results. -/
theorem kernel_value : θ_run defs (onTc (τ := τ) (main (F := Ideal))) ⟨m, fun _ => 0, ρ⟩
    (fun r => ∀ c : Dev nD, r.2.mem ((c : Thread nD τ).loc main_v2_0) = outAtEnd m c
      ∧ r.2.mem ((c : Thread nD τ).loc main_v2_1) = newStateAtEnd m c ∧ ArgsKept m r c) :=
  (θ_run defs _ _).mono (fun _ h c => ⟨(results_of_post m h.1 c).1, (results_of_post m h.1 c).2, args_kept m h.1 c⟩) (run_main m ρ)

end Cert.Proof
end
-- ==== Proof.RefEnd.lean ====
module

public import proofs.«01_k».proof.Proof.Decay
public import proofs.«01_k».proof.Proof.RefLoop
public import proofs.«01_k».proof.Proof.Rows
public import proofs.«01_k».proof.Proof.KernelValue
public import Idealize.ShloMosaic.Lib.Routing.OpsSearch

/-!
The reference's two results, where every fourth position is selected: the arrays that the kernel leaves.
-/

@[expose] public section
set_option maxRecDepth 16384
noncomputable section

namespace Cert.Proof.Ref

open Cert.ReferenceIdeal Cert.ReferenceIdeal.Gen Cert.ReferenceIdeal.Step
open Idealize.ShloMosaic hiding ix1 ix2 ix3
open Idealize.ShloMosaic.ValueIdx

variable {x : FVec Ideal S8x512x2048 .f32} (R : FVec Ideal S8x2048x2048 .f32) {mask : IVec S8x2048 1} {p : FVec Ideal S8x2048 .f32}
  {counts : IVec S8 32} {st : FVec Ideal S8x2048 .f32}

/-- The rows that the loop leaves are those of the moving average. -/
theorem rows_apply (H : Regular mask p counts) (b : Fin 8) (k : Fin 512) (d : Fin 2048) :
    (refIter x mask p counts st 512).main_v29_5 (ix3 b k d) = emaAt x p st b d k.val := by
  rw [refIter_rows x mask p counts st b d k (Nat.le_refl _) k.isLt]
  refine ema_congr _ (fun n hn => ?_) (fun _ _ => rfl) rfl
  rw [decay_apply st H]
  have e : (Fin.ofNat 512 n).val = n := Nat.mod_eq_of_lt (by omega)
  rw [e]

/-- Clipping the word of a chunk's number to the chunks leaves it. -/
theorem clip_apply {s : Shape} {hi lo w : IVec s 32} {i : s.Idx} {n : ℕ} (hhi : hi i = 511#32) (hlo : lo i = 0#32)
    (hw : w i = BitVec.ofNat 32 n) (hn : n < 512) : (minsi hi (maxsi lo w) i).toInt = (n : ℤ) := by
  show (IntOp.minsi (hi i) (IntOp.maxsi (lo i) (w i))).toInt = _
  rw [hhi, hlo, hw]
  refine (congrArg BitVec.toInt (Routing.clip_word (x := n) (lo := 0) (hi := 511) (by omega) (by omega) (by omega))).trans ?_
  rw [show min (max n 0) 511 = n by omega]
  exact toInt_ofNat_of_lt (by omega)

/-- The straight-through coefficient of a finite probability is one. -/
theorem coefficient {q : EReal} (h1 : ⊥ < q) (h2 : q < ⊤) : max (1 - q) q - max (1 - q) q + 1 = 1 := by
  induction q with
  | bot => exact absurd h1 (lt_irrefl _)
  | top => exact absurd h2 (lt_irrefl _)
  | coe r =>
    have e : max (1 - (r : EReal)) r = ((max (1 - r) r : ℝ) : EReal) := by
      rw [EReal.coe_strictMono.monotone.map_max]
      norm_cast
    rw [e, ← EReal.coe_sub, sub_self]
    exact zero_add 1

/-- Two factors that are one leave a product as it is. -/
theorem mul_ones {s : Shape} {A V C : FVec Ideal s .f32} {i : s.Idx} (hV : V i = (1 : EReal)) (hC : C i = (1 : EReal)) :
    mulf (mulf A V) C i = A i := by
  show (A i : EReal) * V i * C i = A i
  rw [hV, hC, mul_one, mul_one]

/-- One such factor. -/
theorem mul_one_at {s : Shape} {A V : FVec Ideal s .f32} {i : s.Idx} (hV : V i = (1 : EReal)) : mulf A V i = A i := by
  show (A i : EReal) * V i = A i
  rw [hV, mul_one]

/-- The first result. -/
theorem output_eq (H : Regular mask p counts) :
    R_main_v62 (refIter x mask p counts st 512) R mask p counts = outSpec x R p st := by
  funext i
  obtain ⟨b, l, d, rfl⟩ : ∃ (b : Fin 8) (l d : Fin 2048), i = ix3 b l d := ⟨i 0, i 1, i 2, by
    funext a; fin_cases a <;> rfl⟩
  have hchunk : A_main_v3 (F := Ideal) mask p counts st (ix2 b l) = BitVec.ofNat 32 (l.val / 4) := chunk_apply st H b l
  unfold R_main_v62
  refine congrArg ((R (ix3 b l d) : EReal) + ·) ?_
  refine (mul_ones ?_ ?_).trans ?_
  · rw [broadcastInDim_apply _ _ _ _ (ix3 b l (0 : Fin 1)) (by intro a; fin_cases a <;> rfl)]
    refine uitofp_of_set ?_
    rw [broadcastInDim_apply _ _ _ _ (ix2 b l) (by intro a; fin_cases a <;> rfl)]
    refine (congrArg (fun w => IntOp.cmpi .sge w 0#32) hchunk).trans ?_
    exact (StableHlo.Predicate.sge_iff_toNat (by simp; omega) (by decide)).mpr (Nat.zero_le _)
  · rw [broadcastInDim_apply _ _ _ _ (ix3 b l (0 : Fin 1)) (by intro a; fin_cases a <;> rfl),
      broadcastInDim_apply _ _ _ _ (ix2 b l) (by intro a; fin_cases a <;> rfl)]
    show max (Ideal.ofBits .f32 0x3F800000#32 - p (ix2 b l)) (p (ix2 b l)) - max (Ideal.ofBits .f32 0x3F800000#32 - p (ix2 b l)) (p (ix2 b l))
      + Ideal.ofBits .f32 0x3F800000#32 = 1
    rw [Ideal.ofBits_one_f32]
    exact coefficient (H.finite b l).1 (H.finite b l).2
  · refine (gather_row (B := 8) (N := 512) (C := 2048) (n := 2048) _ _ _ b l d ⟨l.val / 4, by omega⟩ ?_).trans ?_
    · rw [broadcastInDim_apply _ _ _ _ (ix2 b l) (by intro a; fin_cases a <;> rfl)]
      exact clip_apply rfl rfl hchunk (by omega)
    · refine (mul_one_at ?_).trans (rows_apply H b _ d)
      rw [broadcastInDim_apply _ _ _ _ (ix3 b (⟨l.val / 4, by omega⟩ : Fin 512) (0 : Fin 1)) (by intro a; fin_cases a <;> rfl)]
      refine uitofp_of_set ?_
      rw [broadcastInDim_apply _ _ _ _ (ix2 b (⟨l.val / 4, by omega⟩ : Fin 512)) (by intro a; fin_cases a <;> rfl)]
      exact validBit_apply st H b _

/-- The second result. -/
theorem newState_eq (H : Regular mask p counts) :
    R_main_v73 (refIter x mask p counts st 512) counts st = newStateSpec x p st := by
  funext i
  obtain ⟨b, d, rfl⟩ : ∃ (b : Fin 8) (d : Fin 2048), i = ix3 b (0 : Fin 1) d := ⟨i 0, i 2, by
    funext a
    fin_cases a
    · rfl
    · exact Subsingleton.elim (α := Fin 1) _ _
    · rfl⟩
  unfold R_main_v73
  rw [broadcastInDim_apply _ _ _ _ (ix2 b d) (by intro a; fin_cases a <;> rfl)]
  have hcond : broadcastInDim S8x2048 ![0, 1] bcast_S8x1_S8x2048_0_1 (broadcastInDim S8x1 ![0] bcast_S8_S8x1_0
      (cmpi .sgt counts (broadcastInDim S8 ![] bcast_S_S8 (constantI S_ 32 0#32)))) (ix2 b d) = 1#1 := by
    rw [broadcastInDim_apply _ _ _ _ (ix2 b (0 : Fin 1)) (by intro a; fin_cases a <;> rfl),
      broadcastInDim_apply _ _ _ _ (ix1 b) (by intro a; fin_cases a; rfl)]
    refine (congrArg (fun w => IntOp.cmpi .sgt w 0#32) (H.counts (ix1 b))).trans ?_
    decide
  refine (if_pos hcond).trans ?_
  rw [shapeCast_apply (s := S8x1x2048) (t := S8x2048) _ _ (ix2 b d) (ix3 b (0 : Fin 1) d) (by
    rw [Shape.rowMajor_val_two, Shape.rowMajor_val_three]
    show (b.val * 1 + 0) * 2048 + d.val = b.val * 2048 + d.val
    omega)]
  refine (gather_row (B := 8) (N := 512) (C := 2048) (n := 1) _ _ _ b 0 d ⟨511, by omega⟩ ?_).trans ?_
  · rw [broadcastInDim_apply _ _ _ _ (ix1 b) (by intro a; fin_cases a; rfl)]
    refine clip_apply (n := 511) rfl rfl ?_ (by omega)
    refine (congrArg (fun w => IntOp.subi w 1#32) (H.counts (ix1 b))).trans ?_
    decide
  · refine (mul_one_at ?_).trans (rows_apply H b _ d)
    rw [broadcastInDim_apply _ _ _ _ (ix3 b (⟨511, by omega⟩ : Fin 512) (0 : Fin 1)) (by intro a; fin_cases a <;> rfl)]
    refine uitofp_of_set ?_
    rw [broadcastInDim_apply _ _ _ _ (ix2 b (⟨511, by omega⟩ : Fin 512)) (by intro a; fin_cases a <;> rfl)]
    exact validBit_apply st H b _

end Cert.Proof.Ref
end
-- ==== Proof.Equal.lean ====
module

public import proofs.«01_k».proof.Defs
public import proofs.«01_k».proof.Proof.RefFrame
public import proofs.«01_k».proof.Proof.RefEnd

/-!
The value claim: kernel and reference, from equal arguments of which the precondition holds, end with equal results.
-/

@[expose] public section
set_option maxRecDepth 16384
noncomputable section

namespace Cert.Proof

open Cert.ReferenceIdeal Cert.ReferenceIdeal.Gen
open Idealize.ShloMosaic Idealize.ShloMosaic.TcCoe
open Idealize.SL Idealize.SL.Sem

/-- The states of the reference's loop on core `c`. -/
abbrev iterOf (m : (ℓ : Loc nD τ sig) → Buf (Elt Ideal) ℓ) (c : Dev nD) : ℕ → Step.State Ideal :=
  Ref.refIter (m ((c.tc : Thread nD τ).loc main_arg0)) (m ((c.tc : Thread nD τ).loc main_arg2))
    (m ((c.tc : Thread nD τ).loc main_arg3)) (m ((c.tc : Thread nD τ).loc main_arg4)) (m ((c.tc : Thread nD τ).loc main_arg5))

/-- On every core the precondition gives the regular selection. -/
theorem regular_on (m : (ℓ : Loc Cert.KernelIdeal.nD Cert.KernelIdeal.τ Cert.KernelIdeal.sig) → Buf (Elt Ideal) ℓ)
    (h : Cert.Pre_KernelIdeal_regular_chunks (hPre_regular_chunks := chunksFacts) m) (c : Dev Cert.KernelIdeal.nD) :
    Ref.Regular (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) :=
  Ref.regular_of_pre _ _ _ _ _ _ (h c)

/-- The value claim. -/
theorem values_equal : Cert.algebraic_KernelIdeal_ReferenceIdeal_pre_regular_chunks (hKernelIdeal := Cert.KernelIdeal.Gen.facts)
    (hReferenceIdeal := Cert.ReferenceIdeal.Gen.facts) (hPre_regular_chunks := chunksFacts) := by
  intro m g m' g' hpre hargs
  refine ⟨outAtEnd m, newStateAtEnd m, kernel_value m g, ?_⟩
  refine (θ_run defs _ _).mono (fun r h c => ?_) (RefSteps.run_iter m' g' (iterOf m') (fun _ => rfl) (fun _ _ => rfl))
  obtain ⟨h0, h1, hk⟩ := h c
  obtain ⟨e0, e1, e2, e3, e4, e5⟩ := hargs c
  have H := regular_on m hpre c
  refine ⟨h0.trans ?_, h1.trans ?_, hk⟩
  · unfold iterOf
    rw [e0, e1, e2, e3, e4, e5]
    exact Ref.output_eq _ H
  · unfold iterOf
    rw [e0, e2, e3, e4, e5]
    exact Ref.newState_eq H

end Cert.Proof
end
-- ==== Proof.lean ====
/-
The proof of `Cert.Claim`: the kernel at the machine's words and over the extended reals, and the reference, run to their ends,
leave their arguments as they were and every semaphore counter at zero; the ideal kernel is the kernel; and where every
fourth position is selected kernel and reference compute the same two results.
-/
module

public import proofs.«01_k».proof.Proof.Equal

@[expose] public section

noncomputable section

namespace Cert.Proof

/-- Everything this certificate claims. -/
theorem claim : Cert.Claim :=
  ⟨Cert.Kernel.Gen.facts, Cert.KernelIdeal.Gen.facts, Cert.ReferenceIdeal.Gen.facts, chunksFacts,
    fun m g _ => kernel_frame_bits m g, fun m g _ => kernel_frame m g, fun m g _ => kernel_frame m g,
    fun m g _ => reference_frame m g, fun m g _ => reference_frame m g, trivial, values_equal⟩

end Cert.Proof

end
